-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8)
      ∧ r.2.mem ((c.tc : Thread Cert.Kernel5.nD Cert.Kernel5.τ).loc Cert.Kernel5.main_arg9) = m ((c.tc : Thread Cert.Kernel5.nD Cert.Kernel5.τ).loc Cert.Kernel5.main_arg9))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
      ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8)
      ∧ r.2.mem ((c.tc : Thread Cert.Reference5Ideal.nD Cert.Reference5Ideal.τ).loc Cert.Reference5Ideal.main_arg9) = m ((c.tc : Thread Cert.Reference5Ideal.nD Cert.Reference5Ideal.τ).loc Cert.Reference5Ideal.main_arg9))
      ∧ r.2.sem = fun _ => 0)

def preserves_Kernel_KernelIdeal : Prop :=
  True

def algebraic_KernelIdeal_ReferenceIdeal_on_rows_used [hKernelIdeal : Cert.KernelIdeal.Facts] [hReferenceIdeal : Cert.ReferenceIdeal.Facts] [hPre_in_range : Cert.Pre_in_range.Facts] [hOn_rows_used : Cert.On_rows_used.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![196608, 2048]⟩ : Shape).Idx, (Cert.On_rows_used.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) i = 1#1 → r.2.mem ((c.tc : Thread Cert.KernelIdeal.nD Cert.KernelIdeal.τ).loc Cert.KernelIdeal.main_v0) i = v0 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨2, ![196608, 2048]⟩ : Shape).Idx, (Cert.On_rows_used.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) i = 1#1 → r.2.mem ((c.tc : Thread Cert.ReferenceIdeal.nD Cert.ReferenceIdeal.τ).loc Cert.ReferenceIdeal.main_v27) i = v0 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  IdealRules.named_const.Statement Cert.Kernel2Ideal.κ "inv_sqrt_d" .f32 0x3DB504F3#32 (((Real.sqrt 128)⁻¹ : ℝ) : EReal)

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v21)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v21) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v81) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal_on_finite_logits [hKernel3Ideal : Cert.Kernel3Ideal.Facts] [hReference3Ideal : Cert.Reference3Ideal.Facts] [hOn_finite_logits : Cert.On_finite_logits.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)) →
    ∃ (v0 : (c : Dev Cert.Kernel3Ideal.nD) → Buf (Elt Ideal) ((c.tc : Thread Cert.Kernel3Ideal.nD Cert.Kernel3Ideal.τ).loc Cert.Kernel3Ideal.main_v7_0)) (v1 : (c : Dev Cert.Kernel3Ideal.nD) → Buf (Elt Ideal) ((c.tc : Thread Cert.Kernel3Ideal.nD Cert.Kernel3Ideal.τ).loc Cert.Kernel3Ideal.main_v7_1)) (v2 : (c : Dev Cert.Kernel3Ideal.nD) → Buf (Elt Ideal) ((c.tc : Thread Cert.Kernel3Ideal.nD Cert.Kernel3Ideal.τ).loc Cert.Kernel3Ideal.main_v7_2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          (∀ i : (⟨2, ![16384, 2048]⟩ : Shape).Idx, (Cert.On_finite_logits.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7))).1 i = 1#1 → r.2.mem ((c.tc : Thread Cert.Kernel3Ideal.nD Cert.Kernel3Ideal.τ).loc Cert.Kernel3Ideal.main_v7_0) i = v0 c i)
          ∧ (∀ i : (⟨2, ![16384, 2048]⟩ : Shape).Idx, (Cert.On_finite_logits.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7))).2.1 i = 1#1 → r.2.mem ((c.tc : Thread Cert.Kernel3Ideal.nD Cert.Kernel3Ideal.τ).loc Cert.Kernel3Ideal.main_v7_1) i = v1 c i)
          ∧ (∀ i : (⟨2, ![16384, 256]⟩ : Shape).Idx, (Cert.On_finite_logits.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7))).2.2 i = 1#1 → r.2.mem ((c.tc : Thread Cert.Kernel3Ideal.nD Cert.Kernel3Ideal.τ).loc Cert.Kernel3Ideal.main_v7_2) i = v2 c i)
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          (∀ i : (⟨2, ![16384, 2048]⟩ : Shape).Idx, (Cert.On_finite_logits.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7))).1 i = 1#1 → r.2.mem ((c.tc : Thread Cert.Reference3Ideal.nD Cert.Reference3Ideal.τ).loc Cert.Reference3Ideal.main_v43) i = v0 c i)
          ∧ (∀ i : (⟨2, ![16384, 2048]⟩ : Shape).Idx, (Cert.On_finite_logits.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7))).2.1 i = 1#1 → r.2.mem ((c.tc : Thread Cert.Reference3Ideal.nD Cert.Reference3Ideal.τ).loc Cert.Reference3Ideal.main_v44) i = v1 c i)
          ∧ (∀ i : (⟨2, ![16384, 256]⟩ : Shape).Idx, (Cert.On_finite_logits.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7))).2.2 i = 1#1 → r.2.mem ((c.tc : Thread Cert.Reference3Ideal.nD Cert.Reference3Ideal.τ).loc Cert.Reference3Ideal.main_v46) i = v2 c i)
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v3)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v3) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v4) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)
      ∧ m' ((c.tc : Thread Cert.Reference5Ideal.nD Cert.Reference5Ideal.τ).loc Cert.Reference5Ideal.main_arg9) = m ((c.tc : Thread Cert.Kernel5Ideal.nD Cert.Kernel5Ideal.τ).loc Cert.Kernel5Ideal.main_arg9)) →
    ∃ (v0 : (c : Dev Cert.Kernel5Ideal.nD) → Buf (Elt Ideal) ((c.tc : Thread Cert.Kernel5Ideal.nD Cert.Kernel5Ideal.τ).loc Cert.Kernel5Ideal.main_v11)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v11) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
          ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v37) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8)
          ∧ r.2.mem ((c.tc : Thread Cert.Reference5Ideal.nD Cert.Reference5Ideal.τ).loc Cert.Reference5Ideal.main_arg9) = m' ((c.tc : Thread Cert.Reference5Ideal.nD Cert.Reference5Ideal.τ).loc Cert.Reference5Ideal.main_arg9))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_in_range : Cert.Pre_in_range.Facts) (hOn_rows_used : Cert.On_rows_used.Facts) (hOn_finite_logits : Cert.On_finite_logits.Facts),
    quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal) (hPre_in_range := hPre_in_range)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ preserves_Kernel_KernelIdeal
    ∧ algebraic_KernelIdeal_ReferenceIdeal_on_rows_used (hKernelIdeal := hKernelIdeal) (hReferenceIdeal := hReferenceIdeal) (hPre_in_range := hPre_in_range) (hOn_rows_used := hOn_rows_used)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal_on_finite_logits (hKernel3Ideal := hKernel3Ideal) (hReference3Ideal := hReference3Ideal) (hOn_finite_logits := hOn_finite_logits)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
-- ==== On_finite_logits.lean ====
abbrev S16384x2048 : Shape := ⟨2, ![16384, 2048]⟩
abbrev S16384x1024 : Shape := ⟨2, ![16384, 1024]⟩
abbrev S4x6x2048 : Shape := ⟨3, ![4, 6, 2048]⟩
abbrev S1024 : Shape := ⟨1, ![1024]⟩
abbrev S2048 : Shape := ⟨1, ![2048]⟩
abbrev S2048x2048 : Shape := ⟨2, ![2048, 2048]⟩
abbrev S2048x256 : Shape := ⟨2, ![2048, 256]⟩
abbrev S_ : Shape := ⟨0, ![]⟩
abbrev S16384 : Shape := ⟨1, ![16384]⟩
abbrev S16384x1 : Shape := ⟨2, ![16384, 1]⟩
abbrev S16384x256 : Shape := ⟨2, ![16384, 256]⟩

class Facts : Prop where
  bcast_S_S4x6x2048 : S_.BroadcastsInDim S4x6x2048 (![] : Fin 0 → Fin S4x6x2048.rank)
  reducesTo_S4x6x2048_S_d0_1_2 : S4x6x2048.ReducesTo [0, 1, 2] S_
  h_S_ : 0 < S_.numel
  bcast_S_S1024 : S_.BroadcastsInDim S1024 (![] : Fin 0 → Fin S1024.rank)
  reducesTo_S1024_S_d0 : S1024.ReducesTo [0] S_
  bcast_S_S2048 : S_.BroadcastsInDim S2048 (![] : Fin 0 → Fin S2048.rank)
  reducesTo_S2048_S_d0 : S2048.ReducesTo [0] S_
  bcast_S_S2048x2048 : S_.BroadcastsInDim S2048x2048 (![] : Fin 0 → Fin S2048x2048.rank)
  reducesTo_S2048x2048_S_d0_1 : S2048x2048.ReducesTo [0, 1] S_
  bcast_S_S2048x256 : S_.BroadcastsInDim S2048x256 (![] : Fin 0 → Fin S2048x256.rank)
  reducesTo_S2048x256_S_d0_1 : S2048x256.ReducesTo [0, 1] S_
  bcast_S_S16384x2048 : S_.BroadcastsInDim S16384x2048 (![] : Fin 0 → Fin S16384x2048.rank)
  reducesTo_S16384x2048_S16384_d1 : S16384x2048.ReducesTo [1] S16384
  bcast_S_S16384x1024 : S_.BroadcastsInDim S16384x1024 (![] : Fin 0 → Fin S16384x1024.rank)
  reducesTo_S16384x1024_S16384_d1 : S16384x1024.ReducesTo [1] S16384
  bcast_S_S16384 : S_.BroadcastsInDim S16384 (![] : Fin 0 → Fin S16384.rank)
  bcast_S16384_S16384x1_0 : S16384.BroadcastsInDim S16384x1 (![0] : Fin 1 → Fin S16384x1.rank)
  bcast_S16384x1_S16384x256_0_1 : S16384x1.BroadcastsInDim S16384x256 (![0, 1] : Fin 2 → Fin S16384x256.rank)

variable [Facts]

def fn_part2 {F : FTy → Type} [FloatOps F] (main_v3 : IVec S_ 1) (main_v7 : IVec S_ 1) (main_v11 : IVec S_ 1) (main_v15 : IVec S_ 1) (main_v19 : IVec S_ 1) (main_v23 : IVec S16384 1) (main_v27 : IVec S16384 1) (main_v31 : IVec S16384 1) : IVec S16384x2048 1 × IVec S16384x2048 1 × IVec S16384x256 1 :=
  let main_v32 : IVec S16384 1 := andi main_v23 main_v27
  let main_v33 : IVec S16384 1 := andi main_v32 main_v31
  let main_v34 : IVec S_ 1 := andi main_v3 main_v7
  let main_v35 : IVec S_ 1 := andi main_v34 main_v11
  let main_v36 : IVec S_ 1 := andi main_v35 main_v15
  let main_v37 : IVec S_ 1 := andi main_v36 main_v19
  let main_v38 : IVec S16384 1 := broadcastInDim S16384 ![] bcast_S_S16384 main_v37
  let main_v39 : IVec S16384 1 := andi main_v33 main_v38
  let main_c_14 : IVec S_ 1 := constantI S_ 1 1#1
  let main_v40 : IVec S16384x2048 1 := broadcastInDim S16384x2048 ![] bcast_S_S16384x2048 main_c_14
  let main_c_15 : IVec S_ 1 := constantI S_ 1 1#1
  let main_v41 : IVec S16384x2048 1 := broadcastInDim S16384x2048 ![] bcast_S_S16384x2048 main_c_15
  let main_v42 : IVec S16384x1 1 := broadcastInDim S16384x1 ![0] bcast_S16384_S16384x1_0 main_v39
  let main_v43 : IVec S16384x256 1 := broadcastInDim S16384x256 ![0, 1] bcast_S16384x1_S16384x256_0_1 main_v42
  (main_v40, main_v41, main_v43)

def fn_part1 {F : FTy → Type} [FloatOps F] (main_arg0 : FVec F S16384x2048 .f32) (main_arg1 : FVec F S16384x1024 .bf16) (main_arg2 : FVec F S16384x1024 .f32) (main_arg7 : FVec F S2048x256 .f32) (main_v3 : IVec S_ 1) (main_v7 : IVec S_ 1) (main_v11 : IVec S_ 1) (main_v15 : IVec S_ 1) : IVec S16384x2048 1 × IVec S16384x2048 1 × IVec S16384x256 1 :=
  let main_v16 : FVec F S2048x256 .f32 := Host.absf main_arg7
  let main_cst_6 : FVec F S_ .f32 := constant S_ .f32 0x7F800000#32
  let main_v17 : FVec F S2048x256 .f32 := broadcastInDim S2048x256 ![] bcast_S_S2048x256 main_cst_6
  let main_v18 : IVec S2048x256 1 := cmpf .olt main_v16 main_v17
  let main_c_7 : IVec S_ 1 := constantI S_ 1 1#1
  let main_v19 : IVec S_ 1 := (fun x v => Host.reduce IntOp.andi x v reducesTo_S2048x256_S_d0_1 h_S_) main_v18 main_c_7
  let main_v20 : FVec F S16384x2048 .f32 := Host.absf main_arg0
  let main_cst_8 : FVec F S_ .f32 := constant S_ .f32 0x7F800000#32
  let main_v21 : FVec F S16384x2048 .f32 := broadcastInDim S16384x2048 ![] bcast_S_S16384x2048 main_cst_8
  let main_v22 : IVec S16384x2048 1 := cmpf .olt main_v20 main_v21
  let main_c_9 : IVec S_ 1 := constantI S_ 1 1#1
  let main_v23 : IVec S16384 1 := (fun x v => Host.reduce IntOp.andi x v reducesTo_S16384x2048_S16384_d1 h_S_) main_v22 main_c_9
  let main_v24 : FVec F S16384x1024 .bf16 := Host.absf main_arg1
  let main_cst_10 : FVec F S_ .bf16 := constant S_ .bf16 0x7F80#16
  let main_v25 : FVec F S16384x1024 .bf16 := broadcastInDim S16384x1024 ![] bcast_S_S16384x1024 main_cst_10
  let main_v26 : IVec S16384x1024 1 := cmpf .olt main_v24 main_v25
  let main_c_11 : IVec S_ 1 := constantI S_ 1 1#1
  let main_v27 : IVec S16384 1 := (fun x v => Host.reduce IntOp.andi x v reducesTo_S16384x1024_S16384_d1 h_S_) main_v26 main_c_11
  let main_v28 : FVec F S16384x1024 .f32 := Host.absf main_arg2
  let main_cst_12 : FVec F S_ .f32 := constant S_ .f32 0x7F800000#32
  let main_v29 : FVec F S16384x1024 .f32 := broadcastInDim S16384x1024 ![] bcast_S_S16384x1024 main_cst_12
  let main_v30 : IVec S16384x1024 1 := cmpf .olt main_v28 main_v29
  let main_c_13 : IVec S_ 1 := constantI S_ 1 1#1
  let main_v31 : IVec S16384 1 := (fun x v => Host.reduce IntOp.andi x v reducesTo_S16384x1024_S16384_d1 h_S_) main_v30 main_c_13
  fn_part2 (F := F) main_v3 main_v7 main_v11 main_v15 main_v19 main_v23 main_v27 main_v31

def fn {F : FTy → Type} [FloatOps F] (main_arg0 : FVec F S16384x2048 .f32) (main_arg1 : FVec F S16384x1024 .bf16) (main_arg2 : FVec F S16384x1024 .f32) (main_arg3 : FVec F S4x6x2048 .f32) (main_arg4 : FVec F S1024 .f32) (main_arg5 : FVec F S2048 .f32) (main_arg6 : FVec F S2048x2048 .f32) (main_arg7 : FVec F S2048x256 .f32) : IVec S16384x2048 1 × IVec S16384x2048 1 × IVec S16384x256 1 :=
  let main_v0 : FVec F S4x6x2048 .f32 := Host.absf main_arg3
  let main_cst : FVec F S_ .f32 := constant S_ .f32 0x7F800000#32
  let main_v1 : FVec F S4x6x2048 .f32 := broadcastInDim S4x6x2048 ![] bcast_S_S4x6x2048 main_cst
  let main_v2 : IVec S4x6x2048 1 := cmpf .olt main_v0 main_v1
  let main_c : IVec S_ 1 := constantI S_ 1 1#1
  let main_v3 : IVec S_ 1 := (fun x v => Host.reduce IntOp.andi x v reducesTo_S4x6x2048_S_d0_1_2 h_S_) main_v2 main_c
  let main_v4 : FVec F S1024 .f32 := Host.absf main_arg4
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : FVec F S2048 .f32 := Host.absf main_arg5
  let main_cst_2 : FVec F S_ .f32 := constant S_ .f32 0x7F800000#32
  let main_v9 : FVec F S2048 .f32 := broadcastInDim S2048 ![] bcast_S_S2048 main_cst_2
  let main_v10 : IVec S2048 1 := cmpf .olt main_v8 main_v9
  let main_c_3 : IVec S_ 1 := constantI S_ 1 1#1
  let main_v11 : IVec S_ 1 := (fun x v => Host.reduce IntOp.andi x v reducesTo_S2048_S_d0 h_S_) main_v10 main_c_3
  let main_v12 : FVec F S2048x2048 .f32 := Host.absf main_arg6
  let main_cst_4 : FVec F S_ .f32 := constant S_ .f32 0x7F800000#32
  let main_v13 : FVec F S2048x2048 .f32 := broadcastInDim S2048x2048 ![] bcast_S_S2048x2048 main_cst_4
  let main_v14 : IVec S2048x2048 1 := cmpf .olt main_v12 main_v13
  let main_c_5 : IVec S_ 1 := constantI S_ 1 1#1
  let main_v15 : IVec S_ 1 := (fun x v => Host.reduce IntOp.andi x v reducesTo_S2048x2048_S_d0_1 h_S_) main_v14 main_c_5
  fn_part1 (F := F) main_arg0 main_arg1 main_arg2 main_arg7 main_v3 main_v7 main_v11 main_v15
-- ==== On_rows_used.lean ====
abbrev S768 : Shape := ⟨1, ![768]⟩
abbrev S1 : Shape := ⟨1, ![1]⟩
abbrev S196608x2048 : Shape := ⟨2, ![196608, 2048]⟩
abbrev S256x2048x512 : Shape := ⟨3, ![256, 2048, 512]⟩
abbrev S256x512x2048 : Shape := ⟨3, ![256, 512, 2048]⟩
abbrev S_ : Shape := ⟨0, ![]⟩

class Facts : Prop where
  shapeCasts_S1_S_ : S1.ShapeCasts S_
  bcast_S_S196608x2048 : S_.BroadcastsInDim S196608x2048 (![] : Fin 0 → Fin S196608x2048.rank)

variable [Facts]

def fn {F : FTy → Type} [FloatOps F] (main_arg0 : IVec S768 32) (main_arg1 : IVec S1 32) (main_arg2 : FVec F S196608x2048 .f32) (main_arg3 : FVec F S256x2048x512 .f32) (main_arg4 : FVec F S256x2048x512 .f32) (main_arg5 : FVec F S256x512x2048 .f32) : IVec S196608x2048 1 :=
  let main_v0 : IVec S196608x2048 32 := iotaInDim S196608x2048 32 0
  let main_v1 : IVec S_ 32 := shapeCast S_ main_arg1 shapeCasts_S1_S_
  let main_c : IVec S_ 32 := constantI S_ 32 256#32
  let main_v2 : IVec S_ 32 := muli main_v1 main_c
  let main_v3 : IVec S196608x2048 32 := broadcastInDim S196608x2048 ![] bcast_S_S196608x2048 main_v2
  let main_v4 : IVec S196608x2048 1 := cmpi .slt main_v0 main_v3
  main_v4
-- ==== Pre_in_range.lean ====
abbrev S768 : Shape := ⟨1, ![768]⟩
abbrev S1 : Shape := ⟨1, ![1]⟩
abbrev S196608x2048 : Shape := ⟨2, ![196608, 2048]⟩
abbrev S256x2048x512 : Shape := ⟨3, ![256, 2048, 512]⟩
abbrev S256x512x2048 : Shape := ⟨3, ![256, 512, 2048]⟩
abbrev S_ : Shape := ⟨0, ![]⟩

class Facts : Prop where
  bcast_S_S768 : S_.BroadcastsInDim S768 (![] : Fin 0 → Fin S768.rank)
  reducesTo_S768_S_d0 : S768.ReducesTo [0] S_
  h_S_ : 0 < S_.numel
  bcast_S_S1 : S_.BroadcastsInDim S1 (![] : Fin 0 → Fin S1.rank)
  reducesTo_S1_S_d0 : S1.ReducesTo [0] S_

variable [Facts]

def fn {F : FTy → Type} [FloatOps F] (main_arg0 : IVec S768 32) (main_arg1 : IVec S1 32) (main_arg2 : FVec F S196608x2048 .f32) (main_arg3 : FVec F S256x2048x512 .f32) (main_arg4 : FVec F S256x2048x512 .f32) (main_arg5 : FVec F S256x512x2048 .f32) : IVec S_ 1 :=
  let main_c : IVec S_ 32 := constantI S_ 32 0#32
  let main_v0 : IVec S768 32 := broadcastInDim S768 ![] bcast_S_S768 main_c
  let main_v1 : IVec S768 1 := cmpi .sge main_arg0 main_v0
  let main_c_0 : IVec S_ 32 := constantI S_ 32 256#32
  let main_v2 : IVec S768 32 := broadcastInDim S768 ![] bcast_S_S768 main_c_0
  let main_v3 : IVec S768 1 := cmpi .slt main_arg0 main_v2
  let main_v4 : IVec S768 1 := andi main_v1 main_v3
  let main_c_1 : IVec S_ 1 := constantI S_ 1 1#1
  let main_v5 : IVec S_ 1 := (fun x v => Host.reduce IntOp.andi x v reducesTo_S768_S_d0 h_S_) main_v4 main_c_1
  let main_c_2 : IVec S_ 32 := constantI S_ 32 1#32
  let main_v6 : IVec S1 32 := broadcastInDim S1 ![] bcast_S_S1 main_c_2
  let main_v7 : IVec S1 1 := cmpi .sge main_arg1 main_v6
  let main_c_3 : IVec S_ 32 := constantI S_ 32 768#32
  let main_v8 : IVec S1 32 := broadcastInDim S1 ![] bcast_S_S1 main_c_3
  let main_v9 : IVec S1 1 := cmpi .sle main_arg1 main_v8
  let main_v10 : IVec S1 1 := andi main_v7 main_v9
  let main_c_4 : IVec S_ 1 := constantI S_ 1 1#1
  let main_v11 : IVec S_ 1 := (fun x v => Host.reduce IntOp.andi x v reducesTo_S1_S_d0 h_S_) main_v10 main_c_4
  let main_v12 : IVec S_ 1 := andi main_v5 main_v11
  main_v12
-- ==== Kernel.lean ====
abbrev S768 : Shape := ⟨1, ![768]⟩
abbrev S1 : Shape := ⟨1, ![1]⟩
abbrev S196608x2048 : Shape := ⟨2, ![196608, 2048]⟩
abbrev S256x2048x512 : Shape := ⟨3, ![256, 2048, 512]⟩
abbrev S256x512x2048 : Shape := ⟨3, ![256, 512, 2048]⟩
abbrev S256x2048 : Shape := ⟨2, ![256, 2048]⟩
abbrev S1x2048x512 : Shape := ⟨3, ![1, 2048, 512]⟩
abbrev S1x512x2048 : Shape := ⟨3, ![1, 512, 2048]⟩
abbrev S2048x512 : Shape := ⟨2, ![2048, 512]⟩
abbrev S512x2048 : Shape := ⟨2, ![512, 2048]⟩
abbrev S256x512 : Shape := ⟨2, ![256, 512]⟩

abbrev nBuf : Space → Nat
  | .hbm => 5
  | .vmem => 13
  | .smem => 2
  | _ => 0

abbrev bufTy : (tb : Table) → Fin (tcTables nBuf tb) → BufTy
  | .hbm, ⟨0, _⟩ => ⟨S196608x2048, .f32⟩
  | .hbm, ⟨1, _⟩ => ⟨S256x2048x512, .f32⟩
  | .hbm, ⟨2, _⟩ => ⟨S256x2048x512, .f32⟩
  | .hbm, ⟨3, _⟩ => ⟨S256x512x2048, .f32⟩
  | .hbm, ⟨4, _⟩ => ⟨S196608x2048, .f32⟩
  | .local _ .vmem, ⟨0, _⟩ => ⟨S256x2048, .f32⟩
  | .local _ .vmem, ⟨1, _⟩ => ⟨S256x2048, .f32⟩
  | .local _ .vmem, ⟨2, _⟩ => ⟨S1x2048x512, .f32⟩
  | .local _ .vmem, ⟨3, _⟩ => ⟨S1x2048x512, .f32⟩
  | .local _ .vmem, ⟨4, _⟩ => ⟨S1x2048x512, .f32⟩
  | .local _ .vmem, ⟨5, _⟩ => ⟨S1x2048x512, .f32⟩
  | .local _ .vmem, ⟨6, _⟩ => ⟨S1x512x2048, .f32⟩
  | .local _ .vmem, ⟨7, _⟩ => ⟨S1x512x2048, .f32⟩
  | .local _ .vmem, ⟨8, _⟩ => ⟨S256x2048, .f32⟩
  | .local _ .vmem, ⟨9, _⟩ => ⟨S256x2048, .f32⟩
  | .local _ .vmem, ⟨10, _⟩ => ⟨S2048x512, .bf16⟩
  | .local _ .vmem, ⟨11, _⟩ => ⟨S2048x512, .bf16⟩
  | .local _ .vmem, ⟨12, _⟩ => ⟨S512x2048, .bf16⟩
  | .local _ .smem, ⟨0, _⟩ => ⟨S768, .i32⟩
  | .local _ .smem, ⟨1, _⟩ => ⟨S1, .i32⟩
  | _, _ => ⟨S196608x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_v0 : Ref sig .tc := ⟨.hbm, 4, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![768], ![false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let c1_i32 : BitVec 32 := 1#32
  let v2 : BitVec 32 := Scalar.subi arg0 c1_i32
  let c0_i32 : BitVec 32 := 0#32
  let v3 : BitVec 32 := Scalar.maxsi v2 c0_i32
  let v4 : Index := Scalar.indexCast v3
  ![v4.toNat]
def k0_cond2 (i : grid0.Coords) (v0 : BitVec 32) : BitVec 1 :=
  let arg0 : BitVec 32 := BitVec.ofNat 32 (i 0).val
  let v1 : BitVec 1 := Scalar.cmpi .slt arg0 v0
  let v14 : BitVec 32 := Scalar.extui v1
  let c0_i32_2 : BitVec 32 := 0#32
  let v15 : BitVec 1 := Scalar.cmpi .ne v14 c0_i32_2
  v15

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S768.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S768) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S768.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S768) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S768.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S768) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S768 : Shape := ⟨1, ![768]⟩
abbrev S1 : Shape := ⟨1, ![1]⟩
abbrev S196608x2048 : Shape := ⟨2, ![196608, 2048]⟩
abbrev S256x2048x512 : Shape := ⟨3, ![256, 2048, 512]⟩
abbrev S256x512x2048 : Shape := ⟨3, ![256, 512, 2048]⟩
abbrev S768x256x2048 : Shape := ⟨3, ![768, 256, 2048]⟩
abbrev S_ : Shape := ⟨0, ![]⟩
abbrev S768x1 : Shape := ⟨2, ![768, 1]⟩
abbrev S768x2048x512 : Shape := ⟨3, ![768, 2048, 512]⟩
abbrev S768x256x512 : Shape := ⟨3, ![768, 256, 512]⟩
abbrev S768x512x2048 : Shape := ⟨3, ![768, 512, 2048]⟩

abbrev nBuf : Space → Nat
  | .hbm => 48
  | .vmem => 0
  | .smem => 0
  | _ => 0

abbrev bufTy : (tb : Table) → Fin (tcTables nBuf tb) → BufTy
  | .hbm, ⟨0, _⟩ => ⟨S768, .i32⟩
  | .hbm, ⟨1, _⟩ => ⟨S1, .i32⟩
  | .hbm, ⟨2, _⟩ => ⟨S196608x2048, .f32⟩
  | .hbm, ⟨3, _⟩ => ⟨S256x2048x512, .f32⟩
  | .hbm, ⟨4, _⟩ => ⟨S256x2048x512, .f32⟩
  | .hbm, ⟨5, _⟩ => ⟨S256x512x2048, .f32⟩
  | .hbm, ⟨6, _⟩ => ⟨S768x256x2048, .f32⟩
  | .hbm, ⟨7, _⟩ => ⟨S_, .i32⟩
  | .hbm, ⟨8, _⟩ => ⟨S768, .i32⟩
  | .hbm, ⟨9, _⟩ => ⟨S768, .i1⟩
  | .hbm, ⟨10, _⟩ => ⟨S_, .i32⟩
  | .hbm, ⟨11, _⟩ => ⟨S768, .i32⟩
  | .hbm, ⟨12, _⟩ => ⟨S768, .i32⟩
  | .hbm, ⟨13, _⟩ => ⟨S768, .i32⟩
  | .hbm, ⟨14, _⟩ => ⟨S768x1, .i32⟩
  | .hbm, ⟨15, _⟩ => ⟨S768x2048x512, .f32⟩
  | .hbm, ⟨16, _⟩ => ⟨S768x256x512, .f32⟩
  | .hbm, ⟨17, _⟩ => ⟨S_, .i32⟩
  | .hbm, ⟨18, _⟩ => ⟨S768, .i32⟩
  | .hbm, ⟨19, _⟩ => ⟨S768, .i1⟩
  | .hbm, ⟨20, _⟩ => ⟨S_, .i32⟩
  | .hbm, ⟨21, _⟩ => ⟨S768, .i32⟩
  | .hbm, ⟨22, _⟩ => ⟨S768, .i32⟩
  | .hbm, ⟨23, _⟩ => ⟨S768, .i32⟩
  | .hbm, ⟨24, _⟩ => ⟨S768x1, .i32⟩
  | .hbm, ⟨25, _⟩ => ⟨S768x2048x512, .f32⟩
  | .hbm, ⟨26, _⟩ => ⟨S768x256x512, .f32⟩
  | .hbm, ⟨27, _⟩ => ⟨S768x256x512, .f32⟩
  | .hbm, ⟨28, _⟩ => ⟨S768x256x512, .f32⟩
  | .hbm, ⟨29, _⟩ => ⟨S_, .f32⟩
  | .hbm, ⟨30, _⟩ => ⟨S768x256x512, .f32⟩
  | .hbm, ⟨31, _⟩ => ⟨S768x256x512, .f32⟩
  | .hbm, ⟨32, _⟩ => ⟨S_, .f32⟩
  | .hbm, ⟨33, _⟩ => ⟨S768x256x512, .f32⟩
  | .hbm, ⟨34, _⟩ => ⟨S768x256x512, .f32⟩
  | .hbm, ⟨35, _⟩ => ⟨S768x256x512, .f32⟩
  | .hbm, ⟨36, _⟩ => ⟨S768x256x512, .f32⟩
  | .hbm, ⟨37, _⟩ => ⟨S_, .i32⟩
  | .hbm, ⟨38, _⟩ => ⟨S768, .i32⟩
  | .hbm, ⟨39, _⟩ => ⟨S768, .i1⟩
  | .hbm, ⟨40, _⟩ => ⟨S_, .i32⟩
  | .hbm, ⟨41, _⟩ => ⟨S768, .i32⟩
  | .hbm, ⟨42, _⟩ => ⟨S768, .i32⟩
  | .hbm, ⟨43, _⟩ => ⟨S768, .i32⟩
  | .hbm, ⟨44, _⟩ => ⟨S768x1, .i32⟩
  | .hbm, ⟨45, _⟩ => ⟨S768x512x2048, .f32⟩
  | .hbm, ⟨46, _⟩ => ⟨S768x256x2048, .f32⟩
  | .hbm, ⟨47, _⟩ => ⟨S196608x2048, .f32⟩
  | _, _ => ⟨S768, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_c_1 : Ref sig .tc := ⟨.hbm, 17, rfl⟩
abbrev main_v9 : Ref sig .tc := ⟨.hbm, 18, rfl⟩
abbrev main_v10 : Ref sig .tc := ⟨.hbm, 19, rfl⟩
abbrev main_c_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_call0_v0 : Ref sig .tc := ⟨.hbm, 27, rfl⟩
abbrev main_call0_v1 : Ref sig .tc := ⟨.hbm, 28, rfl⟩
abbrev main_call0_cst : Ref sig .tc := ⟨.hbm, 29, rfl⟩
abbrev main_call0_v2 : Ref sig .tc := ⟨.hbm, 30, rfl⟩
abbrev main_call0_v3 : Ref sig .tc := ⟨.hbm, 31, rfl⟩
abbrev main_call0_cst_0 : Ref sig .tc := ⟨.hbm, 32, rfl⟩
abbrev main_call0_v4 : Ref sig .tc := ⟨.hbm, 33, rfl⟩
abbrev main_call0_v5 : Ref sig .tc := ⟨.hbm, 34, rfl⟩
abbrev main_v17 : Ref sig .tc := ⟨.hbm, 35, rfl⟩
abbrev main_v18 : Ref sig .tc := ⟨.hbm, 36, rfl⟩
abbrev main_c_3 : Ref sig .tc := ⟨.hbm, 37, rfl⟩
abbrev main_v19 : Ref sig .tc := ⟨.hbm, 38, rfl⟩
abbrev main_v20 : Ref sig .tc := ⟨.hbm, 39, rfl⟩
abbrev main_c_4 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩

abbrev nD : Nat := 1
abbrev τ : Topo := Topo.v7x

variable {F : FTy → Type} [FloatOps F]
-- ==== Kernel2.lean ====
abbrev S16384x2048 : Shape := ⟨2, ![16384, 2048]⟩
abbrev S4x6x2048 : Shape := ⟨3, ![4, 6, 2048]⟩
abbrev S2048 : Shape := ⟨1, ![2048]⟩
abbrev S16384x1 : Shape := ⟨2, ![16384, 1]⟩
abbrev S2048x4096 : Shape := ⟨2, ![2048, 4096]⟩
abbrev S16 : Shape := ⟨1, ![16]⟩
abbrev S_ : Shape := ⟨0, ![]⟩
abbrev S96 : Shape := ⟨1, ![96]⟩
abbrev S128 : Shape := ⟨1, ![128]⟩
abbrev S1x128 : Shape := ⟨2, ![1, 128]⟩
abbrev S1x2048 : Shape := ⟨2, ![1, 2048]⟩
abbrev S16384x4096 : Shape := ⟨2, ![16384, 4096]⟩
abbrev S512x2048 : Shape := ⟨2, ![512, 2048]⟩
abbrev S1x6x2048 : Shape := ⟨3, ![1, 6, 2048]⟩
abbrev S512x1 : Shape := ⟨2, ![512, 1]⟩
abbrev S2048x1024 : Shape := ⟨2, ![2048, 1024]⟩
abbrev S512x1024 : Shape := ⟨2, ![512, 1024]⟩
abbrev S512x128 : Shape := ⟨2, ![512, 128]⟩
abbrev S512 : Shape := ⟨1, ![512]⟩
abbrev S1x1x2048 : Shape := ⟨3, ![1, 1, 2048]⟩

abbrev nBuf : Space → Nat
  | .hbm => 35
  | .vmem => 16
  | .smem => 0
  | _ => 0

abbrev bufTy : (tb : Table) → Fin (tcTables nBuf tb) → BufTy
  | .hbm, ⟨0, _⟩ => ⟨S16384x2048, .f32⟩
  | .hbm, ⟨1, _⟩ => ⟨S4x6x2048, .f32⟩
  | .hbm, ⟨2, _⟩ => ⟨S2048, .f32⟩
  | .hbm, ⟨3, _⟩ => ⟨S16384x1, .i32⟩
  | .hbm, ⟨4, _⟩ => ⟨S2048x4096, .f32⟩
  | .hbm, ⟨5, _⟩ => ⟨S2048x4096, .bf16⟩
  | .hbm, ⟨6, _⟩ => ⟨S16, .f32⟩
  | .hbm, ⟨7, _⟩ => ⟨S_, .f32⟩
  | .hbm, ⟨8, _⟩ => ⟨S16, .f32⟩
  | .hbm, ⟨9, _⟩ => ⟨S16, .f32⟩
  | .hbm, ⟨10, _⟩ => ⟨S_, .f32⟩
  | .hbm, ⟨11, _⟩ => ⟨S16, .f32⟩
  | .hbm, ⟨12, _⟩ => ⟨S16, .f32⟩
  | .hbm, ⟨13, _⟩ => ⟨S16, .f32⟩
  | .hbm, ⟨14, _⟩ => ⟨S_, .f32⟩
  | .hbm, ⟨15, _⟩ => ⟨S16, .f32⟩
  | .hbm, ⟨16, _⟩ => ⟨S16, .f32⟩
  | .hbm, ⟨17, _⟩ => ⟨S_, .f32⟩
  | .hbm, ⟨18, _⟩ => ⟨S16, .f32⟩
  | .hbm, ⟨19, _⟩ => ⟨S16, .f32⟩
  | .hbm, ⟨20, _⟩ => ⟨S_, .f32⟩
  | .hbm, ⟨21, _⟩ => ⟨S96, .f32⟩
  | .hbm, ⟨22, _⟩ => ⟨S128, .f32⟩
  | .hbm, ⟨23, _⟩ => ⟨S1x128, .f32⟩
  | .hbm, ⟨24, _⟩ => ⟨S_, .f32⟩
  | .hbm, ⟨25, _⟩ => ⟨S16, .f32⟩
  | .hbm, ⟨26, _⟩ => ⟨S16, .f32⟩
  | .hbm, ⟨27, _⟩ => ⟨S_, .f32⟩
  | .hbm, ⟨28, _⟩ => ⟨S16, .f32⟩
  | .hbm, ⟨29, _⟩ => ⟨S_, .f32⟩
  | .hbm, ⟨30, _⟩ => ⟨S96, .f32⟩
  | .hbm, ⟨31, _⟩ => ⟨S128, .f32⟩
  | .hbm, ⟨32, _⟩ => ⟨S1x128, .f32⟩
  | .hbm, ⟨33, _⟩ => ⟨S1x2048, .f32⟩
  | .hbm, ⟨34, _⟩ => ⟨S16384x4096, .f32⟩
  | .local _ .vmem, ⟨0, _⟩ => ⟨S512x2048, .f32⟩
  | .local _ .vmem, ⟨1, _⟩ => ⟨S512x2048, .f32⟩
  | .local _ .vmem, ⟨2, _⟩ => ⟨S1x6x2048, .f32⟩
  | .local _ .vmem, ⟨3, _⟩ => ⟨S1x6x2048, .f32⟩
  | .local _ .vmem, ⟨4, _⟩ => ⟨S1x2048, .f32⟩
  | .local _ .vmem, ⟨5, _⟩ => ⟨S512x1, .i32⟩
  | .local _ .vmem, ⟨6, _⟩ => ⟨S512x1, .i32⟩
  | .local _ .vmem, ⟨7, _⟩ => ⟨S1x128, .f32⟩
  | .local _ .vmem, ⟨8, _⟩ => ⟨S1x128, .f32⟩
  | .local _ .vmem, ⟨9, _⟩ => ⟨S2048x1024, .bf16⟩
  | .local _ .vmem, ⟨10, _⟩ => ⟨S2048x1024, .bf16⟩
  | .local _ .vmem, ⟨11, _⟩ => ⟨S512x1024, .f32⟩
  | .local _ .vmem, ⟨12, _⟩ => ⟨S512x1024, .f32⟩
  | .local _ .vmem, ⟨13, _⟩ => ⟨S512x2048, .bf16⟩
  | .local _ .vmem, ⟨14, _⟩ => ⟨S512x128, .f32⟩
  | .local _ .vmem, ⟨15, _⟩ => ⟨S512x128, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_cst_3 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_cst_5 : Ref sig .tc := ⟨.hbm, 27, rfl⟩
abbrev main_v16 : Ref sig .tc := ⟨.hbm, 28, rfl⟩
abbrev main_cst_6 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨2, ![32, 4], ![false, false]⟩

def k0_cond2 (i : grid0.Coords) : BitVec 1 :=
  let arg1 : BitVec 32 := BitVec.ofNat 32 (i 1).val
  let c1_i32 : BitVec 32 := 1#32
  let v7 : BitVec 1 := Scalar.cmpi .eq arg1 c1_i32
  let c2_i32 : BitVec 32 := 2#32
  let v8 : BitVec 1 := Scalar.cmpi .eq arg1 c2_i32
  let v9 : BitVec 1 := Scalar.ori v7 v8
  let v_true : BitVec 1 := 1#1
  let v10 : BitVec 1 := Scalar.xori v9 v_true
  let v11 : BitVec 32 := Scalar.extui v10
  let c0_i32_4 : BitVec 32 := 0#32
  let v12 : BitVec 1 := Scalar.cmpi .ne v11 c0_i32_4
  v12

def k0_cond3 (i : grid0.Coords) : BitVec 1 :=
  let arg1 : BitVec 32 := BitVec.ofNat 32 (i 1).val
  let c1_i32 : BitVec 32 := 1#32
  let v7 : BitVec 1 := Scalar.cmpi .eq arg1 c1_i32
  let c2_i32 : BitVec 32 := 2#32
  let v8 : BitVec 1 := Scalar.cmpi .eq arg1 c2_i32
  let v9 : BitVec 1 := Scalar.ori v7 v8
  let v13 : BitVec 32 := Scalar.extui v9
  let c0_i32_5 : BitVec 32 := 0#32
  let v14 : BitVec 1 := Scalar.cmpi .ne v13 c0_i32_5
  v14

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x6x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S512x1 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S2048x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Kernel2Ideal.lean ====
variable {F : FTy → Type} [FloatOps F] [Named F]
def κ : String → Option EReal := fun
  | "inv_sqrt_d" => some (((Real.sqrt 128)⁻¹ : ℝ) : EReal)
  | _ => none
-- ==== Reference2Ideal.lean ====
abbrev S16384x2048 : Shape := ⟨2, ![16384, 2048]⟩
abbrev S4x6x2048 : Shape := ⟨3, ![4, 6, 2048]⟩
abbrev S2048 : Shape := ⟨1, ![2048]⟩
abbrev S16384x1 : Shape := ⟨2, ![16384, 1]⟩
abbrev S2048x4096 : Shape := ⟨2, ![2048, 4096]⟩
abbrev S_ : Shape := ⟨0, ![]⟩
abbrev S16384 : Shape := ⟨1, ![16384]⟩
abbrev S1x2048 : Shape := ⟨2, ![1, 2048]⟩
abbrev S4x4096x2048 : Shape := ⟨3, ![4, 4096, 2048]⟩
abbrev S4x1x2048 : Shape := ⟨3, ![4, 1, 2048]⟩
abbrev S16384x4096 : Shape := ⟨2, ![16384, 4096]⟩
abbrev S16 : Shape := ⟨1, ![16]⟩
abbrev S1x16 : Shape := ⟨2, ![1, 16]⟩
abbrev S16384x16 : Shape := ⟨2, ![16384, 16]⟩
abbrev S16384x1x16 : Shape := ⟨3, ![16384, 1, 16]⟩
abbrev S16384x1024 : Shape := ⟨2, ![16384, 1024]⟩
abbrev S16384x8x128 : Shape := ⟨3, ![16384, 8, 128]⟩
abbrev S16384x8x16 : Shape := ⟨3, ![16384, 8, 16]⟩
abbrev S16384x8x96 : Shape := ⟨3, ![16384, 8, 96]⟩

abbrev nBuf : Space → Nat
  | .hbm => 96
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S4x6x2048, .f32⟩
  | .hbm, ⟨2, _⟩ => ⟨S2048, .f32⟩
  | .hbm, ⟨3, _⟩ => ⟨S16384x1, .i32⟩
  | .hbm, ⟨4, _⟩ => ⟨S2048x4096, .f32⟩
  | .hbm, ⟨5, _⟩ => ⟨S16384x2048, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S16384x1, .f32⟩
  | .hbm, ⟨16, _⟩ => ⟨S16384x2048, .f32⟩
  | .hbm, ⟨17, _⟩ => ⟨S16384x2048, .f32⟩
  | .hbm, ⟨18, _⟩ => ⟨S1x2048, .f32⟩
  | .hbm, ⟨19, _⟩ => ⟨S16384x2048, .f32⟩
  | .hbm, ⟨20, _⟩ => ⟨S16384x2048, .f32⟩
  | .hbm, ⟨21, _⟩ => ⟨S4x4096x2048, .f32⟩
  | .hbm, ⟨22, _⟩ => ⟨S4x1x2048, .f32⟩
  | .hbm, ⟨23, _⟩ => ⟨S_, .f32⟩
  | .hbm, ⟨24, _⟩ => ⟨S4x1x2048, .f32⟩
  | .hbm, ⟨25, _⟩ => ⟨S4x1x2048, .f32⟩
  | .hbm, ⟨26, _⟩ => ⟨S4x4096x2048, .f32⟩
  | .hbm, ⟨27, _⟩ => ⟨S4x4096x2048, .f32⟩
  | .hbm, ⟨28, _⟩ => ⟨S4x1x2048, .f32⟩
  | .hbm, ⟨29, _⟩ => ⟨S4x4096x2048, .f32⟩
  | .hbm, ⟨30, _⟩ => ⟨S4x4096x2048, .f32⟩
  | .hbm, ⟨31, _⟩ => ⟨S16384x2048, .f32⟩
  | .hbm, ⟨32, _⟩ => ⟨S16384x4096, .f32⟩
  | .hbm, ⟨33, _⟩ => ⟨S16, .f32⟩
  | .hbm, ⟨34, _⟩ => ⟨S_, .f32⟩
  | .hbm, ⟨35, _⟩ => ⟨S16, .f32⟩
  | .hbm, ⟨36, _⟩ => ⟨S16, .f32⟩
  | .hbm, ⟨37, _⟩ => ⟨S_, .f32⟩
  | .hbm, ⟨38, _⟩ => ⟨S16, .f32⟩
  | .hbm, ⟨39, _⟩ => ⟨S16, .f32⟩
  | .hbm, ⟨40, _⟩ => ⟨S16, .f32⟩
  | .hbm, ⟨41, _⟩ => ⟨S_, .f32⟩
  | .hbm, ⟨42, _⟩ => ⟨S16, .f32⟩
  | .hbm, ⟨43, _⟩ => ⟨S16, .f32⟩
  | .hbm, ⟨44, _⟩ => ⟨S_, .f32⟩
  | .hbm, ⟨45, _⟩ => ⟨S16, .f32⟩
  | .hbm, ⟨46, _⟩ => ⟨S16, .f32⟩
  | .hbm, ⟨47, _⟩ => ⟨S16384x1, .f32⟩
  | .hbm, ⟨48, _⟩ => ⟨S1x16, .f32⟩
  | .hbm, ⟨49, _⟩ => ⟨S16384x16, .f32⟩
  | .hbm, ⟨50, _⟩ => ⟨S16384x16, .f32⟩
  | .hbm, ⟨51, _⟩ => ⟨S16384x16, .f32⟩
  | .hbm, ⟨52, _⟩ => ⟨S16384x1x16, .f32⟩
  | .hbm, ⟨53, _⟩ => ⟨S16384x1x16, .f32⟩
  | .hbm, ⟨54, _⟩ => ⟨S16384x1x16, .f32⟩
  | .hbm, ⟨55, _⟩ => ⟨S16384x1024, .f32⟩
  | .hbm, ⟨56, _⟩ => ⟨S16384x1024, .f32⟩
  | .hbm, ⟨57, _⟩ => ⟨S16384x1024, .f32⟩
  | .hbm, ⟨58, _⟩ => ⟨S16384x1024, .f32⟩
  | .hbm, ⟨59, _⟩ => ⟨S16384x8x128, .f32⟩
  | .hbm, ⟨60, _⟩ => ⟨S16384x8x16, .f32⟩
  | .hbm, ⟨61, _⟩ => ⟨S16384x8x16, .f32⟩
  | .hbm, ⟨62, _⟩ => ⟨S16384x8x96, .f32⟩
  | .hbm, ⟨63, _⟩ => ⟨S16384x8x16, .f32⟩
  | .hbm, ⟨64, _⟩ => ⟨S16384x8x16, .f32⟩
  | .hbm, ⟨65, _⟩ => ⟨S16384x8x16, .f32⟩
  | .hbm, ⟨66, _⟩ => ⟨S16384x8x16, .f32⟩
  | .hbm, ⟨67, _⟩ => ⟨S16384x8x16, .f32⟩
  | .hbm, ⟨68, _⟩ => ⟨S16384x8x16, .f32⟩
  | .hbm, ⟨69, _⟩ => ⟨S16384x8x16, .f32⟩
  | .hbm, ⟨70, _⟩ => ⟨S16384x8x16, .f32⟩
  | .hbm, ⟨71, _⟩ => ⟨S16384x8x16, .f32⟩
  | .hbm, ⟨72, _⟩ => ⟨S16384x8x16, .f32⟩
  | .hbm, ⟨73, _⟩ => ⟨S16384x8x128, .f32⟩
  | .hbm, ⟨74, _⟩ => ⟨S16384x1024, .f32⟩
  | .hbm, ⟨75, _⟩ => ⟨S_, .f32⟩
  | .hbm, ⟨76, _⟩ => ⟨S_, .f32⟩
  | .hbm, ⟨77, _⟩ => ⟨S16384x1024, .f32⟩
  | .hbm, ⟨78, _⟩ => ⟨S16384x1024, .f32⟩
  | .hbm, ⟨79, _⟩ => ⟨S16384x8x128, .f32⟩
  | .hbm, ⟨80, _⟩ => ⟨S16384x8x16, .f32⟩
  | .hbm, ⟨81, _⟩ => ⟨S16384x8x16, .f32⟩
  | .hbm, ⟨82, _⟩ => ⟨S16384x8x96, .f32⟩
  | .hbm, ⟨83, _⟩ => ⟨S16384x8x16, .f32⟩
  | .hbm, ⟨84, _⟩ => ⟨S16384x8x16, .f32⟩
  | .hbm, ⟨85, _⟩ => ⟨S16384x8x16, .f32⟩
  | .hbm, ⟨86, _⟩ => ⟨S16384x8x16, .f32⟩
  | .hbm, ⟨87, _⟩ => ⟨S16384x8x16, .f32⟩
  | .hbm, ⟨88, _⟩ => ⟨S16384x8x16, .f32⟩
  | .hbm, ⟨89, _⟩ => ⟨S16384x8x16, .f32⟩
  | .hbm, ⟨90, _⟩ => ⟨S16384x8x16, .f32⟩
  | .hbm, ⟨91, _⟩ => ⟨S16384x8x16, .f32⟩
  | .hbm, ⟨92, _⟩ => ⟨S16384x8x16, .f32⟩
  | .hbm, ⟨93, _⟩ => ⟨S16384x8x128, .f32⟩
  | .hbm, ⟨94, _⟩ => ⟨S16384x1024, .f32⟩
  | .hbm, ⟨95, _⟩ => ⟨S16384x4096, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_3 : Ref sig .tc := ⟨.hbm, 34, rfl⟩
abbrev main_v25 : Ref sig .tc := ⟨.hbm, 35, rfl⟩
abbrev main_v26 : Ref sig .tc := ⟨.hbm, 36, rfl⟩
abbrev main_cst_4 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_5 : Ref sig .tc := ⟨.hbm, 41, rfl⟩
abbrev main_v30 : Ref sig .tc := ⟨.hbm, 42, rfl⟩
abbrev main_v31 : Ref sig .tc := ⟨.hbm, 43, rfl⟩
abbrev main_cst_6 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_cst_7 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩
abbrev main_v74 : Ref sig .tc := ⟨.hbm, 88, rfl⟩
abbrev main_v75 : Ref sig .tc := ⟨.hbm, 89, rfl⟩
abbrev main_v76 : Ref sig .tc := ⟨.hbm, 90, rfl⟩
abbrev main_v77 : Ref sig .tc := ⟨.hbm, 91, rfl⟩
abbrev main_v78 : Ref sig .tc := ⟨.hbm, 92, rfl⟩
abbrev main_v79 : Ref sig .tc := ⟨.hbm, 93, rfl⟩
abbrev main_v80 : Ref sig .tc := ⟨.hbm, 94, rfl⟩
abbrev main_v81 : Ref sig .tc := ⟨.hbm, 95, rfl⟩

abbrev nD : Nat := 1
abbrev τ : Topo := Topo.v7x

variable {F : FTy → Type} [FloatOps F]
-- ==== Kernel3.lean ====
abbrev S16384x2048 : Shape := ⟨2, ![16384, 2048]⟩
abbrev S16384x1024 : Shape := ⟨2, ![16384, 1024]⟩
abbrev S4x6x2048 : Shape := ⟨3, ![4, 6, 2048]⟩
abbrev S1024 : Shape := ⟨1, ![1024]⟩
abbrev S2048 : Shape := ⟨1, ![2048]⟩
abbrev S2048x2048 : Shape := ⟨2, ![2048, 2048]⟩
abbrev S2048x256 : Shape := ⟨2, ![2048, 256]⟩
abbrev S1x1024 : Shape := ⟨2, ![1, 1024]⟩
abbrev S1x2048 : Shape := ⟨2, ![1, 2048]⟩
abbrev S16384x256 : Shape := ⟨2, ![16384, 256]⟩
abbrev S256x2048 : Shape := ⟨2, ![256, 2048]⟩
abbrev S256x1024 : Shape := ⟨2, ![256, 1024]⟩
abbrev S1x6x2048 : Shape := ⟨3, ![1, 6, 2048]⟩
abbrev S256x256 : Shape := ⟨2, ![256, 256]⟩
abbrev S256 : Shape := ⟨1, ![256]⟩
abbrev S256x1 : Shape := ⟨2, ![256, 1]⟩
abbrev S1024x2048 : Shape := ⟨2, ![1024, 2048]⟩
abbrev S1x1x2048 : Shape := ⟨3, ![1, 1, 2048]⟩

abbrev nBuf : Space → Nat
  | .hbm => 18
  | .vmem => 19
  | .smem => 0
  | _ => 0

abbrev bufTy : (tb : Table) → Fin (tcTables nBuf tb) → BufTy
  | .hbm, ⟨0, _⟩ => ⟨S16384x2048, .f32⟩
  | .hbm, ⟨1, _⟩ => ⟨S16384x1024, .bf16⟩
  | .hbm, ⟨2, _⟩ => ⟨S16384x1024, .f32⟩
  | .hbm, ⟨3, _⟩ => ⟨S4x6x2048, .f32⟩
  | .hbm, ⟨4, _⟩ => ⟨S1024, .f32⟩
  | .hbm, ⟨5, _⟩ => ⟨S2048, .f32⟩
  | .hbm, ⟨6, _⟩ => ⟨S2048x2048, .f32⟩
  | .hbm, ⟨7, _⟩ => ⟨S2048x256, .f32⟩
  | .hbm, ⟨8, _⟩ => ⟨S2048x256, .bf16⟩
  | .hbm, ⟨9, _⟩ => ⟨S2048x256, .f32⟩
  | .hbm, ⟨10, _⟩ => ⟨S2048x256, .f32⟩
  | .hbm, ⟨11, _⟩ => ⟨S2048x256, .bf16⟩
  | .hbm, ⟨12, _⟩ => ⟨S2048x2048, .bf16⟩
  | .hbm, ⟨13, _⟩ => ⟨S1x1024, .f32⟩
  | .hbm, ⟨14, _⟩ => ⟨S1x2048, .f32⟩
  | .hbm, ⟨15, _⟩ => ⟨S16384x2048, .f32⟩
  | .hbm, ⟨16, _⟩ => ⟨S16384x2048, .f32⟩
  | .hbm, ⟨17, _⟩ => ⟨S16384x256, .f32⟩
  | .local _ .vmem, ⟨0, _⟩ => ⟨S256x2048, .f32⟩
  | .local _ .vmem, ⟨1, _⟩ => ⟨S256x2048, .f32⟩
  | .local _ .vmem, ⟨2, _⟩ => ⟨S256x1024, .bf16⟩
  | .local _ .vmem, ⟨3, _⟩ => ⟨S256x1024, .bf16⟩
  | .local _ .vmem, ⟨4, _⟩ => ⟨S256x1024, .f32⟩
  | .local _ .vmem, ⟨5, _⟩ => ⟨S256x1024, .f32⟩
  | .local _ .vmem, ⟨6, _⟩ => ⟨S1x6x2048, .f32⟩
  | .local _ .vmem, ⟨7, _⟩ => ⟨S1x6x2048, .f32⟩
  | .local _ .vmem, ⟨8, _⟩ => ⟨S1x1024, .f32⟩
  | .local _ .vmem, ⟨9, _⟩ => ⟨S1x2048, .f32⟩
  | .local _ .vmem, ⟨10, _⟩ => ⟨S2048x2048, .bf16⟩
  | .local _ .vmem, ⟨11, _⟩ => ⟨S2048x256, .bf16⟩
  | .local _ .vmem, ⟨12, _⟩ => ⟨S2048x256, .bf16⟩
  | .local _ .vmem, ⟨13, _⟩ => ⟨S256x2048, .f32⟩
  | .local _ .vmem, ⟨14, _⟩ => ⟨S256x2048, .f32⟩
  | .local _ .vmem, ⟨15, _⟩ => ⟨S256x2048, .f32⟩
  | .local _ .vmem, ⟨16, _⟩ => ⟨S256x2048, .f32⟩
  | .local _ .vmem, ⟨17, _⟩ => ⟨S256x256, .f32⟩
  | .local _ .vmem, ⟨18, _⟩ => ⟨S256x256, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7_0 : Ref sig .tc := ⟨.hbm, 15, rfl⟩
abbrev main_v7_1 : Ref sig .tc := ⟨.hbm, 16, rfl⟩
abbrev main_v7_2 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x6x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2048x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2048x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2048x256 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Reference3Ideal.lean ====
abbrev S16384x2048 : Shape := ⟨2, ![16384, 2048]⟩
abbrev S16384x1024 : Shape := ⟨2, ![16384, 1024]⟩
abbrev S4x6x2048 : Shape := ⟨3, ![4, 6, 2048]⟩
abbrev S1024 : Shape := ⟨1, ![1024]⟩
abbrev S2048 : Shape := ⟨1, ![2048]⟩
abbrev S2048x2048 : Shape := ⟨2, ![2048, 2048]⟩
abbrev S2048x256 : Shape := ⟨2, ![2048, 256]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S4x4096x2048 : Shape := ⟨3, ![4, 4096, 2048]⟩
abbrev S4x1x2048 : Shape := ⟨3, ![4, 1, 2048]⟩
abbrev S4x4096 : Shape := ⟨2, ![4, 4096]⟩
abbrev S4x4096x1 : Shape := ⟨3, ![4, 4096, 1]⟩
abbrev S1x1x2048 : Shape := ⟨3, ![1, 1, 2048]⟩
abbrev S16384x256 : Shape := ⟨2, ![16384, 256]⟩

abbrev nBuf : Space → Nat
  | .hbm => 62
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S16384x1024, .bf16⟩
  | .hbm, ⟨2, _⟩ => ⟨S16384x1024, .f32⟩
  | .hbm, ⟨3, _⟩ => ⟨S4x6x2048, .f32⟩
  | .hbm, ⟨4, _⟩ => ⟨S1024, .f32⟩
  | .hbm, ⟨5, _⟩ => ⟨S2048, .f32⟩
  | .hbm, ⟨6, _⟩ => ⟨S2048x2048, .f32⟩
  | .hbm, ⟨7, _⟩ => ⟨S2048x256, .f32⟩
  | .hbm, ⟨8, _⟩ => ⟨S16384x1024, .f32⟩
  | .hbm, ⟨9, _⟩ => ⟨S16384x1024, .f32⟩
  | .hbm, ⟨10, _⟩ => ⟨S_, .f32⟩
  | .hbm, ⟨11, _⟩ => ⟨S16384, .f32⟩
  | .hbm, ⟨12, _⟩ => ⟨S16384x1, .f32⟩
  | .hbm, ⟨13, _⟩ => ⟨S_, .f32⟩
  | .hbm, ⟨14, _⟩ => ⟨S16384x1, .f32⟩
  | .hbm, ⟨15, _⟩ => ⟨S16384x1, .f32⟩
  | .hbm, ⟨16, _⟩ => ⟨S_, .f32⟩
  | .hbm, ⟨17, _⟩ => ⟨S16384x1, .f32⟩
  | .hbm, ⟨18, _⟩ => ⟨S16384x1, .f32⟩
  | .hbm, ⟨19, _⟩ => ⟨S16384x1, .f32⟩
  | .hbm, ⟨20, _⟩ => ⟨S16384x1024, .f32⟩
  | .hbm, ⟨21, _⟩ => ⟨S16384x1024, .f32⟩
  | .hbm, ⟨22, _⟩ => ⟨S1x1024, .f32⟩
  | .hbm, ⟨23, _⟩ => ⟨S16384x1024, .f32⟩
  | .hbm, ⟨24, _⟩ => ⟨S16384x1024, .f32⟩
  | .hbm, ⟨25, _⟩ => ⟨S16384x2048, .f32⟩
  | .hbm, ⟨26, _⟩ => ⟨S16384x2048, .f32⟩
  | .hbm, ⟨27, _⟩ => ⟨S4x4096x2048, .f32⟩
  | .hbm, ⟨28, _⟩ => ⟨S4x1x2048, .f32⟩
  | .hbm, ⟨29, _⟩ => ⟨S4x4096x2048, .f32⟩
  | .hbm, ⟨30, _⟩ => ⟨S4x4096x2048, .f32⟩
  | .hbm, ⟨31, _⟩ => ⟨S4x4096x2048, .f32⟩
  | .hbm, ⟨32, _⟩ => ⟨S4x4096x2048, .f32⟩
  | .hbm, ⟨33, _⟩ => ⟨S4x4096x2048, .f32⟩
  | .hbm, ⟨34, _⟩ => ⟨S_, .f32⟩
  | .hbm, ⟨35, _⟩ => ⟨S4x4096, .f32⟩
  | .hbm, ⟨36, _⟩ => ⟨S4x4096x1, .f32⟩
  | .hbm, ⟨37, _⟩ => ⟨S_, .f32⟩
  | .hbm, ⟨38, _⟩ => ⟨S4x4096x1, .f32⟩
  | .hbm, ⟨39, _⟩ => ⟨S4x4096x1, .f32⟩
  | .hbm, ⟨40, _⟩ => ⟨S_, .f32⟩
  | .hbm, ⟨41, _⟩ => ⟨S4x4096x1, .f32⟩
  | .hbm, ⟨42, _⟩ => ⟨S4x4096x1, .f32⟩
  | .hbm, ⟨43, _⟩ => ⟨S4x4096x1, .f32⟩
  | .hbm, ⟨44, _⟩ => ⟨S4x4096x2048, .f32⟩
  | .hbm, ⟨45, _⟩ => ⟨S4x4096x2048, .f32⟩
  | .hbm, ⟨46, _⟩ => ⟨S1x1x2048, .f32⟩
  | .hbm, ⟨47, _⟩ => ⟨S4x4096x2048, .f32⟩
  | .hbm, ⟨48, _⟩ => ⟨S4x4096x2048, .f32⟩
  | .hbm, ⟨49, _⟩ => ⟨S4x1x2048, .f32⟩
  | .hbm, ⟨50, _⟩ => ⟨S_, .f32⟩
  | .hbm, ⟨51, _⟩ => ⟨S4x1x2048, .f32⟩
  | .hbm, ⟨52, _⟩ => ⟨S4x1x2048, .f32⟩
  | .hbm, ⟨53, _⟩ => ⟨S4x4096x2048, .f32⟩
  | .hbm, ⟨54, _⟩ => ⟨S4x4096x2048, .f32⟩
  | .hbm, ⟨55, _⟩ => ⟨S4x1x2048, .f32⟩
  | .hbm, ⟨56, _⟩ => ⟨S4x4096x2048, .f32⟩
  | .hbm, ⟨57, _⟩ => ⟨S4x4096x2048, .f32⟩
  | .hbm, ⟨58, _⟩ => ⟨S16384x2048, .f32⟩
  | .hbm, ⟨59, _⟩ => ⟨S16384x2048, .f32⟩
  | .hbm, ⟨60, _⟩ => ⟨S16384x2048, .f32⟩
  | .hbm, ⟨61, _⟩ => ⟨S16384x256, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_cst_1 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_2 : Ref sig .tc := ⟨.hbm, 34, rfl⟩
abbrev main_v23 : Ref sig .tc := ⟨.hbm, 35, rfl⟩
abbrev main_v24 : Ref sig .tc := ⟨.hbm, 36, rfl⟩
abbrev main_cst_3 : Ref sig .tc := ⟨.hbm, 37, rfl⟩
abbrev main_v25 : Ref sig .tc := ⟨.hbm, 38, rfl⟩
abbrev main_v26 : Ref sig .tc := ⟨.hbm, 39, rfl⟩
abbrev main_cst_4 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_5 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩

abbrev nD : Nat := 1
abbrev τ : Topo := Topo.v7x

variable {F : FTy → Type} [FloatOps F]
-- ==== Kernel4.lean ====
abbrev S4x2048 : Shape := ⟨2, ![4, 2048]⟩
abbrev S2048x12288 : Shape := ⟨2, ![2048, 12288]⟩
abbrev S12288 : Shape := ⟨1, ![12288]⟩
abbrev S_ : Shape := ⟨0, ![]⟩
abbrev S8x2048 : Shape := ⟨2, ![8, 2048]⟩
abbrev S1x12288 : Shape := ⟨2, ![1, 12288]⟩
abbrev S8x12288 : Shape := ⟨2, ![8, 12288]⟩
abbrev S2048x1024 : Shape := ⟨2, ![2048, 1024]⟩
abbrev S1x1024 : Shape := ⟨2, ![1, 1024]⟩
abbrev S8x1024 : Shape := ⟨2, ![8, 1024]⟩
abbrev S4x12288 : Shape := ⟨2, ![4, 12288]⟩

abbrev nBuf : Space → Nat
  | .hbm => 9
  | .vmem => 7
  | .smem => 0
  | _ => 0

abbrev bufTy : (tb : Table) → Fin (tcTables nBuf tb) → BufTy
  | .hbm, ⟨0, _⟩ => ⟨S4x2048, .f32⟩
  | .hbm, ⟨1, _⟩ => ⟨S2048x12288, .f32⟩
  | .hbm, ⟨2, _⟩ => ⟨S12288, .f32⟩
  | .hbm, ⟨3, _⟩ => ⟨S_, .i32⟩
  | .hbm, ⟨4, _⟩ => ⟨S_, .f32⟩
  | .hbm, ⟨5, _⟩ => ⟨S8x2048, .f32⟩
  | .hbm, ⟨6, _⟩ => ⟨S1x12288, .f32⟩
  | .hbm, ⟨7, _⟩ => ⟨S8x12288, .f32⟩
  | .hbm, ⟨8, _⟩ => ⟨S4x12288, .f32⟩
  | .local _ .vmem, ⟨0, _⟩ => ⟨S8x2048, .f32⟩
  | .local _ .vmem, ⟨1, _⟩ => ⟨S2048x1024, .f32⟩
  | .local _ .vmem, ⟨2, _⟩ => ⟨S2048x1024, .f32⟩
  | .local _ .vmem, ⟨3, _⟩ => ⟨S1x1024, .f32⟩
  | .local _ .vmem, ⟨4, _⟩ => ⟨S1x1024, .f32⟩
  | .local _ .vmem, ⟨5, _⟩ => ⟨S8x1024, .f32⟩
  | .local _ .vmem, ⟨6, _⟩ => ⟨S8x1024, .f32⟩
  | _, _ => ⟨S4x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![12], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S8x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference4Ideal.lean ====
abbrev S4x2048 : Shape := ⟨2, ![4, 2048]⟩
abbrev S2048x12288 : Shape := ⟨2, ![2048, 12288]⟩
abbrev S12288 : Shape := ⟨1, ![12288]⟩
abbrev S_ : Shape := ⟨0, ![]⟩
abbrev S4x12288 : Shape := ⟨2, ![4, 12288]⟩
abbrev S1x12288 : Shape := ⟨2, ![1, 12288]⟩

abbrev nBuf : Space → Nat
  | .hbm => 16
  | .vmem => 0
  | .smem => 0
  | _ => 0

abbrev bufTy : (tb : Table) → Fin (tcTables nBuf tb) → BufTy
  | .hbm, ⟨0, _⟩ => ⟨S4x2048, .f32⟩
  | .hbm, ⟨1, _⟩ => ⟨S2048x12288, .f32⟩
  | .hbm, ⟨2, _⟩ => ⟨S12288, .f32⟩
  | .hbm, ⟨3, _⟩ => ⟨S4x2048, .f32⟩
  | .hbm, ⟨4, _⟩ => ⟨S4x2048, .f32⟩
  | .hbm, ⟨5, _⟩ => ⟨S_, .f32⟩
  | .hbm, ⟨6, _⟩ => ⟨S4x2048, .f32⟩
  | .hbm, ⟨7, _⟩ => ⟨S4x2048, .f32⟩
  | .hbm, ⟨8, _⟩ => ⟨S_, .f32⟩
  | .hbm, ⟨9, _⟩ => ⟨S4x2048, .f32⟩
  | .hbm, ⟨10, _⟩ => ⟨S4x2048, .f32⟩
  | .hbm, ⟨11, _⟩ => ⟨S4x2048, .f32⟩
  | .hbm, ⟨12, _⟩ => ⟨S4x12288, .f32⟩
  | .hbm, ⟨13, _⟩ => ⟨S1x12288, .f32⟩
  | .hbm, ⟨14, _⟩ => ⟨S4x12288, .f32⟩
  | .hbm, ⟨15, _⟩ => ⟨S4x12288, .f32⟩
  | _, _ => ⟨S4x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩

abbrev nD : Nat := 1
abbrev τ : Topo := Topo.v7x

variable {F : FTy → Type} [FloatOps F]
-- ==== Kernel5.lean ====
abbrev S8x16384 : Shape := ⟨2, ![8, 16384]⟩
abbrev S196608x2048 : Shape := ⟨2, ![196608, 2048]⟩
abbrev S16384x2048 : Shape := ⟨2, ![16384, 2048]⟩
abbrev S16384x8 : Shape := ⟨2, ![16384, 8]⟩
abbrev S4x6x2048 : Shape := ⟨3, ![4, 6, 2048]⟩
abbrev S2048 : Shape := ⟨1, ![2048]⟩
abbrev S2048x512 : Shape := ⟨2, ![2048, 512]⟩
abbrev S512x2048 : Shape := ⟨2, ![512, 2048]⟩
abbrev S_ : Shape := ⟨0, ![]⟩
abbrev S8x16384x1 : Shape := ⟨3, ![8, 16384, 1]⟩
abbrev S8x16384x2048 : Shape := ⟨3, ![8, 16384, 2048]⟩
abbrev S1x2048 : Shape := ⟨2, ![1, 2048]⟩
abbrev S8x128x2048 : Shape := ⟨3, ![8, 128, 2048]⟩
abbrev S128x2048 : Shape := ⟨2, ![128, 2048]⟩
abbrev S128x8 : Shape := ⟨2, ![128, 8]⟩
abbrev S1x6x2048 : Shape := ⟨3, ![1, 6, 2048]⟩
abbrev S128x512 : Shape := ⟨2, ![128, 512]⟩
abbrev S1x128x2048 : Shape := ⟨3, ![1, 128, 2048]⟩
abbrev S128x1 : Shape := ⟨2, ![128, 1]⟩
abbrev S1x1x2048 : Shape := ⟨3, ![1, 1, 2048]⟩
abbrev S128 : Shape := ⟨1, ![128]⟩

abbrev nBuf : Space → Nat
  | .hbm => 24
  | .vmem => 16
  | .smem => 0
  | _ => 0

abbrev bufTy : (tb : Table) → Fin (tcTables nBuf tb) → BufTy
  | .hbm, ⟨0, _⟩ => ⟨S8x16384, .i32⟩
  | .hbm, ⟨1, _⟩ => ⟨S196608x2048, .f32⟩
  | .hbm, ⟨2, _⟩ => ⟨S16384x2048, .f32⟩
  | .hbm, ⟨3, _⟩ => ⟨S16384x2048, .f32⟩
  | .hbm, ⟨4, _⟩ => ⟨S16384x8, .f32⟩
  | .hbm, ⟨5, _⟩ => ⟨S4x6x2048, .f32⟩
  | .hbm, ⟨6, _⟩ => ⟨S2048, .f32⟩
  | .hbm, ⟨7, _⟩ => ⟨S2048x512, .f32⟩
  | .hbm, ⟨8, _⟩ => ⟨S2048x512, .f32⟩
  | .hbm, ⟨9, _⟩ => ⟨S512x2048, .f32⟩
  | .hbm, ⟨10, _⟩ => ⟨S2048x512, .bf16⟩
  | .hbm, ⟨11, _⟩ => ⟨S2048x512, .bf16⟩
  | .hbm, ⟨12, _⟩ => ⟨S512x2048, .bf16⟩
  | .hbm, ⟨13, _⟩ => ⟨S_, .i32⟩
  | .hbm, ⟨14, _⟩ => ⟨S8x16384, .i32⟩
  | .hbm, ⟨15, _⟩ => ⟨S8x16384, .i1⟩
  | .hbm, ⟨16, _⟩ => ⟨S_, .i32⟩
  | .hbm, ⟨17, _⟩ => ⟨S8x16384, .i32⟩
  | .hbm, ⟨18, _⟩ => ⟨S8x16384, .i32⟩
  | .hbm, ⟨19, _⟩ => ⟨S8x16384, .i32⟩
  | .hbm, ⟨20, _⟩ => ⟨S8x16384x1, .i32⟩
  | .hbm, ⟨21, _⟩ => ⟨S8x16384x2048, .f32⟩
  | .hbm, ⟨22, _⟩ => ⟨S1x2048, .f32⟩
  | .hbm, ⟨23, _⟩ => ⟨S16384x2048, .f32⟩
  | .local _ .vmem, ⟨0, _⟩ => ⟨S8x128x2048, .f32⟩
  | .local _ .vmem, ⟨1, _⟩ => ⟨S8x128x2048, .f32⟩
  | .local _ .vmem, ⟨2, _⟩ => ⟨S128x2048, .f32⟩
  | .local _ .vmem, ⟨3, _⟩ => ⟨S128x2048, .f32⟩
  | .local _ .vmem, ⟨4, _⟩ => ⟨S128x2048, .f32⟩
  | .local _ .vmem, ⟨5, _⟩ => ⟨S128x2048, .f32⟩
  | .local _ .vmem, ⟨6, _⟩ => ⟨S128x8, .f32⟩
  | .local _ .vmem, ⟨7, _⟩ => ⟨S128x8, .f32⟩
  | .local _ .vmem, ⟨8, _⟩ => ⟨S1x6x2048, .f32⟩
  | .local _ .vmem, ⟨9, _⟩ => ⟨S1x6x2048, .f32⟩
  | .local _ .vmem, ⟨10, _⟩ => ⟨S1x2048, .f32⟩
  | .local _ .vmem, ⟨11, _⟩ => ⟨S2048x512, .bf16⟩
  | .local _ .vmem, ⟨12, _⟩ => ⟨S2048x512, .bf16⟩
  | .local _ .vmem, ⟨13, _⟩ => ⟨S512x2048, .bf16⟩
  | .local _ .vmem, ⟨14, _⟩ => ⟨S128x2048, .f32⟩
  | .local _ .vmem, ⟨15, _⟩ => ⟨S128x2048, .f32⟩
  | _, _ => ⟨S8x16384, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_c : Ref sig .tc := ⟨.hbm, 13, rfl⟩
abbrev main_v3 : Ref sig .tc := ⟨.hbm, 14, rfl⟩
abbrev main_v4 : Ref sig .tc := ⟨.hbm, 15, rfl⟩
abbrev main_c_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![128], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x8 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x6x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2048x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2048x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x2048 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S128x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference5Ideal.lean ====
abbrev S8x16384 : Shape := ⟨2, ![8, 16384]⟩
abbrev S196608x2048 : Shape := ⟨2, ![196608, 2048]⟩
abbrev S16384x2048 : Shape := ⟨2, ![16384, 2048]⟩
abbrev S16384x8 : Shape := ⟨2, ![16384, 8]⟩
abbrev S4x6x2048 : Shape := ⟨3, ![4, 6, 2048]⟩
abbrev S2048 : Shape := ⟨1, ![2048]⟩
abbrev S2048x512 : Shape := ⟨2, ![2048, 512]⟩
abbrev S512x2048 : Shape := ⟨2, ![512, 2048]⟩
abbrev S_ : Shape := ⟨0, ![]⟩
abbrev S8x16384x1 : Shape := ⟨3, ![8, 16384, 1]⟩
abbrev S8x16384x2048 : Shape := ⟨3, ![8, 16384, 2048]⟩
abbrev S16384x512 : Shape := ⟨2, ![16384, 512]⟩
abbrev S4x4096x2048 : Shape := ⟨3, ![4, 4096, 2048]⟩
abbrev S4x1x2048 : Shape := ⟨3, ![4, 1, 2048]⟩
abbrev S4x4096 : Shape := ⟨2, ![4, 4096]⟩
abbrev S4x4096x1 : Shape := ⟨3, ![4, 4096, 1]⟩
abbrev S1x1x2048 : Shape := ⟨3, ![1, 1, 2048]⟩

abbrev nBuf : Space → Nat
  | .hbm => 62
  | .vmem => 0
  | .smem => 0
  | _ => 0

abbrev bufTy : (tb : Table) → Fin (tcTables nBuf tb) → BufTy
  | .hbm, ⟨0, _⟩ => ⟨S8x16384, .i32⟩
  | .hbm, ⟨1, _⟩ => ⟨S196608x2048, .f32⟩
  | .hbm, ⟨2, _⟩ => ⟨S16384x2048, .f32⟩
  | .hbm, ⟨3, _⟩ => ⟨S16384x2048, .f32⟩
  | .hbm, ⟨4, _⟩ => ⟨S16384x8, .f32⟩
  | .hbm, ⟨5, _⟩ => ⟨S4x6x2048, .f32⟩
  | .hbm, ⟨6, _⟩ => ⟨S2048, .f32⟩
  | .hbm, ⟨7, _⟩ => ⟨S2048x512, .f32⟩
  | .hbm, ⟨8, _⟩ => ⟨S2048x512, .f32⟩
  | .hbm, ⟨9, _⟩ => ⟨S512x2048, .f32⟩
  | .hbm, ⟨10, _⟩ => ⟨S_, .i32⟩
  | .hbm, ⟨11, _⟩ => ⟨S8x16384, .i32⟩
  | .hbm, ⟨12, _⟩ => ⟨S8x16384, .i1⟩
  | .hbm, ⟨13, _⟩ => ⟨S_, .i32⟩
  | .hbm, ⟨14, _⟩ => ⟨S8x16384, .i32⟩
  | .hbm, ⟨15, _⟩ => ⟨S8x16384, .i32⟩
  | .hbm, ⟨16, _⟩ => ⟨S8x16384, .i32⟩
  | .hbm, ⟨17, _⟩ => ⟨S8x16384x1, .i32⟩
  | .hbm, ⟨18, _⟩ => ⟨S8x16384x2048, .f32⟩
  | .hbm, ⟨19, _⟩ => ⟨S8x16384, .f32⟩
  | .hbm, ⟨20, _⟩ => ⟨S8x16384x1, .f32⟩
  | .hbm, ⟨21, _⟩ => ⟨S8x16384x2048, .f32⟩
  | .hbm, ⟨22, _⟩ => ⟨S8x16384x2048, .f32⟩
  | .hbm, ⟨23, _⟩ => ⟨S_, .f32⟩
  | .hbm, ⟨24, _⟩ => ⟨S16384x2048, .f32⟩
  | .hbm, ⟨25, _⟩ => ⟨S16384x512, .f32⟩
  | .hbm, ⟨26, _⟩ => ⟨S16384x512, .f32⟩
  | .hbm, ⟨27, _⟩ => ⟨S16384x512, .f32⟩
  | .hbm, ⟨28, _⟩ => ⟨S_, .f32⟩
  | .hbm, ⟨29, _⟩ => ⟨S16384x512, .f32⟩
  | .hbm, ⟨30, _⟩ => ⟨S16384x512, .f32⟩
  | .hbm, ⟨31, _⟩ => ⟨S_, .f32⟩
  | .hbm, ⟨32, _⟩ => ⟨S16384x512, .f32⟩
  | .hbm, ⟨33, _⟩ => ⟨S16384x512, .f32⟩
  | .hbm, ⟨34, _⟩ => ⟨S16384x512, .f32⟩
  | .hbm, ⟨35, _⟩ => ⟨S16384x512, .f32⟩
  | .hbm, ⟨36, _⟩ => ⟨S16384x512, .f32⟩
  | .hbm, ⟨37, _⟩ => ⟨S16384x2048, .f32⟩
  | .hbm, ⟨38, _⟩ => ⟨S4x4096x2048, .f32⟩
  | .hbm, ⟨39, _⟩ => ⟨S4x1x2048, .f32⟩
  | .hbm, ⟨40, _⟩ => ⟨S16384x2048, .f32⟩
  | .hbm, ⟨41, _⟩ => ⟨S4x4096x2048, .f32⟩
  | .hbm, ⟨42, _⟩ => ⟨S4x4096x2048, .f32⟩
  | .hbm, ⟨43, _⟩ => ⟨S4x4096x2048, .f32⟩
  | .hbm, ⟨44, _⟩ => ⟨S4x4096x2048, .f32⟩
  | .hbm, ⟨45, _⟩ => ⟨S4x4096x2048, .f32⟩
  | .hbm, ⟨46, _⟩ => ⟨S_, .f32⟩
  | .hbm, ⟨47, _⟩ => ⟨S4x4096, .f32⟩
  | .hbm, ⟨48, _⟩ => ⟨S4x4096x1, .f32⟩
  | .hbm, ⟨49, _⟩ => ⟨S_, .f32⟩
  | .hbm, ⟨50, _⟩ => ⟨S4x4096x1, .f32⟩
  | .hbm, ⟨51, _⟩ => ⟨S4x4096x1, .f32⟩
  | .hbm, ⟨52, _⟩ => ⟨S_, .f32⟩
  | .hbm, ⟨53, _⟩ => ⟨S4x4096x1, .f32⟩
  | .hbm, ⟨54, _⟩ => ⟨S4x4096x1, .f32⟩
  | .hbm, ⟨55, _⟩ => ⟨S4x4096x1, .f32⟩
  | .hbm, ⟨56, _⟩ => ⟨S4x4096x2048, .f32⟩
  | .hbm, ⟨57, _⟩ => ⟨S4x4096x2048, .f32⟩
  | .hbm, ⟨58, _⟩ => ⟨S1x1x2048, .f32⟩
  | .hbm, ⟨59, _⟩ => ⟨S4x4096x2048, .f32⟩
  | .hbm, ⟨60, _⟩ => ⟨S4x4096x2048, .f32⟩
  | .hbm, ⟨61, _⟩ => ⟨S16384x2048, .f32⟩
  | _, _ => ⟨S8x16384, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_v0 : Ref sig .tc := ⟨.hbm, 11, rfl⟩
abbrev main_v1 : Ref sig .tc := ⟨.hbm, 12, rfl⟩
abbrev main_c_0 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_call0_v0 : Ref sig .tc := ⟨.hbm, 26, rfl⟩
abbrev main_call0_v1 : Ref sig .tc := ⟨.hbm, 27, rfl⟩
abbrev main_call0_cst : Ref sig .tc := ⟨.hbm, 28, rfl⟩
abbrev main_call0_v2 : Ref sig .tc := ⟨.hbm, 29, rfl⟩
abbrev main_call0_v3 : Ref sig .tc := ⟨.hbm, 30, rfl⟩
abbrev main_call0_cst_0 : Ref sig .tc := ⟨.hbm, 31, rfl⟩
abbrev main_call0_v4 : Ref sig .tc := ⟨.hbm, 32, rfl⟩
abbrev main_call0_v5 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_cst_1 : Ref sig .tc := ⟨.hbm, 46, rfl⟩
abbrev main_v25 : Ref sig .tc := ⟨.hbm, 47, rfl⟩
abbrev main_v26 : Ref sig .tc := ⟨.hbm, 48, rfl⟩
abbrev main_cst_2 : Ref sig .tc := ⟨.hbm, 49, rfl⟩
abbrev main_v27 : Ref sig .tc := ⟨.hbm, 50, rfl⟩
abbrev main_v28 : Ref sig .tc := ⟨.hbm, 51, rfl⟩
abbrev main_cst_3 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩

abbrev nD : Nat := 1
abbrev τ : Topo := Topo.v7x

variable {F : FTy → Type} [FloatOps F]
-- ==== Proof.BodyIdeal.lean ====
module

public import proofs.«01_k».proof.Proof.Gen.KernelIdeal.Skeleton
public import proofs.«01_k».proof.Proof.Gen.KernelIdeal.Launch
public import Idealize.ShloMosaic.Lib.Pipeline.Kit
public import Idealize.ShloMosaic.Lib.Pipeline.Quiescent
public import Idealize.ShloMosaic.Lib.Pipeline.TableIdle
public import Idealize.ShloMosaic.Lib.Pipeline.FrameBody
public import Idealize.ShloMosaic.Lib.Writes
public import Idealize.ShloMosaic.Lib.VecWindow
public import Idealize.ShloMosaic.Lib.Ring
public import Idealize.ShloMosaic.Lib.Exec
public import Idealize.ShloMosaic.Lib.Affine
public import Idealize.ShloMosaic.Lib.Tactic
public import Idealize.ShloMosaic.Lib.Claim
public import Idealize.ShloMosaic.PureOps.Ideal
public import Idealize.ShloMosaic.Adequacy
public import Idealize.ShloMosaic.Init

@[expose] public section

set_option maxRecDepth 16384

noncomputable section

namespace Cert.KernelIdeal.Experts

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The two prefetched tables, whole: each block's expert, and the number of used blocks. -/
abbrev tabE : Memref sig .tc .smem S768 .i32 := Memref.whole main_arg0
abbrev tabN : Memref sig .tc .smem S1 .i32 := Memref.whole main_arg1
/-- The three scratches: the current expert's gate, up and down weights. -/
abbrev scG : Memref sig .tc .vmem S2048x512 .bf16 := Memref.whole cc0_scratch0
abbrev scU : Memref sig .tc .vmem S2048x512 .bf16 := Memref.whole cc0_scratch1
abbrev scD : Memref sig .tc .vmem S512x2048 .bf16 := Memref.whole cc0_scratch2

/-- The number of used blocks, as the body reads it. -/
abbrev nWord (T1 : S1.Idx → Elt F .i32) : Elt F .i32 :=
  View.readAt (Elt F) tabN.view (Rect.unit (s := S1) ![0] S1.size inb_S1_S1_0).toLoadRect T1 (Shape.Idx.first (numel1_S1.symm ▸ Nat.one_pos))

/-- The expert of the point's block, and of the block before it, as the body reads them. -/
abbrev eWord (T0 : S768.Idx → Elt F .i32) (i : grid0.Coords) : Elt F .i32 :=
  View.readAt (Elt F) tabE.view (Rect.unit (s := S768) (k0_off1 i) S1.size (k0_off1_inb i)).toLoadRect T0 (Shape.Idx.first (numel1_S1.symm ▸ Nat.one_pos))
abbrev pWord (T0 : S768.Idx → Elt F .i32) (i : grid0.Coords) : Elt F .i32 :=
  View.readAt (Elt F) tabE.view (Rect.unit (s := S768) (k0_off2 i) S1.size (k0_off2_inb i)).toLoadRect T0 (Shape.Idx.first (numel1_S1.symm ▸ Nat.one_pos))

/-- The body loads the expert's weights at this point: the block is used, and it is the first or has another expert. -/
abbrev Loads (T0 : S768.Idx → Elt F .i32) (T1 : S1.Idx → Elt F .i32) (i : grid0.Coords) : Prop :=
  Scalar.cmpi .ne (Scalar.extui (Scalar.andi (Scalar.cmpi .slt (BitVec.ofNat 32 (i 0).val) (nWord T1))
    (Scalar.ori (Scalar.cmpi .eq (BitVec.ofNat 32 (i 0).val) 0#32) (Scalar.cmpi .ne (eWord T0 i) (pWord T0 i))))) 0#32 = 1#1

/-- The block is used. -/
abbrev Used (T1 : S1.Idx → Elt F .i32) (i : grid0.Coords) : Prop := k0_cond2 i (nWord T1) = 1#1

section
variable (c : Dev nD) (i : grid0.Coords) (arg3 : Memref sig .tc .vmem S256x2048 .f32) (harg3 : arg3.IsWhole)
  (arg4 : Memref sig .tc .vmem S1x2048x512 .f32) (harg4 : arg4.IsWhole) (arg5 : Memref sig .tc .vmem S1x2048x512 .f32) (harg5 : arg5.IsWhole)
  (arg6 : Memref sig .tc .vmem S1x512x2048 .f32) (harg6 : arg6.IsWhole) (arg7 : Memref sig .tc .vmem S256x2048 .f32) (harg7 : arg7.IsWhole)
  (T0 : S768.Idx → Elt F .i32) (T1 : S1.Idx → Elt F .i32)
  (x0 : S256x2048.Idx → Elt F .f32) (x1 x2 : S1x2048x512.Idx → Elt F .f32) (x3 : S1x512x2048.Idx → Elt F .f32)

/-- The kernel body on these memrefs. -/
abbrev bodyOn : Prog (TpuEff nD τ sig (Elt F) Λ₀ .tc) PUnit :=
  cc0_experts i tabE (Memref.isWhole_whole _) tabN (Memref.isWhole_whole _) arg3 harg3 arg4 harg4 arg5 harg5 arg6 harg6 arg7 harg7
    scG (Memref.isWhole_whole _) scU (Memref.isWhole_whole _) scD (Memref.isWhole_whole _)

/-- What the body only reads: the four input blocks and the two tables. -/
abbrev held : sProp 𝕄 :=
  iprop((arg3.view.loc (c : Thread nD τ) ↦[arg3.view.set]{fullShare} arg3.view.rep x0)
    ∗ (arg4.view.loc (c : Thread nD τ) ↦[arg4.view.set]{fullShare} arg4.view.rep x1)
    ∗ (arg5.view.loc (c : Thread nD τ) ↦[arg5.view.set]{fullShare} arg5.view.rep x2)
    ∗ (arg6.view.loc (c : Thread nD τ) ↦[arg6.view.set]{fullShare} arg6.view.rep x3)
    ∗ (tabE.view.loc (c : Thread nD τ) ↦{fullShare.right} T0)
    ∗ (tabN.view.loc (c : Thread nD τ) ↦{fullShare.right} T1))

/-- The three scratches at these contents. -/
abbrev scr (a0 a1 : S2048x512.Idx → Elt F .bf16) (a2 : S512x2048.Idx → Elt F .bf16) : sProp 𝕄 :=
  iprop((scG.view.loc (c : Thread nD τ) ↦{fullShare} (a0 : Buf (Elt F) ((c : Thread nD τ).loc cc0_scratch0)))
    ∗ (scU.view.loc (c : Thread nD τ) ↦{fullShare} (a1 : Buf (Elt F) ((c : Thread nD τ).loc cc0_scratch1)))
    ∗ (scD.view.loc (c : Thread nD τ) ↦{fullShare} (a2 : Buf (Elt F) ((c : Thread nD τ).loc cc0_scratch2))))

omit [FloatOps F] in
/-- The first scratch, whole, reads its contents; -/
theorem readG (f : (View.whole cc0_scratch0 : View sig .tc .vmem S2048x512 .bf16).ty.Contents (Elt F)) : (View.whole cc0_scratch0 : View sig .tc .vmem S2048x512 .bf16).read (Elt F) f = f := rfl
/-- loaded whole, it reads its contents; -/
theorem loadG (inb : ∀ a, (![0, 0] : Fin 2 → ℕ) a + (![2048, 512] : Fin 2 → ℕ) a ≤ S2048x512.size a) (f : (View.whole cc0_scratch0 : View sig .tc .vmem S2048x512 .bf16).ty.Contents (Elt F)) :
    (View.whole cc0_scratch0 : View sig .tc .vmem S2048x512 .bf16).readAt (Elt F) (Rect.unit (s := S2048x512) ![0, 0] ![2048, 512] inb).toLoadRect f = f := View.readAt_full (View.whole cc0_scratch0 : View sig .tc .vmem S2048x512 .bf16) f inb
/-- stored whole, it holds the payload; -/
theorem writtenG (inb : ∀ a, (![0, 0] : Fin 2 → ℕ) a + (![2048, 512] : Fin 2 → ℕ) a ≤ S2048x512.size a) (f : (View.whole cc0_scratch0 : View sig .tc .vmem S2048x512 .bf16).ty.Contents (Elt F)) (w : S2048x512.Idx → Elt F .bf16) :
    (View.whole cc0_scratch0 : View sig .tc .vmem S2048x512 .bf16).writes (Elt F) f [⟨Rect.unit (s := S2048x512) ![0, 0] ![2048, 512] inb, w⟩] = w :=
  (readG _).symm.trans (View.read_writes_full (View.whole cc0_scratch0 : View sig .tc .vmem S2048x512 .bf16) f inb w [])
/-- and loaded whole after that, it reads the payload. -/
theorem covG (inb : ∀ a, (![0, 0] : Fin 2 → ℕ) a + (![2048, 512] : Fin 2 → ℕ) a ≤ S2048x512.size a) (w : S2048x512.Idx → Elt F .bf16) :
    (View.whole cc0_scratch0 : View sig .tc .vmem S2048x512 .bf16).readCov [⟨Rect.unit (s := S2048x512) ![0, 0] ![2048, 512] inb, w⟩] (Rect.unit (s := S2048x512) ![0, 0] ![2048, 512] inb).toLoadRect = w :=
  View.readCov_full (View.whole cc0_scratch0 : View sig .tc .vmem S2048x512 .bf16) inb inb w []

omit [FloatOps F] in
/-- The second scratch, whole, reads its contents; -/
theorem readU (f : (View.whole cc0_scratch1 : View sig .tc .vmem S2048x512 .bf16).ty.Contents (Elt F)) : (View.whole cc0_scratch1 : View sig .tc .vmem S2048x512 .bf16).read (Elt F) f = f := rfl
/-- loaded whole, it reads its contents; -/
theorem loadU (inb : ∀ a, (![0, 0] : Fin 2 → ℕ) a + (![2048, 512] : Fin 2 → ℕ) a ≤ S2048x512.size a) (f : (View.whole cc0_scratch1 : View sig .tc .vmem S2048x512 .bf16).ty.Contents (Elt F)) :
    (View.whole cc0_scratch1 : View sig .tc .vmem S2048x512 .bf16).readAt (Elt F) (Rect.unit (s := S2048x512) ![0, 0] ![2048, 512] inb).toLoadRect f = f := View.readAt_full (View.whole cc0_scratch1 : View sig .tc .vmem S2048x512 .bf16) f inb
/-- stored whole, it holds the payload; -/
theorem writtenU (inb : ∀ a, (![0, 0] : Fin 2 → ℕ) a + (![2048, 512] : Fin 2 → ℕ) a ≤ S2048x512.size a) (f : (View.whole cc0_scratch1 : View sig .tc .vmem S2048x512 .bf16).ty.Contents (Elt F)) (w : S2048x512.Idx → Elt F .bf16) :
    (View.whole cc0_scratch1 : View sig .tc .vmem S2048x512 .bf16).writes (Elt F) f [⟨Rect.unit (s := S2048x512) ![0, 0] ![2048, 512] inb, w⟩] = w :=
  (readU _).symm.trans (View.read_writes_full (View.whole cc0_scratch1 : View sig .tc .vmem S2048x512 .bf16) f inb w [])
/-- and loaded whole after that, it reads the payload. -/
theorem covU (inb : ∀ a, (![0, 0] : Fin 2 → ℕ) a + (![2048, 512] : Fin 2 → ℕ) a ≤ S2048x512.size a) (w : S2048x512.Idx → Elt F .bf16) :
    (View.whole cc0_scratch1 : View sig .tc .vmem S2048x512 .bf16).readCov [⟨Rect.unit (s := S2048x512) ![0, 0] ![2048, 512] inb, w⟩] (Rect.unit (s := S2048x512) ![0, 0] ![2048, 512] inb).toLoadRect = w :=
  View.readCov_full (View.whole cc0_scratch1 : View sig .tc .vmem S2048x512 .bf16) inb inb w []

omit [FloatOps F] in
/-- The third scratch, whole, reads its contents; -/
theorem readD (f : (View.whole cc0_scratch2 : View sig .tc .vmem S512x2048 .bf16).ty.Contents (Elt F)) : (View.whole cc0_scratch2 : View sig .tc .vmem S512x2048 .bf16).read (Elt F) f = f := rfl
/-- loaded whole, it reads its contents; -/
theorem loadD (inb : ∀ a, (![0, 0] : Fin 2 → ℕ) a + (![512, 2048] : Fin 2 → ℕ) a ≤ S512x2048.size a) (f : (View.whole cc0_scratch2 : View sig .tc .vmem S512x2048 .bf16).ty.Contents (Elt F)) :
    (View.whole cc0_scratch2 : View sig .tc .vmem S512x2048 .bf16).readAt (Elt F) (Rect.unit (s := S512x2048) ![0, 0] ![512, 2048] inb).toLoadRect f = f := View.readAt_full (View.whole cc0_scratch2 : View sig .tc .vmem S512x2048 .bf16) f inb
/-- stored whole, it holds the payload; -/
theorem writtenD (inb : ∀ a, (![0, 0] : Fin 2 → ℕ) a + (![512, 2048] : Fin 2 → ℕ) a ≤ S512x2048.size a) (f : (View.whole cc0_scratch2 : View sig .tc .vmem S512x2048 .bf16).ty.Contents (Elt F)) (w : S512x2048.Idx → Elt F .bf16) :
    (View.whole cc0_scratch2 : View sig .tc .vmem S512x2048 .bf16).writes (Elt F) f [⟨Rect.unit (s := S512x2048) ![0, 0] ![512, 2048] inb, w⟩] = w :=
  (readD _).symm.trans (View.read_writes_full (View.whole cc0_scratch2 : View sig .tc .vmem S512x2048 .bf16) f inb w [])
/-- and loaded whole after that, it reads the payload. -/
theorem covD (inb : ∀ a, (![0, 0] : Fin 2 → ℕ) a + (![512, 2048] : Fin 2 → ℕ) a ≤ S512x2048.size a) (w : S512x2048.Idx → Elt F .bf16) :
    (View.whole cc0_scratch2 : View sig .tc .vmem S512x2048 .bf16).readCov [⟨Rect.unit (s := S512x2048) ![0, 0] ![512, 2048] inb, w⟩] (Rect.unit (s := S512x2048) ![0, 0] ![512, 2048] inb).toLoadRect = w :=
  View.readCov_full (View.whole cc0_scratch2 : View sig .tc .vmem S512x2048 .bf16) inb inb w []

/-- An input block loaded whole reads the block. -/
theorem loadX (v : View sig .tc .vmem S256x2048 .f32) (x : S256x2048.Idx → Elt F .f32) (inb : ∀ a, (![0, 0] : Fin 2 → ℕ) a + (![256, 2048] : Fin 2 → ℕ) a ≤ S256x2048.size a) :
    v.readAt (Elt F) (Rect.unit (s := S256x2048) ![0, 0] ![256, 2048] inb).toLoadRect (v.rep x) = x := View.readAt_rep_full v x inb

/-- An input block loaded whole reads the block. -/
theorem loadW (v : View sig .tc .vmem S1x2048x512 .f32) (x : S1x2048x512.Idx → Elt F .f32) (inb : ∀ a, (![0, 0, 0] : Fin 3 → ℕ) a + (![1, 2048, 512] : Fin 3 → ℕ) a ≤ S1x2048x512.size a) :
    v.readAt (Elt F) (Rect.unit (s := S1x2048x512) ![0, 0, 0] ![1, 2048, 512] inb).toLoadRect (v.rep x) = x := View.readAt_rep_full v x inb

/-- An input block loaded whole reads the block. -/
theorem loadV (v : View sig .tc .vmem S1x512x2048 .f32) (x : S1x512x2048.Idx → Elt F .f32) (inb : ∀ a, (![0, 0, 0] : Fin 3 → ℕ) a + (![1, 512, 2048] : Fin 3 → ℕ) a ≤ S1x512x2048.size a) :
    v.readAt (Elt F) (Rect.unit (s := S1x512x2048) ![0, 0, 0] ![1, 512, 2048] inb).toLoadRect (v.rep x) = x := View.readAt_rep_full v x inb

/-- The output block stored whole reads the payload. -/
theorem writtenO (v : View sig .tc .vmem S256x2048 .f32) (f : v.ty.Contents (Elt F)) (w : S256x2048.Idx → Elt F .f32)
    (inb : ∀ a, (![0, 0] : Fin 2 → ℕ) a + (![256, 2048] : Fin 2 → ℕ) a ≤ S256x2048.size a) :
    v.read (Elt F) (v.writes (Elt F) f [⟨Rect.unit (s := S256x2048) ![0, 0] ![256, 2048] inb, w⟩]) = w := View.read_writes_full v f inb w []

/-- The output's payload at equal weights. -/
theorem pay4_congr (x0 : S256x2048.Idx → Elt F .f32) {a a' b b' : S2048x512.Idx → Elt F .bf16} {d d' : S512x2048.Idx → Elt F .bf16}
    (ha : a = a') (hb : b = b') (hd : d = d') : k0_pay4 x0 a b d = k0_pay4 x0 a' b' d' := by subst ha hb hd; rfl

/-- The first scratch, stored whole, is held at the payload; -/
theorem postG (c : Dev nD) (inb : ∀ a, (![0, 0] : Fin 2 → ℕ) a + (![2048, 512] : Fin 2 → ℕ) a ≤ S2048x512.size a) (f : scG.view.ty.Contents (Elt F)) (w : S2048x512.Idx → Elt F .bf16) :
    (scG.view.loc (c : Thread nD τ) ↦{fullShare} (scG.view.writes (Elt F) f [⟨Rect.unit (s := S2048x512) ![0, 0] ![2048, 512] inb, w⟩] : Buf (Elt F) ((c : Thread nD τ).loc cc0_scratch0)) : sProp 𝕄)
      ⊢ (scG.view.loc (c : Thread nD τ) ↦{fullShare} (w : Buf (Elt F) ((c : Thread nD τ).loc cc0_scratch0)) : sProp 𝕄) := by
  rw [writtenG inb f w]

/-- so is the second, -/
theorem postU (c : Dev nD) (inb : ∀ a, (![0, 0] : Fin 2 → ℕ) a + (![2048, 512] : Fin 2 → ℕ) a ≤ S2048x512.size a) (f : scU.view.ty.Contents (Elt F)) (w : S2048x512.Idx → Elt F .bf16) :
    (scU.view.loc (c : Thread nD τ) ↦{fullShare} (scU.view.writes (Elt F) f [⟨Rect.unit (s := S2048x512) ![0, 0] ![2048, 512] inb, w⟩] : Buf (Elt F) ((c : Thread nD τ).loc cc0_scratch1)) : sProp 𝕄)
      ⊢ (scU.view.loc (c : Thread nD τ) ↦{fullShare} (w : Buf (Elt F) ((c : Thread nD τ).loc cc0_scratch1)) : sProp 𝕄) := by
  rw [writtenU inb f w]

/-- and the third. -/
theorem postD (c : Dev nD) (inb : ∀ a, (![0, 0] : Fin 2 → ℕ) a + (![512, 2048] : Fin 2 → ℕ) a ≤ S512x2048.size a) (f : scD.view.ty.Contents (Elt F)) (w : S512x2048.Idx → Elt F .bf16) :
    (scD.view.loc (c : Thread nD τ) ↦{fullShare} (scD.view.writes (Elt F) f [⟨Rect.unit (s := S512x2048) ![0, 0] ![512, 2048] inb, w⟩] : Buf (Elt F) ((c : Thread nD τ).loc cc0_scratch2)) : sProp 𝕄)
      ⊢ (scD.view.loc (c : Thread nD τ) ↦{fullShare} (w : Buf (Elt F) ((c : Thread nD τ).loc cc0_scratch2)) : sProp 𝕄) := by
  rw [writtenD inb f w]

set_option maxHeartbeats 800000 in
/-- An unused block: the body changes nothing. -/
theorem body_unused (hc0 : ¬Loads T0 T1 i) (k0_h2 : ¬Used T1 i) (a0 a1 : S2048x512.Idx → Elt F .bf16) (a2 : S512x2048.Idx → Elt F .bf16)
    (y : S256x2048.Idx → Elt F .f32) (K : PUnit → sProp 𝕄) :
    iprop(held c arg3 arg4 arg5 arg6 T0 T1 x0 x1 x2 x3 ∗ owns (c : Thread nD τ) arg7 fullShare y ∗ scr c a0 a1 a2
        ∗ (iprop(held c arg3 arg4 arg5 arg6 T0 T1 x0 x1 x2 x3 ∗ owns (c : Thread nD τ) arg7 fullShare y ∗ scr c a0 a1 a2) -∗ K ⟨⟩))
      ⊢ wp frame (wpE (defs₀ (F := F)) Variants.none c none) Set.univ (bodyOn i arg3 harg3 arg4 harg4 arg5 harg5 arg6 harg6 arg7 harg7) K := by
  unfold owns bodyOn held scr
  rw [cc0_experts_eq_skeleton]; unfold cc0_experts_skel
  iintro ⟨⟨H0, H1, H2, H3, HT0, HT1⟩, ⟨%f4, %hf4, HO4⟩, ⟨HS0, HS1, HS2⟩, Hk⟩
  obtain rfl := harg7.eq_unread hf4
  have hS0 : scG.IsWhole := Memref.isWhole_whole _
  have hS1 : scU.IsWhole := Memref.isWhole_whole _
  have hS2 : scD.IsWhole := Memref.isWhole_whole _
  have hT0 : tabE.IsWhole := Memref.isWhole_whole _
  have hT1 : tabN.IsWhole := Memref.isWhole_whole _
  sl_exec! (disch := first | exact hc0 | exact k0_h2)
  sl_step
  iapply Hk
  isplitl [H0 H1 H2 H3 HT0 HT1]
  · isplitl [H0]; · iexact H0
    isplitl [H1]; · iexact H1
    isplitl [H2]; · iexact H2
    isplitl [H3]; · iexact H3
    isplitl [HT0]; · iexact HT0
    iexact HT1
  isplitl [HO4]
  · iexists _; isplitr; · ipureintro; exact harg7.read_unread _
    iexact HO4
  isplitl [HS0]; · iexact HS0
  isplitl [HS1]; · iexact HS1
  iexact HS2

set_option maxHeartbeats 800000 in
/-- A used block whose expert's weights are loaded here: the scratches take the weights, the output block the gated FFN. -/
theorem body_load (hc0 : Loads T0 T1 i) (k0_h2 : Used T1 i) (a0 a1 : S2048x512.Idx → Elt F .bf16) (a2 : S512x2048.Idx → Elt F .bf16)
    (K : PUnit → sProp 𝕄) :
    iprop(held c arg3 arg4 arg5 arg6 T0 T1 x0 x1 x2 x3 ∗ (∃ d, owns (c : Thread nD τ) arg7 fullShare d) ∗ scr c a0 a1 a2
        ∗ (iprop(held c arg3 arg4 arg5 arg6 T0 T1 x0 x1 x2 x3
            ∗ owns (c : Thread nD τ) arg7 fullShare (k0_pay4 x0 (k0_pay1 x1) (k0_pay2 x2) (k0_pay3 x3))
            ∗ scr c (k0_pay1 x1) (k0_pay2 x2) (k0_pay3 x3)) -∗ K ⟨⟩))
      ⊢ wp frame (wpE (defs₀ (F := F)) Variants.none c none) Set.univ (bodyOn i arg3 harg3 arg4 harg4 arg5 harg5 arg6 harg6 arg7 harg7) K := by
  unfold owns bodyOn held scr
  rw [cc0_experts_eq_skeleton]; unfold cc0_experts_skel
  iintro ⟨⟨H0, H1, H2, H3, HT0, HT1⟩, ⟨%d4, %f4, -, HO4⟩, ⟨HS0, HS1, HS2⟩, Hk⟩
  have hS0 : scG.IsWhole := Memref.isWhole_whole _
  have hS1 : scU.IsWhole := Memref.isWhole_whole _
  have hS2 : scD.IsWhole := Memref.isWhole_whole _
  have hT0 : tabE.IsWhole := Memref.isWhole_whole _
  have hT1 : tabN.IsWhole := Memref.isWhole_whole _
  sl_exec! (disch := first | exact hc0 | exact k0_h2)
  sl_step
  iapply Hk
  isplitl [H0 H1 H2 H3 HT0 HT1]
  · isplitl [H0]; · iexact H0
    isplitl [H1]; · iexact H1
    isplitl [H2]; · iexact H2
    isplitl [H3]; · iexact H3
    isplitl [HT0]; · iexact HT0
    iexact HT1
  unfold body_load.sl.HO4_1 body_load.sl.HS0_1 body_load.sl.HS1_1 body_load.sl.HS2_1 body_load.sl.v18 body_load.sl.v20 body_load.sl.v26
  unfold body_load.sl.HS0_1 body_load.sl.HS1_1 body_load.sl.HS2_1
  simp only [loadX, loadW, loadV]
  isplitl [HO4]
  · iexists _; isplitr; swap
    · iexact HO4
    · ipureintro; exact (writtenO (F := F) arg7.view _ _ _).trans (pay4_congr x0 (covG _ _) (covU _ _) (covD _ _))
  isplitl [HS0]
  · iapply (postG c _ _ (k0_pay1 x1)); iexact HS0
  isplitl [HS1]
  · iapply (postU c _ _ (k0_pay2 x2)); iexact HS1
  iapply (postD c _ _ (k0_pay3 x3)); iexact HS2

set_option maxHeartbeats 800000 in
/-- A used block of the same expert as the one before: the weights are in the scratches. -/
theorem body_keep (hc0 : ¬Loads T0 T1 i) (k0_h2 : Used T1 i) (a0 a1 : S2048x512.Idx → Elt F .bf16) (a2 : S512x2048.Idx → Elt F .bf16)
    (K : PUnit → sProp 𝕄) :
    iprop(held c arg3 arg4 arg5 arg6 T0 T1 x0 x1 x2 x3 ∗ (∃ d, owns (c : Thread nD τ) arg7 fullShare d) ∗ scr c a0 a1 a2
        ∗ (iprop(held c arg3 arg4 arg5 arg6 T0 T1 x0 x1 x2 x3
            ∗ owns (c : Thread nD τ) arg7 fullShare (k0_pay4 x0 a0 a1 a2)
            ∗ scr c a0 a1 a2) -∗ K ⟨⟩))
      ⊢ wp frame (wpE (defs₀ (F := F)) Variants.none c none) Set.univ (bodyOn i arg3 harg3 arg4 harg4 arg5 harg5 arg6 harg6 arg7 harg7) K := by
  unfold owns bodyOn held scr
  rw [cc0_experts_eq_skeleton]; unfold cc0_experts_skel
  iintro ⟨⟨H0, H1, H2, H3, HT0, HT1⟩, ⟨%d4, %f4, -, HO4⟩, ⟨HS0, HS1, HS2⟩, Hk⟩
  have hS0 : scG.IsWhole := Memref.isWhole_whole _
  have hS1 : scU.IsWhole := Memref.isWhole_whole _
  have hS2 : scD.IsWhole := Memref.isWhole_whole _
  have hT0 : tabE.IsWhole := Memref.isWhole_whole _
  have hT1 : tabN.IsWhole := Memref.isWhole_whole _
  sl_exec! (disch := first | exact hc0 | exact k0_h2)
  sl_step
  iapply Hk
  isplitl [H0 H1 H2 H3 HT0 HT1]
  · isplitl [H0]; · iexact H0
    isplitl [H1]; · iexact H1
    isplitl [H2]; · iexact H2
    isplitl [H3]; · iexact H3
    isplitl [HT0]; · iexact HT0
    iexact HT1
  unfold body_keep.sl.HO4_1
  simp only [loadX]
  isplitl [HO4]
  · iexists _; isplitr; swap
    · iexact HO4
    · ipureintro; exact (writtenO (F := F) arg7.view _ _ _).trans (pay4_congr x0 (loadG _ _) (loadU _ _) (loadD _ _))
  isplitl [HS0]; · iexact HS0
  isplitl [HS1]; · iexact HS1
  iexact HS2
end

end Cert.KernelIdeal.Experts

end
-- ==== Proof.TablesIdeal.lean ====
module

public import proofs.«01_k».proof.Proof.BodyIdeal
public import proofs.«01_k».proof.Proof.Gen.KernelIdeal.Launch
public import Idealize.ShloMosaic.Lib.Pipeline.Kit
public import Idealize.ShloMosaic.Lib.Pipeline.Quiescent
public import Idealize.ShloMosaic.Lib.Pipeline.TableIdle
public import Idealize.ShloMosaic.Lib.Pipeline.FrameBody
public import Idealize.ShloMosaic.Lib.Writes
public import Idealize.ShloMosaic.Lib.VecWindow
public import Idealize.ShloMosaic.Lib.Ring
public import Idealize.ShloMosaic.Lib.Exec
public import Idealize.ShloMosaic.Lib.Affine
public import Idealize.ShloMosaic.Lib.Tactic
public import Idealize.ShloMosaic.Lib.Claim
public import Idealize.ShloMosaic.PureOps.Ideal
public import Idealize.ShloMosaic.Adequacy
public import Idealize.ShloMosaic.Init

@[expose] public section

set_option maxRecDepth 16384

noncomputable section

namespace Cert.KernelIdeal.Experts

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The one element of the table of the block count. -/
abbrev ixN : S1.Idx := fun a => ⟨0, by fin_cases a; exact Nat.one_pos⟩
/-- Block `b`'s element of the table of the blocks' experts. -/
abbrev ixE (b : Fin 768) : S768.Idx := fun a => ⟨b.val, by fin_cases a; exact b.isLt⟩

/-- The tables' range: every block's expert exists, and between one block and all of them are used. -/
structure InRange (T0 : S768.Idx → BitVec 32) (T1 : S1.Idx → BitVec 32) : Prop where
  he : ∀ j, (T0 j).toNat < 256
  h1 : 1 ≤ (T1 ixN).toNat
  h2 : (T1 ixN).toNat ≤ 768

/-- The number of used blocks. -/
abbrev used (T1 : S1.Idx → BitVec 32) : ℕ := (T1 ixN).toNat
/-- The expert of block `b`. -/
abbrev expert {T0 : S768.Idx → BitVec 32} {T1 : S1.Idx → BitVec 32} (H : InRange T0 T1) (b : Fin 768) : Fin 256 := ⟨(T0 (ixE b)).toNat, H.he _⟩

/-- The tables as the pipeline takes them. -/
def pfOf (T0 : S768.Idx → BitVec 32) (T1 : S1.Idx → BitVec 32) : pre0.Contents (Elt F)
  | ⟨0, _⟩ => T0
  | ⟨1, _⟩ => T1
  | ⟨_ + 2, h⟩ => absurd h (Nat.not_lt.2 (Nat.le_add_left _ _))

section words
variable (T0 : S768.Idx → BitVec 32) (T1 : S1.Idx → BitVec 32)

omit [FloatOps F] in
theorem at_N (r : Rect S1) (h1 : r.shape.numel = 1) : (pfOf (F := F) T0 T1).at 1 r h1 = T1 ixN :=
  congrArg T1 (funext fun a => Fin.ext (by
    have h := (r.emb (Shape.Idx.first (h1.symm ▸ Nat.one_pos)) a).isLt
    fin_cases a
    exact Nat.lt_one_iff.mp h))

omit [FloatOps F] in
theorem at_E (i : grid0.Coords) :
    (pfOf (F := F) T0 T1).at 0 (Rect.unit (s := S768) (k0_off1 i) S1.size (k0_off1_inb i)) numel1_S1 = T0 (ixE (i 0)) :=
  congrArg T0 (funext fun a => Fin.ext (by
    show k0_off1 i a + 1 * (Shape.Idx.first (s := S1) (numel1_S1.symm ▸ Nat.one_pos) a).val = (i 0).val
    have h := (Shape.Idx.first (s := S1) (numel1_S1.symm ▸ Nat.one_pos) a).isLt
    rw [k0_off1_eq]
    fin_cases a
    have h' := Nat.lt_one_iff.mp h
    simp only [h']
    rfl))

theorem nWord_eq : nWord (F := F) T1 = T1 ixN :=
  congrArg T1 (funext fun a => Fin.ext (by
    have h := ((Rect.unit (s := S1) ![0] S1.size inb_S1_S1_0).toLoadRect.idx (Shape.Idx.first (numel1_S1.symm ▸ Nat.one_pos)) a).isLt
    fin_cases a
    exact Nat.lt_one_iff.mp h))

theorem eWord_eq (i : grid0.Coords) : eWord (F := F) T0 i = T0 (ixE (i 0)) := at_E (F := F) T0 (fun _ => 0) i

theorem k0_off2_eq (i : grid0.Coords) : k0_off2 i = ![(i 0).val - 1] := by
  have r_i0 : (i 0).val < 768 := (i 0).isLt
  have h0 : Affine.IsInt (BitVec.ofNat 32 (i 0).val) (((i 0).val : Int)) := Affine.ofNat _ (by omega)
  have h1 : Affine.IsInt (1#32) 1 := Affine.ofNat 1 (by omega)
  have hz : Affine.IsInt (0#32) 0 := Affine.ofNat 0 (by omega)
  have h2 := Affine.subi h0 h1 (e := ((i 0).val : Int) - 1) ⟨rfl, by omega, by omega⟩
  have h3 := Affine.maxsi h2 hz (e := max (((i 0).val : Int) - 1) 0) rfl
  exact Affine.vec_cons (Affine.indexCast h3) (by omega) <| Affine.vec_nil

/-- The block before (the first one's: itself). -/
abbrev prevBlock (b : Fin 768) : Fin 768 := ⟨b.val - 1, by omega⟩

theorem pWord_eq (i : grid0.Coords) : pWord (F := F) T0 i = T0 (ixE (prevBlock (i 0))) :=
  congrArg T0 (funext fun a => Fin.ext (by
    show k0_off2 i a + 1 * (Shape.Idx.first (s := S1) (numel1_S1.symm ▸ Nat.one_pos) a).val = (i 0).val - 1
    have h := (Shape.Idx.first (s := S1) (numel1_S1.symm ▸ Nat.one_pos) a).isLt
    rw [k0_off2_eq]
    fin_cases a
    have h' := Nat.lt_one_iff.mp h
    simp only [h']
    rfl))
end words

section ranged
variable {T0 : S768.Idx → BitVec 32} {T1 : S1.Idx → BitVec 32} (H : InRange T0 T1)

include H
theorem toInt_N : (T1 ixN).toInt = (used T1 : Int) := by
  have := H.h2
  exact BitVec.toInt_eq_toNat_of_lt (by omega)

theorem isInt_N : Affine.IsInt (T1 ixN) (used T1 : Int) := by
  unfold Affine.IsInt; exact toInt_N H

theorem slt_N (i : grid0.Coords) : Scalar.cmpi .slt (BitVec.ofNat 32 (i 0).val) (T1 ixN) = 1#1 ↔ (i 0).val < used T1 := by
  have r_i0 : (i 0).val < 768 := (i 0).isLt
  have h0 : (BitVec.ofNat 32 (i 0).val).toInt = (((i 0).val : Int)) := by
    rw [BitVec.toInt_eq_toNat_of_lt (by rw [BitVec.toNat_ofNat]; omega), BitVec.toNat_ofNat]; omega
  rw [Scalar.cmpi, IntOp.cmpi_slt, toInt_N H, h0]
  omega

theorem tr4_eq (i : grid0.Coords) : cc0_transform_4 inb_S1_S1_0 numel1_S1 (pfOf (F := F) T0 T1) i = ![min (i 0).val (used T1 - 1), 0] := by
  have r_i0 : (i 0).val < 768 := (i 0).isLt
  have h0 : Affine.IsInt (BitVec.ofNat 32 (i 0).val) (((i 0).val : Int)) := Affine.ofNat _ (by omega)
  have h1 : Affine.IsInt (1#32) 1 := Affine.ofNat 1 (by omega)
  have hn1 : 1 ≤ used T1 := H.h1
  have hn2 : used T1 ≤ 768 := H.h2
  have h2 := Affine.subi (isInt_N H) h1 (e := (used T1 : Int) - 1) ⟨rfl, by omega, by omega⟩
  have h3 := Affine.minsi h0 h2 (e := min ((i 0).val : Int) ((used T1 : Int) - 1)) rfl
  unfold cc0_transform_4
  rw [show (pfOf (F := F) T0 T1).at 1 (Rect.unit (s := S1) ![0] S1.size inb_S1_S1_0) numel1_S1 = T1 ixN from at_N T0 T1 _ _]
  exact Affine.vec_cons (y := min (i 0).val (used T1 - 1)) h3 (by omega) rfl

theorem tr0_eq (i : grid0.Coords) : cc0_transform_0 inb_S1_S1_0 numel1_S1 (pfOf (F := F) T0 T1) i = ![min (i 0).val (used T1 - 1), 0] :=
  tr4_eq (F := F) H i

omit H in
theorem tr1_eq (i : grid0.Coords) : cc0_transform_1 k0_off1_inb numel1_S1 (pfOf (F := F) T0 T1) i = ![(T0 (ixE (i 0))).toNat, 0, 0] := by
  rw [← at_E (F := F) T0 T1 i]; rfl

/-- The body's test of a used block, -/
theorem used_iff (i : grid0.Coords) : Used (F := F) T1 i ↔ (i 0).val < used T1 := by
  unfold Used k0_cond2
  rw [nWord_eq (F := F)]
  exact (Scalar.guard_iff _).trans (slt_N H i)

omit [FloatOps F] H in
theorem andi_one (a b : BitVec 1) : Scalar.andi a b = 1#1 ↔ a = 1#1 ∧ b = 1#1 := by revert a b; decide
omit [FloatOps F] H in
theorem ori_one (a b : BitVec 1) : Scalar.ori a b = 1#1 ↔ a = 1#1 ∨ b = 1#1 := by revert a b; decide

/-- and of weights to load. -/
theorem loads_iff (i : grid0.Coords) : Loads (F := F) T0 T1 i ↔ (i 0).val < used T1 ∧ ((i 0).val = 0 ∨ T0 (ixE (i 0)) ≠ T0 (ixE (prevBlock (i 0)))) := by
  have r_i0 : (i 0).val < 768 := (i 0).isLt
  unfold Loads
  rw [nWord_eq (F := F), eWord_eq (F := F), pWord_eq (F := F), Scalar.guard_iff, andi_one, ori_one, slt_N H, Scalar.cmpi, IntOp.cmpi_eq, Scalar.cmpi, IntOp.cmpi_ne]
  refine and_congr_right fun _ => or_congr_left ⟨fun h => ?_, fun h => by rw [h]⟩
  have := congrArg BitVec.toNat h
  rw [BitVec.toNat_ofNat, BitVec.toNat_ofNat] at this
  omega

/-- Every window's block is inside its array. -/
theorem ok_of : ok0 (F := F) (pfOf T0 T1) := by
  have hn1 : 1 ≤ used T1 := H.h1
  have hn2 : used T1 ≤ 768 := H.h2
  have h0 : ∀ i : grid0.Coords, ∀ a, (cc0_transform_0 inb_S1_S1_0 numel1_S1 (pfOf (F := F) T0 T1) i a + 1) * S256x2048.size a ≤ S196608x2048.size a := fun i a => by
    rw [tr0_eq H]; fin_cases a
    · show (min (i 0).val (used T1 - 1) + 1) * 256 ≤ 196608; omega
    · show (0 + 1) * 2048 ≤ 2048; omega
  have h1 : ∀ i : grid0.Coords, ∀ a, (cc0_transform_1 k0_off1_inb numel1_S1 (pfOf (F := F) T0 T1) i a + 1) * S1x2048x512.size a ≤ S256x2048x512.size a := fun i a => by
    have he := H.he (ixE (i 0))
    rw [tr1_eq]; fin_cases a
    · show ((T0 (ixE (i 0))).toNat + 1) * 1 ≤ 256; omega
    · show (0 + 1) * 2048 ≤ 2048; omega
    · show (0 + 1) * 512 ≤ 512; omega
  have h3 : ∀ i : grid0.Coords, ∀ a, (cc0_transform_3 k0_off1_inb numel1_S1 (pfOf (F := F) T0 T1) i a + 1) * S1x512x2048.size a ≤ S256x512x2048.size a := fun i a => by
    have he := H.he (ixE (i 0))
    rw [show cc0_transform_3 k0_off1_inb numel1_S1 (pfOf (F := F) T0 T1) i = _ from tr1_eq (F := F) (T0 := T0) (T1 := T1) i]; fin_cases a
    · show ((T0 (ixE (i 0))).toNat + 1) * 1 ≤ 256; omega
    · show (0 + 1) * 512 ≤ 512; omega
    · show (0 + 1) * 2048 ≤ 2048; omega
  exact ⟨fun i => ⟨h0 i, .inl rfl⟩, fun i => ⟨h1 i, .inl rfl⟩, fun i => ⟨h1 i, .inl rfl⟩, fun i => ⟨h3 i, .inl rfl⟩, fun i => ⟨h0 i, .inl rfl⟩⟩

/-- The pipeline at the tables. -/
def adm : (pcfg0 (F := F)).Adm := ⟨pfOf T0 T1, ok_of H⟩
abbrev cfgA : Cfg sig Λ₀ := cfg0 (F := F) (adm H)

omit [FloatOps F] H in
/-- The grid is one axis: point `t`'s coordinate is `t`. -/
theorem coords_val : ∀ t : Fin grid0.N, (grid0.coords t 0).val = t.val := by decide +kernel

theorem N_A : (cfgA (F := F) H).N = 768 := N_0

theorem index_eq (t : Fin (cfgA (F := F) H).N) : ((cfgA (F := F) H).win (4 : Fin 5)).index t = ![min t.val (used T1 - 1), 0] :=
  (tr4_eq (F := F) H (grid0.coords t)).trans (by rw [coords_val])

/-- The output block is written back where the next point has another: at every used block's point but the last's, and at the last point. -/
theorem flush_eq (t : Fin (cfgA (F := F) H).N) : ((cfgA (F := F) H).win (4 : Fin 5)).flush t = decide (t.val + 1 < used T1 ∨ t.val = 767) := by
  have hN := N_A (F := F) H
  have hn1 : 1 ≤ used T1 := H.h1
  have hn2 : used T1 ≤ 768 := H.h2
  have ht := t.isLt
  rw [Pipeline.Window.flush_eq_flushF]
  unfold Pipeline.Window.flushF
  have ei : ∀ t' : Fin (cfgA (F := F) H).N, ((cfgA (F := F) H).win (4 : Fin 5)).index t' (0 : Fin 2) = min t'.val (used T1 - 1) := fun t' => congrFun (index_eq H t') 0
  have ej : ∀ t' : Fin (cfgA (F := F) H).N, ((cfgA (F := F) H).win (4 : Fin 5)).index t' (1 : Fin 2) = 0 := fun t' => congrFun (index_eq H t') 1
  rw [Bool.eq_iff_iff, Bool.and_eq_true, Bool.or_eq_true, decide_eq_true_eq, decide_eq_true_eq, decide_eq_true_eq]
  refine ⟨?_, fun h => ⟨rfl, ?_⟩⟩
  · rintro ⟨-, h | ⟨h, a, ha⟩⟩
    · right; have := h.trans hN
      omega
    · left
      have : min (t.val + 1) (used T1 - 1) ≠ min t.val (used T1 - 1) := by
        intro h'; apply ha
        match a with
        | ⟨0, _⟩ => exact (ei ⟨t.val + 1, h⟩).trans (h'.trans (ei t).symm)
        | ⟨1, _⟩ => exact (ej ⟨t.val + 1, h⟩).trans (ej t).symm
      omega
  · by_cases h7 : t.val + 1 = 768
    · left; exact h7.trans hN.symm
    · right
      have hlt : t.val + 1 < (cfgA (F := F) H).N := by omega
      exact ⟨hlt, (0 : Fin 2), fun h' => by
        have := (ei ⟨t.val + 1, hlt⟩).symm.trans (h'.trans (ei t))
        simp only at this
        omega⟩

/-- The output is idle at the points of unused blocks, -/
theorem idle_eq (t : Fin (cfgA (F := F) H).N) : (cfgA (F := F) H).idle (4 : Fin 5) ((cfgA (F := F) H).grid.coords t) = decide (used T1 ≤ t.val) := by
  have h := used_iff (F := F) H (grid0.coords t)
  rw [coords_val] at h
  have e : (cfgA (F := F) H).idle (4 : Fin 5) ((cfgA (F := F) H).grid.coords t) = !(k0_cond2 (grid0.coords t) (nWord (F := F) T1) == 1#1) := by
    rw [nWord_eq (F := F)]
    show (!(k0_cond2 (grid0.coords t) ((pfOf (F := F) T0 T1).atD 1 ![0]) == 1#1)) = _
    rw [show (pfOf (F := F) T0 T1).atD 1 ![0] = T1 ixN from ?_]
    unfold Pipeline.Prefetch.Contents.atD
    rw [dif_pos (fun a => by fin_cases a; exact Nat.le_refl 1)]
    exact congrArg T1 (funext fun a => Fin.ext (by fin_cases a; rfl))
  rw [e, Bool.eq_iff_iff, decide_eq_true_eq, Bool.not_eq_true', beq_eq_false_iff_ne, ne_eq]
  exact (not_congr h).trans Nat.not_lt

/-- and its buffer is junk before a point just where the point's block is used. -/
theorem fresh_eq (n : ℕ) (hn : n ≤ (cfgA (F := F) H).N) : (cfgA (F := F) H).fresh (4 : Fin 5) n = decide (n < used T1 ∨ n = 768) :=
  Pipeline.Cfg.fresh_tab (cfgA (F := F) H) (4 : Fin 5) (fun n => decide (n < used T1 ∨ n = 768))
    (by have h1 : 1 ≤ used T1 := H.h1; exact decide_eq_true (.inl h1))
    (fun t => by
      have hN := N_A (F := F) H
      have hn1 : 1 ≤ used T1 := H.h1
      have hn2 : used T1 ≤ 768 := H.h2
      have ht := t.isLt
      rw [flush_eq, idle_eq, Bool.eq_iff_iff, Bool.or_eq_true, Bool.and_eq_true, decide_eq_true_eq, decide_eq_true_eq, decide_eq_true_eq, decide_eq_true_eq]
      omega) n hn

end ranged

end Cert.KernelIdeal.Experts

end
-- ==== Proof.RegionIdeal.lean ====
module

public import proofs.«01_k».proof.Proof.TablesIdeal
public import proofs.«01_k».proof.Proof.Gen.KernelIdeal.Launch
public import Idealize.ShloMosaic.Lib.Pipeline.Kit
public import Idealize.ShloMosaic.Lib.Pipeline.Quiescent
public import Idealize.ShloMosaic.Lib.Pipeline.TableIdle
public import Idealize.ShloMosaic.Lib.Pipeline.FrameBody
public import Idealize.ShloMosaic.Lib.Pipeline.Value
public import Idealize.ShloMosaic.Lib.Writes
public import Idealize.ShloMosaic.Lib.VecWindow
public import Idealize.ShloMosaic.Lib.Ring
public import Idealize.ShloMosaic.Lib.Exec
public import Idealize.ShloMosaic.Lib.Affine
public import Idealize.ShloMosaic.Lib.Tactic
public import Idealize.ShloMosaic.Lib.Claim
public import Idealize.ShloMosaic.PureOps.Ideal
public import Idealize.ShloMosaic.Adequacy
public import Idealize.ShloMosaic.Init

@[expose] public section

set_option maxRecDepth 16384

noncomputable section

namespace Cert.KernelIdeal.Experts

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The proof's resource algebra: the rounds library's, for the pipeline's staging cells, embedded whole. -/
abbrev EP : Emb (UR sig nD τ) 𝕄 := emb₁

/-! ## The blocks, element by element -/

section blocks
variable {α : Type}

/-- Block `b` of the token rows: 256 rows. -/
def rowsOf (X : S196608x2048.Idx → α) (b : Fin 768) : S256x2048.Idx → α := fun j =>
  X (fun a => ⟨(![b.val * 256 + (j 0).val, (j 1).val] : Fin 2 → ℕ) a, by
    have h0 : (j 0).val < 256 := (j 0).isLt
    have h1 : (j 1).val < 2048 := (j 1).isLt
    have := b.isLt
    fin_cases a
    · show b.val * 256 + (j 0).val < 196608; omega
    · exact h1⟩)

/-- Expert `e`'s gate (or up) weights. -/
def wideOf (A : S256x2048x512.Idx → α) (e : Fin 256) : S1x2048x512.Idx → α := fun j =>
  A (fun a => ⟨(![e.val, (j 1).val, (j 2).val] : Fin 3 → ℕ) a, by
    have h1 : (j 1).val < 2048 := (j 1).isLt
    have h2 : (j 2).val < 512 := (j 2).isLt
    fin_cases a
    · exact e.isLt
    · exact h1
    · exact h2⟩)

/-- Expert `e`'s down weights. -/
def downOf (A : S256x512x2048.Idx → α) (e : Fin 256) : S1x512x2048.Idx → α := fun j =>
  A (fun a => ⟨(![e.val, (j 1).val, (j 2).val] : Fin 3 → ℕ) a, by
    have h1 : (j 1).val < 512 := (j 1).isLt
    have h2 : (j 2).val < 2048 := (j 2).isLt
    fin_cases a
    · exact e.isLt
    · exact h1
    · exact h2⟩)
end blocks

variable (m : (ℓ : Loc nD τ sig) → Buf (Elt F) ℓ) (ρ : Dev nD → PrngReg)

/-- The tables in memory (the mesh has one device). -/
abbrev tb0 : S768.Idx → BitVec 32 := m (((0 : Dev nD) : Thread nD τ).loc main_arg0)
abbrev tb1 : S1.Idx → BitVec 32 := m (((0 : Dev nD) : Thread nD τ).loc main_arg1)

variable (H : InRange (tb0 m) (tb1 m))

abbrev pcs : Fin 1 → Cfg sig Λ₀ := Pipeline.pin (pcfgs (F := F)) fun _ => adm H

/-- Point `t`'s coordinates. -/
abbrev crd (t : Fin (cfgA (F := F) H).N) : (cfgA (F := F) H).grid.Coords := (cfgA (F := F) H).grid.coords t

/-- Each window's current staging memref at point `t`, spelled as the pipeline passes it, and its wholeness. -/
abbrev ms0 (t : Fin (cfgA (F := F) H).N) : Memref sig .tc .vmem S256x2048 .f32 := spec0_0.stage ((cfgA (F := F) H).slots t (0 : Fin 5))
abbrev hs0 (t : Fin (cfgA (F := F) H).N) : (ms0 m H t).IsWhole := hstage0_0 (((cfgA (F := F) H).slots t (0 : Fin 5)).cast nbuf0_0)
abbrev ms1 (t : Fin (cfgA (F := F) H).N) : Memref sig .tc .vmem S1x2048x512 .f32 := spec0_1.stage ((cfgA (F := F) H).slots t (1 : Fin 5))
abbrev hs1 (t : Fin (cfgA (F := F) H).N) : (ms1 m H t).IsWhole := hstage0_1 (((cfgA (F := F) H).slots t (1 : Fin 5)).cast nbuf0_1)
abbrev ms2 (t : Fin (cfgA (F := F) H).N) : Memref sig .tc .vmem S1x2048x512 .f32 := spec0_2.stage ((cfgA (F := F) H).slots t (2 : Fin 5))
abbrev hs2 (t : Fin (cfgA (F := F) H).N) : (ms2 m H t).IsWhole := hstage0_2 (((cfgA (F := F) H).slots t (2 : Fin 5)).cast nbuf0_2)
abbrev ms3 (t : Fin (cfgA (F := F) H).N) : Memref sig .tc .vmem S1x512x2048 .f32 := spec0_3.stage ((cfgA (F := F) H).slots t (3 : Fin 5))
abbrev hs3 (t : Fin (cfgA (F := F) H).N) : (ms3 m H t).IsWhole := hstage0_3 (((cfgA (F := F) H).slots t (3 : Fin 5)).cast nbuf0_3)
abbrev ms4 (t : Fin (cfgA (F := F) H).N) : Memref sig .tc .vmem S256x2048 .f32 := spec0_4.stage ((cfgA (F := F) H).slots t (4 : Fin 5))
abbrev hs4 (t : Fin (cfgA (F := F) H).N) : (ms4 m H t).IsWhole := hstage0_4 (((cfgA (F := F) H).slots t (4 : Fin 5)).cast nbuf0_4)

/-- Window `w`'s block at point `t`, read off its array at launch. -/
def iblk (c : Dev nD) (w : Fin (cfgA (F := F) H).W) (t : Fin (cfgA (F := F) H).N) : (((cfgA (F := F) H).win w).xblock (crd m H t)).Idx → Elt F ((cfgA (F := F) H).win w).elt :=
  (((cfgA (F := F) H).win w).blk t).view.read (Elt F) ((s₀ m ρ).mem (((cfgA (F := F) H).win w).arr.view.loc (c : Thread nD τ)))

/-- The point's block, and the last used one from the first unused point on. -/
def blkAt (t : ℕ) : Fin 768 := ⟨min t (used (tb1 m) - 1), by have := H.h2; show min t ((tb1 m ixN).toNat - 1) < 768; omega⟩
/-- The point, as a block. -/
def ptAt (t : Fin (cfgA (F := F) H).N) : Fin 768 := ⟨t.val, t.isLt.trans_eq (N_A H)⟩

theorem iblk0_eq (c : Dev nD) (t : Fin (cfgA (F := F) H).N) : iblk m ρ H c (0 : Fin 5) t = rowsOf (m ((c : Thread nD τ).loc main_arg2)) (blkAt m H t.val) := by
  funext j
  refine congrArg (m ((c : Thread nD τ).loc main_arg2)) (funext fun a => Fin.ext ?_)
  show cc0_transform_0 inb_S1_S1_0 numel1_S1 (pfOf (F := F) (tb0 m) (tb1 m)) (grid0.coords t) a * S256x2048.size a + 1 * (j a).val = _
  rw [tr0_eq H, coords_val]
  fin_cases a
  · show min t.val (used (tb1 m) - 1) * 256 + 1 * (j 0).val = min t.val (used (tb1 m) - 1) * 256 + (j 0).val
    omega
  · show 0 * 2048 + 1 * (j 1).val = (j 1).val
    omega

theorem iblk1_eq (c : Dev nD) (t : Fin (cfgA (F := F) H).N) : iblk m ρ H c (1 : Fin 5) t = wideOf (m ((c : Thread nD τ).loc main_arg3)) (expert H (ptAt m H t)) := by
  funext j
  refine congrArg (m ((c : Thread nD τ).loc main_arg3)) (funext fun a => Fin.ext ?_)
  show cc0_transform_1 k0_off1_inb numel1_S1 (pfOf (F := F) (tb0 m) (tb1 m)) (grid0.coords t) a * S1x2048x512.size a + 1 * (j a).val = _
  have e : ixE (grid0.coords t 0) = ixE (ptAt m H t) := funext fun a => Fin.ext (coords_val t)
  have h0 : (j 0).val < 1 := (j 0).isLt
  rw [tr1_eq, e]
  fin_cases a
  · show (tb0 m (ixE (ptAt m H t))).toNat * 1 + 1 * (j 0).val = (tb0 m (ixE (ptAt m H t))).toNat
    omega
  · show 0 * 2048 + 1 * (j 1).val = (j 1).val
    omega
  · show 0 * 512 + 1 * (j 2).val = (j 2).val
    omega

theorem iblk2_eq (c : Dev nD) (t : Fin (cfgA (F := F) H).N) : iblk m ρ H c (2 : Fin 5) t = wideOf (m ((c : Thread nD τ).loc main_arg4)) (expert H (ptAt m H t)) := by
  funext j
  refine congrArg (m ((c : Thread nD τ).loc main_arg4)) (funext fun a => Fin.ext ?_)
  show cc0_transform_1 k0_off1_inb numel1_S1 (pfOf (F := F) (tb0 m) (tb1 m)) (grid0.coords t) a * S1x2048x512.size a + 1 * (j a).val = _
  have e : ixE (grid0.coords t 0) = ixE (ptAt m H t) := funext fun a => Fin.ext (coords_val t)
  have h0 : (j 0).val < 1 := (j 0).isLt
  rw [tr1_eq, e]
  fin_cases a
  · show (tb0 m (ixE (ptAt m H t))).toNat * 1 + 1 * (j 0).val = (tb0 m (ixE (ptAt m H t))).toNat
    omega
  · show 0 * 2048 + 1 * (j 1).val = (j 1).val
    omega
  · show 0 * 512 + 1 * (j 2).val = (j 2).val
    omega

theorem iblk3_eq (c : Dev nD) (t : Fin (cfgA (F := F) H).N) : iblk m ρ H c (3 : Fin 5) t = downOf (m ((c : Thread nD τ).loc main_arg5)) (expert H (ptAt m H t)) := by
  funext j
  refine congrArg (m ((c : Thread nD τ).loc main_arg5)) (funext fun a => Fin.ext ?_)
  show cc0_transform_1 k0_off1_inb numel1_S1 (pfOf (F := F) (tb0 m) (tb1 m)) (grid0.coords t) a * S1x512x2048.size a + 1 * (j a).val = _
  have e : ixE (grid0.coords t 0) = ixE (ptAt m H t) := funext fun a => Fin.ext (coords_val t)
  have h0 : (j 0).val < 1 := (j 0).isLt
  rw [tr1_eq, e]
  fin_cases a
  · show (tb0 m (ixE (ptAt m H t))).toNat * 1 + 1 * (j 0).val = (tb0 m (ixE (ptAt m H t))).toNat
    omega
  · show 0 * 512 + 1 * (j 1).val = (j 1).val
    omega
  · show 0 * 2048 + 1 * (j 2).val = (j 2).val
    omega

/-! ## What the scratches and the output hold -/

/-- The weights of block `b`'s expert, as the scratches hold them, -/
def gateAt (c : Dev nD) (b : Fin 768) : S2048x512.Idx → Elt F .bf16 := k0_pay1 (wideOf (m ((c : Thread nD τ).loc main_arg3)) (expert H b))
def upAt (c : Dev nD) (b : Fin 768) : S2048x512.Idx → Elt F .bf16 := k0_pay2 (wideOf (m ((c : Thread nD τ).loc main_arg4)) (expert H b))
def downAt (c : Dev nD) (b : Fin 768) : S512x2048.Idx → Elt F .bf16 := k0_pay3 (downOf (m ((c : Thread nD τ).loc main_arg5)) (expert H b))
/-- and block `b` of the output. -/
def outAt (c : Dev nD) (b : Fin 768) : S256x2048.Idx → Elt F .f32 :=
  k0_pay4 (rowsOf (m ((c : Thread nD τ).loc main_arg2)) b) (gateAt m H c b) (upAt m H c b) (downAt m H c b)

/-- The invariant before point `t`: after a used block's point the scratches hold its expert's weights (elsewhere anything), and
    the body keeps its halves of the tables. -/
def Phi (c : Dev nD) (t : Fin ((cfgA (F := F) H).N + 1)) : sProp 𝕄 :=
  iprop((∃ a0 a1 a2, ⌜∀ b : Fin 768, b.val + 1 = t.val → t.val ≤ used (tb1 m) → a0 = gateAt m H c b ∧ a1 = upAt m H c b ∧ a2 = downAt m H c b⌝
      ∗ scr c a0 a1 a2)
    ∗ (tabE.view.loc (c : Thread nD τ) ↦{fullShare.right} (tb0 m : Buf (Elt F) ((c : Thread nD τ).loc main_arg0)))
    ∗ (tabN.view.loc (c : Thread nD τ) ↦{fullShare.right} (tb1 m : Buf (Elt F) ((c : Thread nD τ).loc main_arg1))))

/-- The proof data of the one pipeline on core `c`. -/
def dats (_ : Fin 1) (c : Dev nD) : Dat τ (Elt F) Unit ℕ (UR sig nD τ) ℕ (cfgA (F := F) H) c where
  A w := (s₀ m ρ).mem (((cfgA (F := F) H).win w).arr.view.loc (c : Thread nD τ))
  after w t := match w with
    | ⟨0, _⟩ => iblk m ρ H c (0 : Fin 5) t
    | ⟨1, _⟩ => iblk m ρ H c (1 : Fin 5) t
    | ⟨2, _⟩ => iblk m ρ H c (2 : Fin 5) t
    | ⟨3, _⟩ => iblk m ρ H c (3 : Fin 5) t
    | ⟨4, _⟩ => outAt m H c (blkAt m H t.val)
  Φ t := Phi m H c t
  q _ := fullShare
  owed _ := 0

theorem after0 (c : Dev nD) (t : Fin (cfgA (F := F) H).N) : (dats m ρ H 0 c).after (0 : Fin 5) t = iblk m ρ H c (0 : Fin 5) t := rfl
theorem after1 (c : Dev nD) (t : Fin (cfgA (F := F) H).N) : (dats m ρ H 0 c).after (1 : Fin 5) t = iblk m ρ H c (1 : Fin 5) t := rfl
theorem after2 (c : Dev nD) (t : Fin (cfgA (F := F) H).N) : (dats m ρ H 0 c).after (2 : Fin 5) t = iblk m ρ H c (2 : Fin 5) t := rfl
theorem after3 (c : Dev nD) (t : Fin (cfgA (F := F) H).N) : (dats m ρ H 0 c).after (3 : Fin 5) t = iblk m ρ H c (3 : Fin 5) t := rfl
theorem after4 (c : Dev nD) (t : Fin (cfgA (F := F) H).N) : (dats m ρ H 0 c).after (4 : Fin 5) t = outAt m H c (blkAt m H t.val) := rfl

/-- Every input window holds its block when the body runs, fetched there or not. -/
theorem before0 (c : Dev nD) (t : Fin (cfgA (F := F) H).N) (d) : (dats m ρ H 0 c).before (0 : Fin 5) t d = iblk m ρ H c (0 : Fin 5) t :=
  ((dats m ρ H 0 c).before_in_eq_fetched (0 : Fin 5) rfl (fun _ => rfl) (fun _ _ _ => rfl) (fun t => by rw [after0]; unfold Dat.blockOf iblk; rfl) t d).trans
    (by unfold Dat.fetched Dat.blockOf iblk; rfl)
theorem before1 (c : Dev nD) (t : Fin (cfgA (F := F) H).N) (d) : (dats m ρ H 0 c).before (1 : Fin 5) t d = iblk m ρ H c (1 : Fin 5) t :=
  ((dats m ρ H 0 c).before_in_eq_fetched (1 : Fin 5) rfl (fun _ => rfl) (fun _ _ _ => rfl) (fun t => by rw [after1]; unfold Dat.blockOf iblk; rfl) t d).trans
    (by unfold Dat.fetched Dat.blockOf iblk; rfl)
theorem before2 (c : Dev nD) (t : Fin (cfgA (F := F) H).N) (d) : (dats m ρ H 0 c).before (2 : Fin 5) t d = iblk m ρ H c (2 : Fin 5) t :=
  ((dats m ρ H 0 c).before_in_eq_fetched (2 : Fin 5) rfl (fun _ => rfl) (fun _ _ _ => rfl) (fun t => by rw [after2]; unfold Dat.blockOf iblk; rfl) t d).trans
    (by unfold Dat.fetched Dat.blockOf iblk; rfl)
theorem before3 (c : Dev nD) (t : Fin (cfgA (F := F) H).N) (d) : (dats m ρ H 0 c).before (3 : Fin 5) t d = iblk m ρ H c (3 : Fin 5) t :=
  ((dats m ρ H 0 c).before_in_eq_fetched (3 : Fin 5) rfl (fun _ => rfl) (fun _ _ _ => rfl) (fun t => by rw [after3]; unfold Dat.blockOf iblk; rfl) t d).trans
    (by unfold Dat.fetched Dat.blockOf iblk; rfl)

/-- From the first unused point on, the block named is the last used one. -/
theorem blkAt_of_le (t t' : ℕ) (h : used (tb1 m) ≤ t + 1) (h' : used (tb1 m) ≤ t' + 1) : blkAt m H t = blkAt m H t' :=
  Fin.ext (by show min t (used (tb1 m) - 1) = min t' (used (tb1 m) - 1); omega)

/-- At an unused point the output's buffer holds the last used block. -/
theorem before4 (c : Dev nD) (t : Fin (cfgA (F := F) H).N) (h : used (tb1 m) ≤ t.val) (d) :
    (dats m ρ H 0 c).before (4 : Fin 5) t d = outAt m H c (blkAt m H t.val) := by
  have hN := N_A (F := F) H
  have ht := t.isLt
  have h1 : 1 ≤ used (tb1 m) := H.h1
  rw [(dats m ρ H 0 c).before_out_traj (4 : Fin 5) rfl (fun _ _ => rfl) (fun t ht0 hi _ => by
      rw [idle_eq, decide_eq_true_eq] at hi
      rw [after4, after4]
      exact congrArg (outAt m H c) (blkAt_of_le m H _ _ (by omega) (by show used (tb1 m) ≤ t.val - 1 + 1; omega))) t.val t rfl d,
    fresh_eq H t.val (Nat.le_of_lt ht), if_neg (by rw [decide_eq_true_eq]; omega), after4]
  exact congrArg (outAt m H c) (blkAt_of_le m H _ _ (by show used (tb1 m) ≤ t.val - 1 + 1; omega) (by omega))

/-! ## The body obligation -/

/-- The body at point `t` on its staging memrefs, as the pipeline calls it. -/
abbrev bodyAt (t : Fin (cfgA (F := F) H).N) : Prog (TpuEff nD τ sig (Elt F) Λ₀ .tc) PUnit :=
  bodyOn (crd m H t) (ms0 m H t) (hs0 m H t) (ms1 m H t) (hs1 m H t) (ms2 m H t) (hs2 m H t) (ms3 m H t) (hs3 m H t) (ms4 m H t) (hs4 m H t)

/-- What the body owns besides the invariant: its input blocks. -/
abbrev ins (c : Dev nD) (t : Fin (cfgA (F := F) H).N) : sProp 𝕄 :=
  iprop(owns (c : Thread nD τ) (ms0 m H t) fullShare (iblk m ρ H c (0 : Fin 5) t) ∗ owns (c : Thread nD τ) (ms1 m H t) fullShare (iblk m ρ H c (1 : Fin 5) t)
    ∗ owns (c : Thread nD τ) (ms2 m H t) fullShare (iblk m ρ H c (2 : Fin 5) t) ∗ owns (c : Thread nD τ) (ms3 m H t) fullShare (iblk m ρ H c (3 : Fin 5) t))

/-- At a used block's point: from the invariant the body leaves it for the next point, the inputs as they were, and the output block. -/
theorem body_used (c : Dev nD) (t : Fin (cfgA (F := F) H).N) (h : t.val < used (tb1 m)) (K : PUnit → sProp 𝕄) :
    iprop(Phi m H c t.castSucc ∗ ins m ρ H c t ∗ (∃ d, owns (c : Thread nD τ) (ms4 m H t) fullShare d)
        ∗ (iprop(Phi m H c t.succ ∗ ins m ρ H c t ∗ owns (c : Thread nD τ) (ms4 m H t) fullShare (outAt m H c (blkAt m H t.val))) -∗ K ⟨⟩))
      ⊢ wp frame (wpE (defs₀ (F := F)) Variants.none c none) Set.univ (bodyAt m H t) K := by
  have hN := N_A (F := F) H
  have ht := t.isLt
  have hu : Used (F := F) (tb1 m) (crd m H t) := (used_iff H _).2 (by rw [coords_val]; exact h)
  have eb : blkAt m H t.val = ptAt m H t := Fin.ext (by show min t.val (used (tb1 m) - 1) = t.val; omega)
  have e0 : iblk m ρ H c (0 : Fin 5) t = rowsOf (m ((c : Thread nD τ).loc main_arg2)) (ptAt m H t) := (iblk0_eq m ρ H c t).trans (by rw [eb])
  unfold Phi ins
  rw [e0, iblk1_eq, iblk2_eq, iblk3_eq, eb]
  iintro ⟨⟨⟨%a0, %a1, %a2, %ha, HS⟩, HT0, HT1⟩, ⟨H0, H1, H2, H3⟩, H4, Hk⟩
  by_cases hl : Loads (F := F) (tb0 m) (tb1 m) (crd m H t)
  · iapply (body_load c (crd m H t) (ms0 m H t) (hs0 m H t) (ms1 m H t) (hs1 m H t) (ms2 m H t) (hs2 m H t) (ms3 m H t) (hs3 m H t) (ms4 m H t) (hs4 m H t) (tb0 m) (tb1 m)
      (rowsOf (m ((c : Thread nD τ).loc main_arg2)) (ptAt m H t)) (wideOf (m ((c : Thread nD τ).loc main_arg3)) (expert H (ptAt m H t)))
      (wideOf (m ((c : Thread nD τ).loc main_arg4)) (expert H (ptAt m H t))) (downOf (m ((c : Thread nD τ).loc main_arg5)) (expert H (ptAt m H t))) hl hu a0 a1 a2 K)
    isplitl [H0 H1 H2 H3 HT0 HT1]
    · isplitl [H0]; · iapply rep_of_owns; iexact H0
      isplitl [H1]; · iapply rep_of_owns; iexact H1
      isplitl [H2]; · iapply rep_of_owns; iexact H2
      isplitl [H3]; · iapply rep_of_owns; iexact H3
      isplitl [HT0]; · iexact HT0
      iexact HT1
    isplitl [H4]; · iexact H4
    isplitl [HS]; · iexact HS
    iintro ⟨⟨H0, H1, H2, H3, HT0, HT1⟩, H4, HS⟩
    iapply Hk
    isplitl [HS HT0 HT1]
    · isplitl [HS]
      · iexists _; iexists _; iexists _; isplitr; swap
        · iexact HS
        · ipureintro; intro b hb _
          have : b = ptAt m H t := Fin.ext (Nat.succ.inj hb)
          subst this; exact ⟨rfl, rfl, rfl⟩
      isplitl [HT0]; · iexact HT0
      iexact HT1
    isplitl [H0 H1 H2 H3]
    · isplitl [H0]; · iapply owns_of_rep; iexact H0
      isplitl [H1]; · iapply owns_of_rep; iexact H1
      isplitl [H2]; · iapply owns_of_rep; iexact H2
      iapply owns_of_rep; iexact H3
    iexact H4
  · have hl' := (not_congr (loads_iff (F := F) H (crd m H t))).1 hl
    rw [coords_val] at hl'
    have ht0 : t.val ≠ 0 := fun h0 => hl' ⟨h, .inl h0⟩
    have hpp : prevBlock (grid0.coords t 0) = (⟨t.val - 1, by omega⟩ : Fin 768) := Fin.ext (by show (grid0.coords t 0).val - 1 = t.val - 1; rw [coords_val])
    have hpt : (grid0.coords t 0 : Fin 768) = ptAt m H t := Fin.ext (coords_val t)
    have hex : expert H (⟨t.val - 1, by omega⟩ : Fin 768) = expert H (ptAt m H t) := Fin.ext (by
      have h2 := not_not.1 (fun h2 => hl' ⟨h, .inr h2⟩)
      exact (congrArg BitVec.toNat (by rw [← hpp, ← hpt]; exact h2.symm)))
    obtain ⟨rfl, rfl, rfl⟩ := ha ⟨t.val - 1, by omega⟩ (by show t.val - 1 + 1 = t.val; omega) (Nat.le_of_lt h)
    have eg : gateAt m H c ⟨t.val - 1, by omega⟩ = gateAt m H c (ptAt m H t) := by unfold gateAt; rw [hex]
    have eu : upAt m H c ⟨t.val - 1, by omega⟩ = upAt m H c (ptAt m H t) := by unfold upAt; rw [hex]
    have ed : downAt m H c ⟨t.val - 1, by omega⟩ = downAt m H c (ptAt m H t) := by unfold downAt; rw [hex]
    rw [eg, eu, ed]
    iapply (body_keep c (crd m H t) (ms0 m H t) (hs0 m H t) (ms1 m H t) (hs1 m H t) (ms2 m H t) (hs2 m H t) (ms3 m H t) (hs3 m H t) (ms4 m H t) (hs4 m H t) (tb0 m) (tb1 m)
      (rowsOf (m ((c : Thread nD τ).loc main_arg2)) (ptAt m H t)) (wideOf (m ((c : Thread nD τ).loc main_arg3)) (expert H (ptAt m H t)))
      (wideOf (m ((c : Thread nD τ).loc main_arg4)) (expert H (ptAt m H t))) (downOf (m ((c : Thread nD τ).loc main_arg5)) (expert H (ptAt m H t))) hl hu
      (gateAt m H c (ptAt m H t)) (upAt m H c (ptAt m H t)) (downAt m H c (ptAt m H t)) K)
    isplitl [H0 H1 H2 H3 HT0 HT1]
    · isplitl [H0]; · iapply rep_of_owns; iexact H0
      isplitl [H1]; · iapply rep_of_owns; iexact H1
      isplitl [H2]; · iapply rep_of_owns; iexact H2
      isplitl [H3]; · iapply rep_of_owns; iexact H3
      isplitl [HT0]; · iexact HT0
      iexact HT1
    isplitl [H4]; · iexact H4
    isplitl [HS]; · iexact HS
    iintro ⟨⟨H0, H1, H2, H3, HT0, HT1⟩, H4, HS⟩
    iapply Hk
    isplitl [HS HT0 HT1]
    · isplitl [HS]
      · iexists _; iexists _; iexists _; isplitr; swap
        · iexact HS
        · ipureintro; intro b hb _
          have : b = ptAt m H t := Fin.ext (Nat.succ.inj hb)
          subst this; exact ⟨rfl, rfl, rfl⟩
      isplitl [HT0]; · iexact HT0
      iexact HT1
    isplitl [H0 H1 H2 H3]
    · isplitl [H0]; · iapply owns_of_rep; iexact H0
      isplitl [H1]; · iapply owns_of_rep; iexact H1
      isplitl [H2]; · iapply owns_of_rep; iexact H2
      iapply owns_of_rep; iexact H3
    iexact H4

/-- At an unused block's point the body changes nothing. -/
theorem body_idle (c : Dev nD) (t : Fin (cfgA (F := F) H).N) (h : used (tb1 m) ≤ t.val) (y : S256x2048.Idx → Elt F .f32) (K : PUnit → sProp 𝕄) :
    iprop(Phi m H c t.castSucc ∗ ins m ρ H c t ∗ owns (c : Thread nD τ) (ms4 m H t) fullShare y
        ∗ (iprop(Phi m H c t.succ ∗ ins m ρ H c t ∗ owns (c : Thread nD τ) (ms4 m H t) fullShare y) -∗ K ⟨⟩))
      ⊢ wp frame (wpE (defs₀ (F := F)) Variants.none c none) Set.univ (bodyAt m H t) K := by
  have hu : ¬Used (F := F) (tb1 m) (crd m H t) := fun hu => by
    have := (used_iff H _).1 hu; rw [coords_val] at this; omega
  have hl : ¬Loads (F := F) (tb0 m) (tb1 m) (crd m H t) := fun hl => by
    have := ((loads_iff H _).1 hl).1; rw [coords_val] at this; omega
  unfold Phi ins
  iintro ⟨⟨⟨%a0, %a1, %a2, %ha, HS⟩, HT0, HT1⟩, ⟨H0, H1, H2, H3⟩, H4, Hk⟩
  iapply (body_unused c (crd m H t) (ms0 m H t) (hs0 m H t) (ms1 m H t) (hs1 m H t) (ms2 m H t) (hs2 m H t) (ms3 m H t) (hs3 m H t) (ms4 m H t) (hs4 m H t) (tb0 m) (tb1 m)
      (iblk m ρ H c (0 : Fin 5) t) (iblk m ρ H c (1 : Fin 5) t) (iblk m ρ H c (2 : Fin 5) t) (iblk m ρ H c (3 : Fin 5) t) hl hu a0 a1 a2 y K)
  isplitl [H0 H1 H2 H3 HT0 HT1]
  · isplitl [H0]; · iapply rep_of_owns; iexact H0
    isplitl [H1]; · iapply rep_of_owns; iexact H1
    isplitl [H2]; · iapply rep_of_owns; iexact H2
    isplitl [H3]; · iapply rep_of_owns; iexact H3
    isplitl [HT0]; · iexact HT0
    iexact HT1
  isplitl [H4]; · iexact H4
  isplitl [HS]; · iexact HS
  iintro ⟨⟨H0, H1, H2, H3, HT0, HT1⟩, H4, HS⟩
  iapply Hk
  isplitl [HS HT0 HT1]
  · isplitl [HS]
    · iexists _; iexists _; iexists _; isplitr; swap
      · iexact HS
      · ipureintro; intro b hb hn; rw [Fin.val_succ] at hn; omega
    isplitl [HT0]; · iexact HT0
    iexact HT1
  isplitl [H0 H1 H2 H3]
  · isplitl [H0]; · iapply owns_of_rep; iexact H0
    isplitl [H1]; · iapply owns_of_rep; iexact H1
    isplitl [H2]; · iapply owns_of_rep; iexact H2
    iapply owns_of_rep; iexact H3
  iexact H4

set_option maxHeartbeats 4000000 in
/-- The library's body obligation, at every point. -/
theorem body_obligation (c : Dev nD) : BodyObligation (dats m ρ H 0 c) (defs₀ (F := F)) Variants.none () Set.univ := fun t => by
  rw [bigSep_W0, bigSep_W0]
  show iprop(Phi m H c t.castSucc ∗ (dats m ρ H 0 c).owesAt () t.castSucc
        ∗ (∃ d, owns (c : Thread nD τ) (ms0 m H t) fullShare ((dats m ρ H 0 c).before (0 : Fin 5) t d))
        ∗ (∃ d, owns (c : Thread nD τ) (ms1 m H t) fullShare ((dats m ρ H 0 c).before (1 : Fin 5) t d))
        ∗ (∃ d, owns (c : Thread nD τ) (ms2 m H t) fullShare ((dats m ρ H 0 c).before (2 : Fin 5) t d))
        ∗ (∃ d, owns (c : Thread nD τ) (ms3 m H t) fullShare ((dats m ρ H 0 c).before (3 : Fin 5) t d))
        ∗ (∃ d, owns (c : Thread nD τ) (ms4 m H t) fullShare ((dats m ρ H 0 c).before (4 : Fin 5) t d)))
      ⊢ wp frame (wpE (defs₀ (F := F)) Variants.none c none) Set.univ (bodyAt m H t) fun _ =>
          iprop(Phi m H c t.succ ∗ (dats m ρ H 0 c).owesAt () t.castSucc
            ∗ owns (c : Thread nD τ) (ms0 m H t) fullShare (iblk m ρ H c (0 : Fin 5) t)
            ∗ owns (c : Thread nD τ) (ms1 m H t) fullShare (iblk m ρ H c (1 : Fin 5) t)
            ∗ owns (c : Thread nD τ) (ms2 m H t) fullShare (iblk m ρ H c (2 : Fin 5) t)
            ∗ owns (c : Thread nD τ) (ms3 m H t) fullShare (iblk m ρ H c (3 : Fin 5) t)
            ∗ (match (cfgA (F := F) H).idle (4 : Fin 5) ((cfgA (F := F) H).grid.coords t) with
                | true =>
                  match ((cfgA (F := F) H).win (4 : Fin 5)).flush t with
                  | false => iprop(∃ d, owns (c : Thread nD τ) (ms4 m H t) fullShare ((dats m ρ H 0 c).before (4 : Fin 5) t d))
                  | true => owns (c : Thread nD τ) (ms4 m H t) fullShare (outAt m H c (blkAt m H t.val))
                | false => owns (c : Thread nD τ) (ms4 m H t) fullShare (outAt m H c (blkAt m H t.val))))
  by_cases h : t.val < used (tb1 m)
  · rw [show (cfgA (F := F) H).idle (4 : Fin 5) ((cfgA (F := F) H).grid.coords t) = false from (idle_eq H t).trans (decide_eq_false (by omega))]
    simp only [before0, before1, before2, before3]
    iintro ⟨HP, Ho, ⟨%d0, H0⟩, ⟨%d1, H1⟩, ⟨%d2, H2⟩, ⟨%d3, H3⟩, ⟨%d4, H4⟩⟩
    iapply (body_used m ρ H c t h)
    isplitl [HP]; · iexact HP
    isplitl [H0 H1 H2 H3]
    · isplitl [H0]; · iexact H0
      isplitl [H1]; · iexact H1
      isplitl [H2]; · iexact H2
      iexact H3
    isplitl [H4]; · iexists _; iexact H4
    iintro ⟨HP, ⟨H0, H1, H2, H3⟩, H4⟩
    isplitl [HP]; · iexact HP
    isplitl [Ho]; · iexact Ho
    isplitl [H0]; · iexact H0
    isplitl [H1]; · iexact H1
    isplitl [H2]; · iexact H2
    isplitl [H3]; · iexact H3
    iexact H4
  · rw [show (cfgA (F := F) H).idle (4 : Fin 5) ((cfgA (F := F) H).grid.coords t) = true from (idle_eq H t).trans (decide_eq_true (by omega))]
    simp only [before0, before1, before2, before3, before4 m ρ H c t (by omega)]
    iintro ⟨HP, Ho, ⟨%d0, H0⟩, ⟨%d1, H1⟩, ⟨%d2, H2⟩, ⟨%d3, H3⟩, ⟨%d4, H4⟩⟩
    iapply (body_idle m ρ H c t (by omega) (outAt m H c (blkAt m H t.val)))
    isplitl [HP]; · iexact HP
    isplitl [H0 H1 H2 H3]
    · isplitl [H0]; · iexact H0
      isplitl [H1]; · iexact H1
      isplitl [H2]; · iexact H2
      iexact H3
    isplitl [H4]; · iexact H4
    iintro ⟨HP, ⟨H0, H1, H2, H3⟩, H4⟩
    isplitl [HP]; · iexact HP
    isplitl [Ho]; · iexact Ho
    isplitl [H0]; · iexact H0
    isplitl [H1]; · iexact H1
    isplitl [H2]; · iexact H2
    isplitl [H3]; · iexact H3
    cases ((cfgA (F := F) H).win (4 : Fin 5)).flush t
    · iexists d4; iexact H4
    · iexact H4

/-! ## The launch -/

/-- The rounds library's launch element. -/
def u₀ : UR sig nD τ :=
  initOf (Pipeline.cells (pcs m H) ((launch0 (F := F)).cellOf_inj fun _ => adm H))
    (Pipeline.launchToks (pcs m H) ((launch0 (F := F)).cellOf_inj fun _ => adm H))

theorem share_eq (c : Dev nD) (w : Fin (cfgA (F := F) H).W) : (dats m ρ H 0 c).share w = fullShare := by unfold Dat.share; split <;> rfl

/-- The tables as the launch hands them to the region, one by one. -/
theorem prefHeld_eq (c : Dev nD) (q : Fin 2 → PosShare TreeShare) (v : pre0.Contents (Elt F)) :
    (Pipeline.prefHeld (Ix := Unit) (Name := ℕ) (U := UR sig nD τ) (Lvl := ℕ) pre0 c q v : sProp 𝕄)
      = iprop((((c : Thread nD τ).loc main_arg0) ↦{q 0} v 0) ∗ (((c : Thread nD τ).loc main_arg1) ↦{q 1} v 1)) := by
  unfold Pipeline.prefHeld
  rw [show (Finset.univ : Finset (Fin 2)) = insert (0 : Fin 2) {(1 : Fin 2)} from by decide,
    bigSep_insert (by decide), bigSep_singleton]
  rfl

/-- The invariant at the first point, from the tables and the scratch buffers; -/
theorem phi0_intro (c : Dev nD) :
    iprop(BI.emp ∗ Pipeline.prefHeld pre0 c (fun _ => fullShare.right) (adm (F := F) H).1 ∗ Pipeline.scopedRest spec0 c) ⊢ (dats m ρ H 0 c).Φ 0 := by
  rw [prefHeld_eq, scopedRest0_eq, show (dats m ρ H 0 c).Φ 0 = Phi m H c 0 from rfl]
  unfold Phi scr
  iintro ⟨-, ⟨HT0, HT1⟩, ⟨%a0, HS0⟩, ⟨%a1, HS1⟩, ⟨%a2, HS2⟩⟩
  isplitl [HS0 HS1 HS2]
  · iexists a0; iexists a1; iexists a2; isplitr
    · ipureintro; intro b hb; exact absurd hb (Nat.succ_ne_zero _)
    isplitl [HS0]; · iexact HS0
    isplitl [HS1]; · iexact HS1
    iexact HS2
  isplitl [HT0]
  · iexact HT0
  iexact HT1

/-- at the last point it gives the scratch buffers back, the tables let go. -/
theorem phiN_exit (c : Dev nD) : (dats m ρ H 0 c).Φ (Fin.last (cfgA (F := F) H).N) ⊢ iprop(BI.emp ∗ Pipeline.scopedRest spec0 c) := by
  rw [scopedRest0_eq, show (dats m ρ H 0 c).Φ (Fin.last (cfgA (F := F) H).N) = Phi m H c (Fin.last _) from rfl]
  unfold Phi scr
  iintro ⟨⟨%a0, %a1, %a2, -, ⟨HS0, HS1, HS2⟩⟩, -, -⟩
  isplitr; · iempintro
  isplitl [HS0]
  · iexists a0; iexact HS0
  isplitl [HS1]
  · iexists a1; iexact HS1
  iexists a2; iexact HS2

/-- The physical post: every array at what the library computes, every table at what the pipeline ran at. -/
def QC : PUnit × MemSt nD τ sig (Elt F) → Prop := fun r =>
  ∀ c : Dev nD, (∀ w : Fin (cfgA (F := F) H).W, r.2.mem (((cfgA (F := F) H).win w).arr.view.loc (c : Thread nD τ)) = (dats m ρ H 0 c).arrAt w (cfgA (F := F) H).N)
    ∧ ∀ j, r.2.mem ((c : Thread nD τ).loc (pre0.ref j)) = (adm (F := F) H).1 j

theorem V_pre (c : Dev nD) (j : Fin 2) : m ((c : Thread nD τ).loc (pre0.ref j)) = (adm (F := F) H).1 j := by
  have hc : c = 0 := Subsingleton.elim _ _
  subst hc
  fin_cases j <;> rfl

set_option backward.isDefEq.respectTransparency.types false in
set_option maxHeartbeats 4000000 in
/-- From any memory with zero counters whose tables are in range: every weakly fair execution of @main on the TensorCores
    terminates, and every final state has each array at the computed contents, and every semaphore counter at zero. -/
theorem run_main_quiescent : θ_run (defs (F := F)) (onTc (τ := τ) (main (F := F))) (s₀ m ρ) (fun r => QC m ρ H r ∧ r.2.sem = fun _ => 0) :=
  Pipeline.θ_run_region_noSem_pf_quiescent pcfgs (fun _ => adm H) (dats m ρ H) () ((launch0 (F := F)).cellOf_inj fun _ => adm H) (0 : Fin 1)
    (launch0 (F := F)).win.to₀ (launch0 (F := F)).pre EP defs₀ Variants.none m ρ main
    (hbody := fun c => (body_obligation m ρ H c).loose) (hne := (launch0 (F := F)).block_pos)
    (harr := (launch0 (F := F)).arr_whole) (hstage := (launch0 (F := F)).stage_whole) (howed := fun _ _ => rfl)
    (u₀ := u₀ m H) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pcs m H) (dats m ρ H) 0 (launch0 (F := F)).win.arr_inj c (launch0 (F := F)).arr_whole
      (share_eq m ρ H c) _ _ fun _ => rfl)
    (hpf := V_pre m H)
    (X := fun _ => iprop(emp)) (Y := fun _ => iprop(emp)) (Z := fun _ => iprop(emp))
    (hX := fun c => by rw [unscopedRestP0_eq]; iintro -; isplitr <;> iempintro)
    (hin := phi0_intro m ρ H)
    (hout := phiN_exit m ρ H)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

/-- The run: the output array at the computed contents, every argument unchanged, every semaphore counter at zero. -/
theorem run : θ_run (defs (F := F)) (onTc (τ := τ) (main (F := F))) ⟨m, fun _ => 0, ρ⟩ (fun r => (∀ c : Dev nD,
      r.2.mem ((c.tc : Thread nD τ).loc main_v0) = (dats m ρ H 0 c).arrAt (4 : Fin 5) (cfgA (F := F) H).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c => ⟨(h.1 c).1 (4 : Fin 5), ((h.1 c).2 0).trans (V_pre m H c 0).symm, ((h.1 c).2 1).trans (V_pre m H c 1).symm,
    ((h.1 c).1 (0 : Fin 5)).trans ((dats m ρ H 0 c).arrAt_in (0 : Fin 5) rfl _), ((h.1 c).1 (1 : Fin 5)).trans ((dats m ρ H 0 c).arrAt_in (1 : Fin 5) rfl _),
    ((h.1 c).1 (2 : Fin 5)).trans ((dats m ρ H 0 c).arrAt_in (2 : Fin 5) rfl _), ((h.1 c).1 (3 : Fin 5)).trans ((dats m ρ H 0 c).arrAt_in (3 : Fin 5) rfl _)⟩, h.2⟩)
    (run_main_quiescent m ρ H)

end Cert.KernelIdeal.Experts

end
-- ==== Proof.Spec.lean ====
module

public import Idealize.ShloMosaic.PureOps.Ideal
public import Idealize.ShloMosaic.Lib.ValueIdxCore

/-!
# The gated product of one row

What both programs compute for one row: the row times the gate weights, through x · 1/(1 + e⁻ˣ), times the row times the up weights,
and that times the down weights.
-/

@[expose] public section

noncomputable section

namespace Cert.Experts

open Idealize.ShloMosaic

/-- A row times a matrix's column. -/
def rowDot {K N : ℕ} (x : Fin K → EReal) (A : Fin K → Fin N → EReal) (f : Fin N) : EReal := ∑ k : Fin K, x k * A k f

/-- The row's hidden value at `f`: silu of the gate product, times the up product. -/
def hidden {K N : ℕ} (x : Fin K → EReal) (A U : Fin K → Fin N → EReal) (f : Fin N) : EReal :=
  rowDot x A f * Ideal.logistic (rowDot x A f) * rowDot x U f

/-- The row's output at `q`. -/
def expertRow {K N M : ℕ} (x : Fin K → EReal) (A U : Fin K → Fin N → EReal) (D : Fin N → Fin M → EReal) (q : Fin M) : EReal :=
  rowDot (hidden x A U) D q

end Cert.Experts

end
-- ==== Proof.ValueIdeal.lean ====
module

public import proofs.«01_k».proof.Proof.RegionIdeal
public import proofs.«01_k».proof.Proof.Spec
public import Idealize.ShloMosaic.Lib.MatmulPlain
public import Idealize.ShloMosaic.Lib.ValueLayout
public import Idealize.ShloMosaic.Lib.IdealHost
public import proofs.«01_k».proof.Proof.Gen.KernelIdeal.Launch
public import Idealize.ShloMosaic.Lib.Pipeline.Kit
public import Idealize.ShloMosaic.Lib.Pipeline.Quiescent
public import Idealize.ShloMosaic.Lib.Pipeline.TableIdle
public import Idealize.ShloMosaic.Lib.Pipeline.FrameBody
public import Idealize.ShloMosaic.Lib.Pipeline.Value
public import Idealize.ShloMosaic.Lib.Writes
public import Idealize.ShloMosaic.Lib.VecWindow
public import Idealize.ShloMosaic.Lib.Ring
public import Idealize.ShloMosaic.Lib.Exec
public import Idealize.ShloMosaic.Lib.Affine
public import Idealize.ShloMosaic.Lib.Tactic
public import Idealize.ShloMosaic.Lib.Claim
public import Idealize.ShloMosaic.PureOps.Ideal
public import Idealize.ShloMosaic.Adequacy
public import Idealize.ShloMosaic.Init

@[expose] public section

set_option maxRecDepth 16384

noncomputable section

namespace Cert.KernelIdeal.Experts

open Cert.KernelIdeal Cert.KernelIdeal.Gen
open Idealize.ShloMosaic Idealize.ShloMosaic.ValueIdx
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

open Cert.Experts

/-! ## The body's output block, at an index -/

theorem pay1_apply (w : S1x2048x512.Idx → EReal) (k : Fin 2048) (f : Fin 512) :
    (k0_pay1 (F := Ideal) w : S2048x512.Idx → EReal) (ix2 k f) = w (ix3 (0 : Fin 1) k f) := by
  show shapeCast S2048x512 (truncf (F := Ideal) .bf16 (shapeCast S2048x512 w _) _) _ (ix2 k f) = _
  rw [shapeCast_self]
  exact shapeCast_1ab_ab_apply w _ k f

theorem pay2_apply (w : S1x2048x512.Idx → EReal) (k : Fin 2048) (f : Fin 512) :
    (k0_pay2 (F := Ideal) w : S2048x512.Idx → EReal) (ix2 k f) = w (ix3 (0 : Fin 1) k f) := pay1_apply w k f

theorem pay3_apply (w : S1x512x2048.Idx → EReal) (f : Fin 512) (q : Fin 2048) :
    (k0_pay3 (F := Ideal) w : S512x2048.Idx → EReal) (ix2 f q) = w (ix3 (0 : Fin 1) f q) := by
  show shapeCast S512x2048 (truncf (F := Ideal) .bf16 (shapeCast S512x2048 w _) _) _ (ix2 f q) = _
  rw [shapeCast_self]
  exact shapeCast_1ab_ab_apply w _ f q

/-- One product of the body, into the zero accumulator. -/
theorem gate_apply (x : S256x2048.Idx → EReal) (g : S2048x512.Idx → EReal) (p : Fin 256) (f : Fin 512) :
    FloatOps.matmul (F := Ideal) (φ₁ := .bf16) (φ₂ := .bf16) dot_S256x2048_S2048x512_S256x512_1_0_0_1_n_n none x g (constant (F := Ideal) S256x512 .f32 0x00000000#32) (ix2 p f)
      = rowDot (fun k => x (ix2 p k)) (fun k f => g (ix2 k f)) f := by
  refine (Ideal.matmul_plain_apply (M := 256) (K := 2048) (N := 512) none x g _ p f).trans ?_
  show Ideal.ofBits .f32 0x00000000#32 + _ = _
  rw [Ideal.ofBits_zero_f32, zero_add]
  rfl

theorem down_apply (h : S256x512.Idx → EReal) (d : S512x2048.Idx → EReal) (p : Fin 256) (q : Fin 2048) :
    FloatOps.matmul (F := Ideal) (φ₁ := .bf16) (φ₂ := .bf16) dot_S256x512_S512x2048_S256x2048_1_0_0_1_n_n none h d (constant (F := Ideal) S256x2048 .f32 0x00000000#32) (ix2 p q)
      = rowDot (fun f => h (ix2 p f)) (fun f q => d (ix2 f q)) q := by
  refine (Ideal.matmul_plain_apply (M := 256) (K := 512) (N := 2048) none h d _ p q).trans ?_
  show Ideal.ofBits .f32 0x00000000#32 + _ = _
  rw [Ideal.ofBits_zero_f32, zero_add]
  rfl

theorem pay4_apply (x : S256x2048.Idx → EReal) (g u : S2048x512.Idx → EReal) (d : S512x2048.Idx → EReal) (p : Fin 256) (q : Fin 2048) :
    (k0_pay4 (F := Ideal) x g u d : S256x2048.Idx → EReal) (ix2 p q)
      = expertRow (fun k => x (ix2 p k)) (fun k f => g (ix2 k f)) (fun k f => u (ix2 k f)) (fun f q => d (ix2 f q)) q := by
  refine (down_apply _ d p q).trans ?_
  refine congrArg (fun h => rowDot h (fun f q => d (ix2 f q)) q) (funext fun f => ?_)
  have hg := gate_apply x g p f
  have hu := gate_apply x u p f
  exact congrArg₂ (fun a b : EReal => a * Ideal.logistic a * b) hg hu

/-! ## The output array on the used rows -/

section value
variable (m : (ℓ : Loc nD τ sig) → Buf (Elt Ideal) ℓ) (ρ : Dev nD → PrngReg) (H : InRange (tb0 m) (tb1 m))

/-- Row `p` of block `b`, column `q`. -/
def rowIx (b : Fin 768) (p : Fin 256) (q : Fin 2048) : S196608x2048.Idx :=
  ix2 (⟨b.val * 256 + p.val, by have := b.isLt; have := p.isLt; omega⟩ : Fin 196608) q

/-- The array whose block `b` is the body's output at block `b`. -/
def outG (c : Dev nD) : S196608x2048.Idx → EReal := fun i =>
  outAt m H c (⟨(i 0).val / 256, by have : (i 0).val < 196608 := (i 0).isLt; omega⟩ : Fin 768)
    (ix2 (⟨(i 0).val % 256, Nat.mod_lt _ (by decide)⟩ : Fin 256) (⟨(i 1).val, (i 1).isLt⟩ : Fin 2048))

/-- Where an element of point `t`'s output block sits. -/
theorem emb4_val (t : Fin (cfgA (F := Ideal) H).N) (j : S256x2048.Idx) :
    ((((cfgA (F := Ideal) H).win (4 : Fin 5)).blk t).view.emb j : S196608x2048.Idx)
      = rowIx (blkAt m H t.val) (⟨(j 0).val, (j 0).isLt⟩ : Fin 256) (⟨(j 1).val, (j 1).isLt⟩ : Fin 2048) := by
  funext a
  refine Fin.ext ?_
  show ((cfgA (F := Ideal) H).win (4 : Fin 5)).index t a * S256x2048.size a + 1 * (j a).val = _
  rw [index_eq]
  fin_cases a
  · show min t.val (used (tb1 m) - 1) * 256 + 1 * (j 0).val = min t.val (used (tb1 m) - 1) * 256 + (j 0).val
    omega
  · show 0 * 2048 + 1 * (j 1).val = (j 1).val
    omega

theorem outG_row (c : Dev nD) (b : Fin 768) (p : Fin 256) (q : Fin 2048) : outG m H c (rowIx b p q) = outAt m H c b (ix2 p q) := by
  have hp := p.isLt
  unfold outG
  have e : (⟨(rowIx b p q 0).val / 256, by have : (rowIx b p q 0).val < 196608 := (rowIx b p q 0).isLt; omega⟩ : Fin 768) = b :=
    Fin.ext (by show (b.val * 256 + p.val) / 256 = b.val; omega)
  have e' : (⟨(rowIx b p q 0).val % 256, Nat.mod_lt _ (by decide)⟩ : Fin 256) = p :=
    Fin.ext (by show (b.val * 256 + p.val) % 256 = p.val; omega)
  rw [e, e']
  rfl

/-- A used block's rows of the output array after the run. -/
theorem out_used (c : Dev nD) (b : Fin 768) (hb : b.val < used (tb1 m)) (p : Fin 256) (q : Fin 2048) :
    ((dats m ρ H 0 c).arrAt (4 : Fin 5) (cfgA (F := Ideal) H).N : S196608x2048.Idx → EReal) (rowIx b p q) = outAt m H c b (ix2 p q) := by
  have hG : ∀ t, ((cfgA (F := Ideal) H).win (4 : Fin 5)).flush t = true →
      (dats m ρ H 0 c).flushed (4 : Fin 5) t = (((cfgA (F := Ideal) H).win (4 : Fin 5)).blk t).view.read (Elt Ideal) (outG m H c) := by
    intro t _
    funext j
    show outAt m H c (blkAt m H t.val) j = outG m H c ((((cfgA (F := Ideal) H).win (4 : Fin 5)).blk t).view.emb j)
    rw [emb4_val, outG_row]
    exact congrArg _ (funext fun a => by fin_cases a <;> rfl)
  have key : ∀ t : Fin (cfgA (F := Ideal) H).N, ((cfgA (F := Ideal) H).win (4 : Fin 5)).flush t = true → blkAt m H t.val = b →
      ((dats m ρ H 0 c).arrAt (4 : Fin 5) (cfgA (F := Ideal) H).N : S196608x2048.Idx → EReal) (rowIx b p q) = outAt m H c b (ix2 p q) := by
    intro t hf ht
    have hi : (rowIx b p q) ∈ (((cfgA (F := Ideal) H).win (4 : Fin 5)).blk t).view.set := by
      have := (((cfgA (F := Ideal) H).win (4 : Fin 5)).blk t).view.emb_mem_set (ix2 p q : S256x2048.Idx)
      rw [emb4_val, ht] at this
      exact this
    exact ((dats m ρ H 0 c).arrAt_apply_of_mem (4 : Fin 5) (outG m H c) hG _ t _ t.isLt hf hi).trans (outG_row m H c b p q)
  have hN := N_A (F := Ideal) H
  have h1 : 1 ≤ used (tb1 m) := H.h1
  have h2 : used (tb1 m) ≤ 768 := H.h2
  by_cases h : b.val + 1 < used (tb1 m)
  · refine key ⟨b.val, by omega⟩ ?_ (Fin.ext ?_)
    · rw [flush_eq]; exact decide_eq_true (Or.inl h)
    · show min b.val (used (tb1 m) - 1) = b.val; omega
  · refine key ⟨767, by omega⟩ ?_ (Fin.ext ?_)
    · rw [flush_eq]; exact decide_eq_true (Or.inr rfl)
    · show min 767 (used (tb1 m) - 1) = b.val; omega

/-- The output array on a used row, as the gated product of the row with its block's expert. -/
theorem out_apply (c : Dev nD) (b : Fin 768) (hb : b.val < used (tb1 m)) (p : Fin 256) (q : Fin 2048) :
    ((dats m ρ H 0 c).arrAt (4 : Fin 5) (cfgA (F := Ideal) H).N : S196608x2048.Idx → EReal) (rowIx b p q)
      = expertRow (fun k => (m ((c : Thread nD τ).loc main_arg2) : S196608x2048.Idx → EReal) (rowIx b p k))
          (fun k f => (m ((c : Thread nD τ).loc main_arg3) : S256x2048x512.Idx → EReal) (ix3 (expert H b) k f))
          (fun k f => (m ((c : Thread nD τ).loc main_arg4) : S256x2048x512.Idx → EReal) (ix3 (expert H b) k f))
          (fun f q => (m ((c : Thread nD τ).loc main_arg5) : S256x512x2048.Idx → EReal) (ix3 (expert H b) f q)) q := by
  rw [out_used m ρ H c b hb p q]
  refine (pay4_apply _ _ _ _ p q).trans ?_
  have h1 : ∀ k, rowsOf (m ((c : Thread nD τ).loc main_arg2)) b (ix2 p k) = (m ((c : Thread nD τ).loc main_arg2) : S196608x2048.Idx → EReal) (rowIx b p k) :=
    fun k => congrArg (m ((c : Thread nD τ).loc main_arg2) : S196608x2048.Idx → EReal) (funext fun a => by fin_cases a <;> rfl)
  have h2 : ∀ k f, (gateAt m H c b : S2048x512.Idx → EReal) (ix2 k f) = (m ((c : Thread nD τ).loc main_arg3) : S256x2048x512.Idx → EReal) (ix3 (expert H b) k f) :=
    fun k f => (pay1_apply _ k f).trans (congrArg (m ((c : Thread nD τ).loc main_arg3) : S256x2048x512.Idx → EReal) (funext fun a => by fin_cases a <;> rfl))
  have h3 : ∀ k f, (upAt m H c b : S2048x512.Idx → EReal) (ix2 k f) = (m ((c : Thread nD τ).loc main_arg4) : S256x2048x512.Idx → EReal) (ix3 (expert H b) k f) :=
    fun k f => (pay2_apply _ k f).trans (congrArg (m ((c : Thread nD τ).loc main_arg4) : S256x2048x512.Idx → EReal) (funext fun a => by fin_cases a <;> rfl))
  have h4 : ∀ f q, (downAt m H c b : S512x2048.Idx → EReal) (ix2 f q) = (m ((c : Thread nD τ).loc main_arg5) : S256x512x2048.Idx → EReal) (ix3 (expert H b) f q) :=
    fun f q => (pay3_apply _ f q).trans (congrArg (m ((c : Thread nD τ).loc main_arg5) : S256x512x2048.Idx → EReal) (funext fun a => by fin_cases a <;> rfl))
  simp only [h1, h2, h3, h4]
end value

end Cert.KernelIdeal.Experts

end
-- ==== Proof.ReferenceValue.lean ====
module

public import proofs.«01_k».proof.Proof.Gen.ReferenceIdeal
public import proofs.«01_k».proof.Proof.Gen.ReferenceIdeal.Run
public import proofs.«01_k».proof.Proof.Spec
public import Idealize.ShloMosaic.Lib.MatmulPlain
public import Idealize.ShloMosaic.Lib.IdealHost
public import Idealize.ShloMosaic.Lib.Pipeline.Value
public import Idealize.ShloMosaic.PureOps.Ideal

/-!
# The reference, at an index

The reference gathers each block's expert weights and multiplies; read at a row and a column it is the row's gated product.
-/

@[expose] public section

noncomputable section

namespace Cert.ReferenceIdeal.Experts

open Cert.ReferenceIdeal Cert.ReferenceIdeal.Gen
open Idealize.ShloMosaic Idealize.ShloMosaic.ValueIdx
open Cert.Experts

/-! ## A batched product, at an index -/

/-- The gather of whole matrices along axis 0: block `b` reads the matrix its start index names, signed and clamped. -/
theorem gather_row {N A B n : ℕ} (hN : 0 < N) (wf : GatherDims.WF ⟨3, ![N, A, B]⟩ ⟨2, ![n, 1]⟩ ⟨3, ![n, A, B]⟩ [1, 2] [0] [] [0] [] 1 ![1, A, B])
    (x : (⟨3, ![N, A, B]⟩ : Shape).Idx → EReal) (idx : IVec (⟨2, ![n, 1]⟩ : Shape) 32) (b : Fin n) (i : Fin A) (j : Fin B) :
    Host.gather { offsetDims := [1, 2], collapsedSliceDims := [0], operandBatchingDims := [], startIndicesBatchingDims := [], startIndexMap := [0], indexVectorDim := 1, sliceSizes := ![1, A, B], wf := wf } x idx (ix3 b i j)
      = x (ix3 (⟨min (idx (ix2 b (0 : Fin 1))).toInt.toNat (N - 1), by omega⟩ : Fin N) i j) := by
  unfold Host.gather
  refine congrArg x (funext fun a => Fin.ext ?_)
  let d : GatherDims ⟨3, ![N, A, B]⟩ ⟨2, ![n, 1]⟩ ⟨3, ![n, A, B]⟩ := { offsetDims := [1, 2], collapsedSliceDims := [0], operandBatchingDims := [], startIndicesBatchingDims := [], startIndexMap := [0], indexVectorDim := 1, sliceSizes := ![1, A, B], wf := wf }
  show d.start (ix3 b i j) idx a + d.batchCoord (ix3 b i j) a + d.offCoord (ix3 b i j) a = _
  rw [GatherDims.batchCoord_eq_zero _ _ _ List.not_mem_nil, Nat.add_zero]
  match a with
  | ⟨0, _⟩ =>
    rw [GatherDims.offCoord_eq_zero _ _ _ (fun h => ((GatherDims.mem_sKept _ _).mp h).1 (List.mem_singleton.mpr rfl)), Nat.add_zero]
    unfold GatherDims.start
    rw [dif_pos (show (⟨0, by decide⟩ : Fin 3) ∈ d.startIndexMap from List.mem_singleton.mpr rfl)]
    have hsi : d.siIdx (ix3 b i j) ⟨List.idxOf (⟨0, by decide⟩ : Fin 3) d.startIndexMap, List.idxOf_lt_length_iff.2 (List.mem_singleton.mpr rfl)⟩ = ix2 b (0 : Fin 1) := by
      funext c; refine Fin.ext ?_
      match c with
      | ⟨0, _⟩ => rfl
      | ⟨1, _⟩ => rfl
    rw [hsi]
    rfl
  | ⟨1, _⟩ =>
    unfold GatherDims.start
    rw [dif_neg (show ¬ ((⟨1, by decide⟩ : Fin 3) ∈ d.startIndexMap) from by simp [d]), Nat.zero_add]
    unfold GatherDims.offCoord
    rw [dif_pos ((GatherDims.mem_sKept _ _).mpr ⟨by simp [d], List.not_mem_nil⟩)]
    rfl
  | ⟨2, _⟩ =>
    unfold GatherDims.start
    rw [dif_neg (show ¬ ((⟨2, by decide⟩ : Fin 3) ∈ d.startIndexMap) from by simp [d]), Nat.zero_add]
    unfold GatherDims.offCoord
    rw [dif_pos ((GatherDims.mem_sKept _ _).mpr ⟨by simp [d], List.not_mem_nil⟩)]
    rfl

/-- A product of two stacks of matrices, block by block. -/
theorem batch_dot {n M K N : ℕ} (hn : 0 < n) (wf : DotDims.WF ⟨3, ![n, M, K]⟩ ⟨3, ![n, K, N]⟩ ⟨3, ![n, M, N]⟩ [2] [1] [1] [2] [0] [0])
    (l : (⟨3, ![n, M, K]⟩ : Shape).Idx → EReal) (r : (⟨3, ![n, K, N]⟩ : Shape).Idx → EReal) (b : Fin n) (i : Fin M) (j : Fin N) :
    Host.dotGeneral (F := Ideal) (φ₁ := .f32) (φ₂ := .f32) { lhsContracting := [2], rhsContracting := [1], lhsNonContracting := [1], rhsNonContracting := [2], lhsBatch := [0], rhsBatch := [0], wf := wf } none l r (ix3 b i j)
      = rowDot (fun k => l (ix3 b i k)) (fun k f => r (ix3 b k f)) j := by
  let d : DotDims ⟨3, ![n, M, K]⟩ ⟨3, ![n, K, N]⟩ ⟨3, ![n, M, N]⟩ := { lhsContracting := [2], rhsContracting := [1], lhsNonContracting := [1], rhsNonContracting := [2], lhsBatch := [0], rhsBatch := [0], wf := wf }
  have hr : d.contr.rank = 1 := rfl
  have hs : d.contr.size ⟨0, by rw [hr]; exact Nat.one_pos⟩ = K := rfl
  refine (Ideal.dotGeneral_apply (φ₁ := .f32) (φ₂ := .f32) d none _ l r (ix3 b i j)).trans ?_
  rw [ ← Equiv.sum_comp (contrEquiv1 d K hr hs).symm]
  refine Finset.sum_congr rfl fun k _ => ?_
  have hk := contrEquiv1_symm_val d K hr hs k
  have el : d.lhsIdx (ix3 b i j) ((contrEquiv1 d K hr hs).symm k) = ix3 b i k := by
    funext a; apply Fin.ext
    match a with
    | ⟨0, _⟩ => rfl
    | ⟨1, _⟩ => rfl
    | ⟨2, _⟩ => exact hk
  have er : d.rhsIdx (ix3 b i j) ((contrEquiv1 d K hr hs).symm k) = ix3 b k j := by
    funext a; apply Fin.ext
    match a with
    | ⟨0, _⟩ => rfl
    | ⟨1, _⟩ => exact hk
    | ⟨2, _⟩ => rfl
  rw [el, er]

/-! ## The reference's operations -/

/-- The start indices: each block's expert, a negative one wrapped. -/
def starts (T : IVec S768 32) : IVec S768x1 32 :=
  broadcastInDim S768x1 ![0] bcast_S768_S768x1_0 (select (cmpi .slt T (broadcastInDim S768 ![] bcast_S_S768 (constantI S_ 32 0#32)))
    (addi T (broadcastInDim S768 ![] bcast_S_S768 (constantI S_ 32 256#32))) T)

/-- An expert in range is its own start index. -/
theorem starts_apply (T : IVec S768 32) (hT : ∀ j, (T j).toNat < 256) (b : Fin 768) :
    min ((starts T) (ix2 b (0 : Fin 1))).toInt.toNat (256 - 1) = (T (ix1 b)).toNat := by
  have e : (starts T) (ix2 b (0 : Fin 1)) = T (ix1 b) := by
    unfold starts
    rw [broadcastInDim_apply _ _ _ _ (ix1 b) (fun a => by fin_cases a; rfl)]
    have hc : cmpi .slt T (broadcastInDim S768 ![] bcast_S_S768 (constantI S_ 32 0#32)) (ix1 b) = 0#1 := by
      show BitVec.ofBool (decide ((T (ix1 b)).toInt < (0#32).toInt)) = 0#1
      rw [decide_eq_false]; rfl
      have := hT (ix1 b)
      rw [BitVec.toInt_eq_toNat_cond, if_pos (by omega)]
      show ¬ (((T (ix1 b)).toNat : ℤ) < 0)
      omega
    show (if cmpi .slt T (broadcastInDim S768 ![] bcast_S_S768 (constantI S_ 32 0#32)) (ix1 b) = 1#1 then _ else _) = _
    rw [hc]
    exact if_neg (by decide)
  have := hT (ix1 b)
  rw [e, BitVec.toInt_eq_toNat_cond, if_pos (by omega)]
  omega

section ref
variable (T : IVec S768 32) (X : S196608x2048.Idx → EReal) (A U : S256x2048x512.Idx → EReal) (D : S256x512x2048.Idx → EReal)

/-- The token rows by block; -/
def blocks : S768x256x2048.Idx → EReal := shapeCast _ X shapeCasts_S196608x2048_S768x256x2048
/-- a product with the gathered gate (or up) weights; -/
def wide (A : S256x2048x512.Idx → EReal) : FVec Ideal S768x256x512 .f32 :=
  Host.dotGeneral (F := Ideal) (φ₁ := .f32) (φ₂ := .f32) dot_S768x256x2048_S768x2048x512_S768x256x512_2_1_1_2_0_0 none (blocks X)
    (Host.gather gather_S256x2048x512_S768x1_S768x2048x512_12_0_n_n_0_1_12048512 A (starts T))
/-- the hidden values; -/
def hid : FVec Ideal S768x256x512 .f32 :=
  mulf (mulf (wide T X A) (Host.divf (broadcastInDim S768x256x512 ![] bcast_S_S768x256x512 (constant S_ .f32 0x3F800000#32))
    (addf (broadcastInDim S768x256x512 ![] bcast_S_S768x256x512 (constant S_ .f32 0x3F800000#32)) (Host.exp (Host.negf (wide T X A)))))) (wide T X U)
/-- and the result. -/
def out : S196608x2048.Idx → EReal :=
  shapeCast _ (Host.dotGeneral (F := Ideal) (φ₁ := .f32) (φ₂ := .f32) dot_S768x256x512_S768x512x2048_S768x256x2048_2_1_1_2_0_0 none (hid T X A U)
    (Host.gather gather_S256x512x2048_S768x1_S768x512x2048_12_0_n_n_0_1_15122048 D (starts T))) shapeCasts_S768x256x2048_S196608x2048

variable (hT : ∀ j, (T j).toNat < 256)

/-- Block `b`'s expert. -/
def exp (b : Fin 768) : Fin 256 := ⟨(T (ix1 b)).toNat, hT _⟩

/-- Row `p` of block `b`. -/
def rowOf (b : Fin 768) (p : Fin 256) : Fin 196608 := ⟨b.val * 256 + p.val, by have := b.isLt; have := p.isLt; omega⟩

theorem blocks_apply (b : Fin 768) (p : Fin 256) (k : Fin 2048) : blocks X (ix3 b p k) = X (ix2 (rowOf b p) k) :=
  shapeCast_apply X _ _ _ (by
    rw [Shape.rowMajor_val_three, Shape.rowMajor_val_two]
    rfl)

theorem wide_apply (A : S256x2048x512.Idx → EReal) (b : Fin 768) (p : Fin 256) (f : Fin 512) :
    wide T X A (ix3 b p f) = rowDot (fun k => X (ix2 (rowOf b p) k)) (fun k f => A (ix3 (exp T hT b) k f)) f := by
  refine (batch_dot (by decide) _ (blocks X) _ b p f).trans ?_
  have h1 : ∀ k, blocks X (ix3 b p k) = X (ix2 (rowOf b p) k) := blocks_apply X b p
  have h2 : ∀ k f, Host.gather gather_S256x2048x512_S768x1_S768x2048x512_12_0_n_n_0_1_12048512 A (starts T) (ix3 b k f) = A (ix3 (exp T hT b) k f) := fun k f =>
    (gather_row (by decide) _ A (starts T) b k f).trans (congrArg (fun e => A (ix3 e k f)) (Fin.ext (starts_apply T hT b)))
  simp only [h1, h2]

theorem hid_apply (b : Fin 768) (p : Fin 256) (f : Fin 512) :
    hid T X A U (ix3 b p f) = hidden (fun k => X (ix2 (rowOf b p) k)) (fun k f => A (ix3 (exp T hT b) k f)) (fun k f => U (ix3 (exp T hT b) k f)) f := by
  have h1 := wide_apply T X hT A b p f
  have h2 := wide_apply T X hT U b p f
  show wide T X A (ix3 b p f) * Ideal.div (Ideal.ofBits .f32 0x3F800000#32) (Ideal.ofBits .f32 0x3F800000#32 + Ideal.exp (-(wide T X A (ix3 b p f)))) * wide T X U (ix3 b p f) = _
  rw [h1, h2, Ideal.ofBits_one_f32]
  rfl

theorem out_apply (b : Fin 768) (p : Fin 256) (q : Fin 2048) :
    out T X A U D (ix2 (rowOf b p) q) = expertRow (fun k => X (ix2 (rowOf b p) k)) (fun k f => A (ix3 (exp T hT b) k f))
      (fun k f => U (ix3 (exp T hT b) k f)) (fun f q => D (ix3 (exp T hT b) f q)) q := by
  unfold out
  rw [shapeCast_apply _ _ _ (ix3 b p q) (by rw [Shape.rowMajor_val_three, Shape.rowMajor_val_two]; rfl)]
  refine (batch_dot (by decide) _ (hid T X A U) _ b p q).trans ?_
  have h1 : ∀ f, hid T X A U (ix3 b p f) = _ := hid_apply T X A U hT b p
  have h2 : ∀ f q, Host.gather gather_S256x512x2048_S768x1_S768x512x2048_12_0_n_n_0_1_15122048 D (starts T) (ix3 b f q) = D (ix3 (exp T hT b) f q) := fun f q =>
    (gather_row (by decide) _ D (starts T) b f q).trans (congrArg (fun e => D (ix3 e f q)) (Fin.ext (starts_apply T hT b)))
  simp only [h1, h2]
  rfl
end ref

end Cert.ReferenceIdeal.Experts

end
-- ==== Proof.Ranges.lean ====
module

public import proofs.«01_k».proof.Pre_in_range
public import proofs.«01_k».proof.On_rows_used
public import proofs.«01_k».proof.Proof.Gen.Pre_in_range
public import proofs.«01_k».proof.Proof.Gen.On_rows_used
public import Idealize.ShloMosaic.Lib.ReduceAll
public import Idealize.ShloMosaic.Lib.IdealHost
public import Idealize.ShloMosaic.Lib.WordCmp
public import Idealize.ShloMosaic.Lib.Pipeline.Value

/-!
# The precondition and the mask, read

`in_range` says each block's expert is below 256 and the number of used blocks lies in 1..768; `rows_used` selects the rows of the used blocks.
-/

@[expose] public section

noncomputable section

namespace Cert.Experts

open Idealize.ShloMosaic Idealize.ShloMosaic.ValueIdx

variable {F : FTy → Type} [FloatOps F]

theorem and_one {a b : BitVec 1} (h : IntOp.andi a b = 1#1) : a = 1#1 ∧ b = 1#1 := by
  revert a b; decide

theorem of_ofBool {p : Prop} [Decidable p] (h : BitVec.ofBool (decide p) = 1#1) : p := by
  by_contra hp
  rw [decide_eq_false hp] at h
  exact absurd h (by decide)

theorem small_toInt {n : ℕ} (hn : n < 2 ^ 31) : (BitVec.ofNat 32 n).toInt = n := by
  rw [BitVec.toInt_eq_toNat_cond, BitVec.toNat_ofNat, Nat.mod_eq_of_lt (by omega), if_pos (by omega)]

/-- A word at least a small one, signed, is not negative. -/
theorem of_sge {a : BitVec 32} {n : ℕ} (hn : n < 2 ^ 31) (h : IntOp.cmpi .sge a (BitVec.ofNat 32 n) = 1#1) :
    n ≤ a.toNat ∧ a.toInt = a.toNat := by
  have h := of_ofBool (p := (BitVec.ofNat 32 n).toInt ≤ a.toInt) h
  rw [small_toInt hn] at h
  have e := BitVec.toInt_eq_toNat_cond a
  have := a.isLt
  split at e <;> omega

/-- What the precondition says of the two tables. -/
theorem ranges (T0 : IVec (⟨1, ![768]⟩ : Shape) 32) (T1 : IVec (⟨1, ![1]⟩ : Shape) 32)
    (x2 : FVec F ⟨2, ![196608, 2048]⟩ .f32) (x3 x4 : FVec F ⟨3, ![256, 2048, 512]⟩ .f32) (x5 : FVec F ⟨3, ![256, 512, 2048]⟩ .f32)
    (h : Cert.Pre_in_range.fn T0 T1 x2 x3 x4 x5 = fun _ => 1#1) :
    (∀ j, (T0 j).toNat < 256) ∧ ∀ j, 1 ≤ (T1 j).toNat ∧ (T1 j).toNat ≤ 768 := by
  have h0 := congrFun h ix0
  obtain ⟨ha, hb⟩ := and_one h0
  haveI : Subsingleton (Cert.Pre_in_range.S_).Idx := ⟨fun a b => funext fun i => i.elim0⟩
  constructor
  · intro j
    obtain ⟨h1, h2⟩ := and_one (Host.reduce_andi_all _ _ _ _ _ ha j)
    obtain ⟨-, e⟩ := of_sge (n := 0) (by decide) h1
    have h3 := of_ofBool (p := (T0 j).toInt < (BitVec.ofNat 32 256).toInt) h2
    rw [small_toInt (by decide)] at h3
    omega
  · intro j
    obtain ⟨h1, h2⟩ := and_one (Host.reduce_andi_all _ _ _ _ _ hb j)
    obtain ⟨h4, e⟩ := of_sge (n := 1) (by decide) h1
    have h3 := of_ofBool (p := (T1 j).toInt ≤ (BitVec.ofNat 32 768).toInt) h2
    rw [small_toInt (by decide)] at h3
    exact ⟨h4, by omega⟩

/-- What the mask says of a selected index: its row is one of the used blocks'. -/
theorem mask_row (T0 : IVec (⟨1, ![768]⟩ : Shape) 32) (T1 : IVec (⟨1, ![1]⟩ : Shape) 32)
    (x2 : FVec F ⟨2, ![196608, 2048]⟩ .f32) (x3 x4 : FVec F ⟨3, ![256, 2048, 512]⟩ .f32) (x5 : FVec F ⟨3, ![256, 512, 2048]⟩ .f32)
    (hr : ∀ j, 1 ≤ (T1 j).toNat ∧ (T1 j).toNat ≤ 768) (i : (⟨2, ![196608, 2048]⟩ : Shape).Idx)
    (h : Cert.On_rows_used.fn T0 T1 x2 x3 x4 x5 i = 1#1) : (i 0).val < (T1 (ix1 (0 : Fin 1))).toNat * 256 := by
  have hi : (i 0).val < 196608 := (i 0).isLt
  have e1 : ∀ k, shapeCast (⟨0, ![]⟩ : Shape) T1 Cert.On_rows_used.Facts.shapeCasts_S1_S_ k = T1 (ix1 (0 : Fin 1)) := fun k =>
    congrArg T1 (funext fun a => by
      fin_cases a
      exact Subsingleton.elim (α := Fin 1) _ _)
  have h2 : IntOp.cmpi .slt (BitVec.ofNat 32 (i 0).val) (IntOp.muli (shapeCast (⟨0, ![]⟩ : Shape) T1 Cert.On_rows_used.Facts.shapeCasts_S1_S_ (fun a => a.elim0)) (256#32)) = 1#1 :=
    Eq.trans (congrArg (fun k => IntOp.cmpi .slt (BitVec.ofNat 32 (i 0).val) (IntOp.muli (shapeCast (⟨0, ![]⟩ : Shape) T1 Cert.On_rows_used.Facts.shapeCasts_S1_S_ k) (256#32)))
      (funext fun a => a.elim0)) h
  have hb := hr (ix1 (0 : Fin 1))
  have e2 : IntOp.muli (T1 (ix1 (0 : Fin 1))) (256#32) = BitVec.ofNat 32 ((T1 (ix1 (0 : Fin 1))).toNat * 256) := by
    apply BitVec.eq_of_toNat_eq
    show ((T1 (ix1 (0 : Fin 1))) * 256#32).toNat = _
    rw [BitVec.toNat_mul, BitVec.toNat_ofNat, BitVec.toNat_ofNat]
  rw [e1, e2] at h2
  have h3 := of_ofBool (p := (BitVec.ofNat 32 (i 0).val).toInt < (BitVec.ofNat 32 ((T1 (ix1 (0 : Fin 1))).toNat * 256)).toInt) h2
  rw [small_toInt (by omega), small_toInt (by omega)] at h3
  omega

end Cert.Experts

end
-- ==== Proof.Claims.lean ====
module

public import proofs.«01_k».proof.Defs
public import proofs.«01_k».proof.Proof.ValueIdeal
public import proofs.«01_k».proof.Proof.RegionBits
public import proofs.«01_k».proof.Proof.ReferenceValue
public import proofs.«01_k».proof.Proof.Ranges

/-!
# The claims of the expert product
-/

@[expose] public section

set_option maxRecDepth 16384

noncomputable section

namespace Cert.Experts

open Idealize.ShloMosaic Idealize.ShloMosaic.ValueIdx Idealize.SL.Sem

/-- The precondition puts the tables of the kernel's memory in range; -/
theorem inRange_kernel (m : (ℓ : Loc Cert.Kernel.nD Cert.Kernel.τ Cert.Kernel.sig) → Buf (Elt Bits) ℓ) (h : Pre_Kernel m) :
    Cert.Kernel.Experts.InRange (Cert.Kernel.Experts.tb0 m) (Cert.Kernel.Experts.tb1 m) :=
  have hr := ranges _ _ _ _ _ _ (h 0)
  ⟨hr.1, (hr.2 _).1, (hr.2 _).2⟩

/-- and of its idealization's. -/
theorem inRange_ideal (m : (ℓ : Loc Cert.KernelIdeal.nD Cert.KernelIdeal.τ Cert.KernelIdeal.sig) → Buf (Elt Ideal) ℓ) (h : Pre_KernelIdeal m) :
    Cert.KernelIdeal.Experts.InRange (Cert.KernelIdeal.Experts.tb0 m) (Cert.KernelIdeal.Experts.tb1 m) :=
  have hr := ranges _ _ _ _ _ _ (h 0)
  ⟨hr.1, (hr.2 _).1, (hr.2 _).2⟩

theorem kernel_quiescent : quiescent_Kernel := fun m g hP =>
  (θ_run _ _ _).mono (fun _ h => ⟨fun c => (h.1 c).2, h.2⟩) (Cert.Kernel.Experts.run m g (inRange_kernel m hP))

theorem ideal_quiescent : quiescent_KernelIdeal := fun m g hP =>
  (θ_run _ _ _).mono (fun _ h => ⟨fun c => (h.1 c).2, h.2⟩) (Cert.KernelIdeal.Experts.run m g (inRange_ideal m hP))

theorem reference_quiescent : quiescent_ReferenceIdeal := fun m g _ =>
  (θ_run _ _ _).mono (fun r h => ⟨fun c => (h c).2, sem_eq_zero_of_no_sems (by decide) r.2⟩) (Cert.ReferenceIdeal.Value.run m g)

/-- A row of the used blocks, by its block and its place in it. -/
theorem row_eq (i : (⟨2, ![196608, 2048]⟩ : Shape).Idx) (n : ℕ) (h : (i 0).val < n * 256) (hn : n ≤ 768) :
    ∃ (b : Fin 768) (p : Fin 256) (q : Fin 2048), b.val < n ∧ i = ix2 (Cert.ReferenceIdeal.Experts.rowOf b p) q := by
  refine ⟨⟨(i 0).val / 256, by omega⟩, ⟨(i 0).val % 256, Nat.mod_lt _ (by decide)⟩, i 1, ?_, ?_⟩
  · show (i 0).val / 256 < n; omega
  · funext a
    fin_cases a
    · exact Fin.ext (show (i 0).val = (i 0).val / 256 * 256 + (i 0).val % 256 by omega)
    · rfl

theorem experts_algebraic : algebraic_KernelIdeal_ReferenceIdeal_on_rows_used := fun m g m' g' hP ha => by
  have H := inRange_ideal m hP
  refine ⟨fun c => (Cert.KernelIdeal.Experts.dats m g H 0 c).arrAt (4 : Fin 5) (Cert.KernelIdeal.Experts.cfgA (F := Ideal) H).N, ?_, ?_⟩
  · exact (θ_run _ _ _).mono (fun _ h c => ⟨fun i _ => congrFun (h.1 c).1 i, (h.1 c).2⟩) (Cert.KernelIdeal.Experts.run m g H)
  · refine (θ_run _ _ _).mono (fun r h c => ⟨fun i hi => ?_, (h c).2⟩) (Cert.ReferenceIdeal.Value.run m' g')
    have hc : c = 0 := Subsingleton.elim _ _
    subst hc
    obtain ⟨a0, a1, a2, a3, a4, a5⟩ := ha 0
    have hr := ranges _ _ _ _ _ _ (hP 0)
    obtain ⟨b, p, q, hb, e⟩ := row_eq i _ (mask_row _ _ _ _ _ _ hr.2 i hi) (hr.2 _).2
    have hN : Cert.KernelIdeal.Experts.ixN = ix1 (0 : Fin 1) := funext fun a => by fin_cases a; rfl
    have hb : b.val < Cert.KernelIdeal.Experts.used (Cert.KernelIdeal.Experts.tb1 m) := by
      unfold Cert.KernelIdeal.Experts.used
      rw [hN]
      exact hb
    rw [e]
    refine (congrFun ((h 0).1.trans ?_) _).trans ((Cert.ReferenceIdeal.Experts.out_apply
      (m (((0 : Dev Cert.KernelIdeal.nD).tc : Thread Cert.KernelIdeal.nD Cert.KernelIdeal.τ).loc Cert.KernelIdeal.main_arg0))
      (m (((0 : Dev Cert.KernelIdeal.nD).tc : Thread Cert.KernelIdeal.nD Cert.KernelIdeal.τ).loc Cert.KernelIdeal.main_arg2))
      (m (((0 : Dev Cert.KernelIdeal.nD).tc : Thread Cert.KernelIdeal.nD Cert.KernelIdeal.τ).loc Cert.KernelIdeal.main_arg3))
      (m (((0 : Dev Cert.KernelIdeal.nD).tc : Thread Cert.KernelIdeal.nD Cert.KernelIdeal.τ).loc Cert.KernelIdeal.main_arg4))
      (m (((0 : Dev Cert.KernelIdeal.nD).tc : Thread Cert.KernelIdeal.nD Cert.KernelIdeal.τ).loc Cert.KernelIdeal.main_arg5)) hr.1 b p q).trans ?_)
    · rw [a0, a2, a3, a4, a5]
      rfl
    · refine Eq.trans ?_ (Cert.KernelIdeal.Experts.out_apply m g H 0 b hb p q).symm
      have he : Cert.ReferenceIdeal.Experts.exp (m (((0 : Dev Cert.KernelIdeal.nD).tc : Thread Cert.KernelIdeal.nD Cert.KernelIdeal.τ).loc Cert.KernelIdeal.main_arg0)) hr.1 b
          = Cert.KernelIdeal.Experts.expert H b :=
        Fin.ext (congrArg (fun j => BitVec.toNat (m (((0 : Dev Cert.KernelIdeal.nD).tc : Thread Cert.KernelIdeal.nD Cert.KernelIdeal.τ).loc Cert.KernelIdeal.main_arg0) j))
          (funext fun a => by fin_cases a; rfl))
      rw [he]
      rfl

end Cert.Experts

end
-- ==== Proof.InprojSpec.lean ====
module

public import Idealize.ShloMosaic.PureOps.Ideal
public import Idealize.ShloMosaic.Lib.Pointwise

@[expose] public section

/-!
The in-projection call's mathematics, one output entry at a time, over the extended reals: the
modulated row norm, its product with a column of the weight, and the partial rotary on the first
32 lanes of every head of the query and key groups.
-/

noncomputable section

namespace Cert.Inproj

open Idealize.ShloMosaic

/-- One entry of the row norm with its weight, scaled by one plus the modulation's scale and shifted. -/
def hidden (x g s b : Fin 2048 → EReal) (k : Fin 2048) : EReal :=
  x k * Ideal.rsqrt (Ideal.div (∑ j, x j * x j) (Ideal.ofBits .f32 0x45000000#32)
    + Ideal.ofBits .f32 0x358637BD#32) * g k * (1 + s k) + b k

/-- The rotary frequency of pair `l`: the base to the power of `-2 l / 32`. -/
def freq (l : ℕ) : EReal :=
  Ideal.pow (Ideal.ofBits .f32 0x48F42400#32)
    (Ideal.div (-(Ideal.ofBits .f32 0x40000000#32 * FloatOps.sitofp (F := Ideal) .f32 (BitVec.ofNat 32 l)))
      (Ideal.ofBits .f32 0x42000000#32))

/-- The partial rotary inside column `q`'s head of 128 lanes: lanes 0–15 and 16–31 turn as pairs. -/
def rotated (a : Fin 4096 → EReal) (p : EReal) (q : Fin 4096) : EReal :=
  if h : q.val % 128 < 16 then
    a q * Ideal.cos (p * freq (q.val % 128)) - a ⟨q.val + 16, by omega⟩ * Ideal.sin (p * freq (q.val % 128))
  else if h' : q.val % 128 < 32 then
    a q * Ideal.cos (p * freq (q.val % 128 - 16))
      + a ⟨q.val - 16, by omega⟩ * Ideal.sin (p * freq (q.val % 128 - 16))
  else a q

/-- The query scale, one over the root of the head width. -/
def queryScale : EReal := (((Real.sqrt 128)⁻¹ : ℝ) : EReal)

/-- One output entry from the projected row `a` and the row's position `p`: the first and last 1024
    columns pass, the second 1024 are rotated and scaled, the third rotated. -/
def entry (a : Fin 4096 → EReal) (p : EReal) (q : Fin 4096) : EReal :=
  if q.val < 1024 then a q
  else if q.val < 2048 then rotated a p q * queryScale
  else if q.val < 3072 then rotated a p q
  else a q

/-- One output entry from the row's inputs and the weight. -/
def out (x g s b : Fin 2048 → EReal) (w : Fin 2048 → Fin 4096 → EReal) (p : EReal) (q : Fin 4096) : EReal :=
  entry (fun q => ∑ k, hidden x g s b k * w k q) p q

end Cert.Inproj
-- ==== Proof.InprojBlock.lean ====
module

public import proofs.«01_k».proof.Proof.Gen.Kernel2Ideal.Skeleton
public import proofs.«01_k».proof.Proof.InprojSpec

@[expose] public section

/-!
The in-projection kernel's payloads at an index: the normed row, the product, the rotary tables, and
each head's rotary as the specification's `rotated`.
-/

noncomputable section

namespace Cert.Inproj

open Idealize.ShloMosaic Cert.Kernel2Ideal Cert.Kernel2Ideal.Gen

/-- The kernel's frequency lane: the pair's frequency on the first 32 lanes, zero on the others. -/
def laneFreq (l : ℕ) : EReal := if l < 16 then freq l else if l < 32 then freq (l - 16) else 0

/-- The kernel's sign lane: minus one, one, zero. -/
def laneSign (l : ℕ) : EReal := if l < 16 then -1 else if l < 32 then 1 else 0

/-- The factor of column tile `j`: the query scale at tile 1, one elsewhere. -/
def scaleOf (j : BitVec 32) : EReal :=
  Scalar.select (Scalar.cmpi .eq j 1#32) (Named.named (F := Ideal) κ "inv_sqrt_d" (φ := .f32) 0x3DB504F3#32) 1

/-- The kernel's literal for the query scale is named, and the name's value is the query scale. -/
theorem scale_named : Named.named (F := Ideal) κ "inv_sqrt_d" (φ := .f32) 0x3DB504F3#32 = queryScale :=
  IdealRules.named_const.ideal_named_scalar _ _ _ _ rfl

theorem scaleOf_cases (j : BitVec 32) : scaleOf j = queryScale ∨ scaleOf j = 1 := by
  unfold scaleOf Scalar.select
  rw [scale_named]
  split <;> simp

theorem scaleOf_nonneg (j : BitVec 32) : 0 ≤ scaleOf j := by
  rcases scaleOf_cases j with h | h <;> rw [h]
  · exact EReal.coe_nonneg.mpr (inv_nonneg.mpr (Real.sqrt_nonneg _))
  · exact zero_le_one

theorem scaleOf_ne_top (j : BitVec 32) : scaleOf j ≠ ⊤ := by
  rcases scaleOf_cases j with h | h <;> rw [h]
  · exact EReal.coe_ne_top _
  · exact EReal.coe_ne_top 1

theorem cos_zero : Ideal.cos 0 = 1 := by
  show Ideal.cos ((0 : ℝ) : EReal) = 1
  rw [Ideal.cos_coe, Real.cos_zero]
  rfl

/-- One lane of the kernel's rotary is the specification's, times the tile's factor. -/
theorem lane_eq (a : Fin 4096 → EReal) (p : EReal) (B : ℕ) (hB : B % 128 = 0) (hB' : B + 128 ≤ 4096)
    (u : Fin 128 → EReal) (hu : ∀ l : Fin 128, u l = a ⟨B + l.val, by omega⟩) (c s k : EReal) (hk : 0 ≤ k) (hk' : k ≠ ⊤)
    (l : Fin 128) (hc : c = Ideal.cos (p * laneFreq l.val)) (hs : s = Ideal.sin (p * laneFreq l.val) * laneSign l.val) :
    u l * (c * k) + Scalar.select (IntOp.cmpi .slt (BitVec.ofNat 32 l.val) 16#32)
        (u ⟨(l.val + 128 - 112) % 128, by omega⟩) (u ⟨(l.val + 128 - 16) % 128, by omega⟩) * (s * k)
      = rotated a p ⟨B + l.val, by omega⟩ * k := by
  have hm : (B + l.val) % 128 = l.val := by omega
  have hsel : IntOp.cmpi .slt (BitVec.ofNat 32 l.val) 16#32 = BitVec.ofBool (decide (l.val < 16)) := by
    exact (by decide : ∀ l : Fin 128, IntOp.cmpi .slt (BitVec.ofNat 32 l.val) 16#32 = BitVec.ofBool (decide (l.val < 16))) l
  have hd : ∀ y z : EReal, (y + z) * k = y * k + z * k := EReal.right_distrib_of_nonneg_of_ne_top hk hk'
  unfold rotated
  simp only [hm]
  rw [hsel, hc, hs]
  unfold laneFreq laneSign
  by_cases h : l.val < 16
  · have e : (⟨(l.val + 128 - 112) % 128, by omega⟩ : Fin 128) = ⟨l.val + 16, by omega⟩ := Fin.ext (by simp only; omega)
    simp only [h, ↓reduceIte, ↓reduceDIte, decide_true, Scalar.select, e, hu]
    simp only [BitVec.ofBool_true, ↓reduceIte]
    rw [sub_eq_add_neg, hd]
    simp only [neg_mul, mul_neg, mul_assoc, one_mul]
    rfl
  · by_cases h' : l.val < 32
    · have e : (⟨(l.val + 128 - 16) % 128, by omega⟩ : Fin 128) = ⟨l.val - 16, by omega⟩ := Fin.ext (by simp only; omega)
      have e2 : (⟨B + (l.val - 16), by omega⟩ : Fin 4096) = ⟨B + l.val - 16, by omega⟩ := Fin.ext (by simp only; omega)
      simp only [h, h', ↓reduceIte, ↓reduceDIte, decide_false, Scalar.select, e, hu, e2, mul_one]
      rw [hd, mul_assoc, mul_assoc]
      rfl
    · simp only [h, h', ↓reduceIte, ↓reduceDIte, hu, mul_zero, zero_mul, add_zero, cos_zero, one_mul]

theorem pay6_apply (x : Vec Ideal S512x2048 .f32) (g : Vec Ideal S1x2048 .f32) (s b : Vec Ideal S1x1x2048 .f32)
    (r : Fin 512) (k : Fin 2048) : k0_pay6 x g s b (ix2 r k)
      = hidden (fun k => x (ix2 r k)) (fun k => g (ix2 0 k)) (fun k => s (ix3 0 0 k)) (fun k => b (ix3 0 0 k)) k := by
  pointwise [k0_pay6]
  rfl

theorem pay3_apply (h : Vec Ideal S512x2048 .bf16) (w : Vec Ideal S2048x1024 .bf16)
    (r : Fin 512) (q : Fin 1024) : k0_pay3 h w (ix2 r q) = ∑ k : Fin 2048, h (ix2 r k) * w (ix2 k q) := by
  pointwise [k0_pay3]

theorem cos_apply (p : Vec Ideal S512x1 .i32) (f : Vec Ideal S1x128 .f32)
    (r : Fin 512) (l : Fin 128) : k0_pay1 (F := Ideal) (k0_pay8 p f) (ix2 r l)
      = Ideal.cos (FloatOps.sitofp (F := Ideal) .f32 (p (ix2 r 0)) * f (ix2 0 l)) := by
  pointwise [k0_pay1, k0_pay8, k0_pay7]

theorem sin_apply (p : Vec Ideal S512x1 .i32) (f g : Vec Ideal S1x128 .f32)
    (r : Fin 512) (l : Fin 128) : k0_pay2 (F := Ideal) (k0_pay7 p f) g (ix2 r l)
      = Ideal.sin (FloatOps.sitofp (F := Ideal) .f32 (p (ix2 r 0)) * f (ix2 0 l)) * g (ix2 0 l) := by
  pointwise [k0_pay2, k0_pay7]

theorem pay12_lane (a : Fin 4096 → EReal) (p : EReal) (B : ℕ) (hB : B % 128 = 0) (hB' : B + 128 ≤ 4096)
    (j : BitVec 32) (v : FVec Ideal S512x1024 .f32) (c s : Vec Ideal S512x128 .f32) (r : Fin 512)
    (hu : ∀ l : Fin 128, v (ix2 r ⟨0 + l.val, by omega⟩) = a ⟨B + l.val, by omega⟩)
    (hc : ∀ l : Fin 128, c (ix2 r l) = Ideal.cos (p * laneFreq l.val))
    (hs : ∀ l : Fin 128, s (ix2 r l) = Ideal.sin (p * laneFreq l.val) * laneSign l.val) (l : Fin 128) :
    k0_pay12 j v c s (ix2 r l) = rotated a p ⟨B + l.val, by omega⟩ * scaleOf j := by
  have hu' : ∀ l : Fin 128, v (ix2 r ⟨l.val, by omega⟩) = a ⟨B + l.val, by omega⟩ := fun l => by
    simpa only [Nat.zero_add] using hu l
  pointwise [k0_pay12, k0_pay10, k0_pay11, k0_pay9]
  exact lane_eq a p B hB hB' (fun l => v (ix2 r ⟨l.val, by omega⟩)) hu' _ _ (scaleOf j) (scaleOf_nonneg j) (scaleOf_ne_top j) l (hc l) (hs l)

theorem pay13_lane (a : Fin 4096 → EReal) (p : EReal) (B : ℕ) (hB : B % 128 = 0) (hB' : B + 128 ≤ 4096)
    (j : BitVec 32) (v : FVec Ideal S512x1024 .f32) (c s : Vec Ideal S512x128 .f32) (r : Fin 512)
    (hu : ∀ l : Fin 128, v (ix2 r ⟨128 + l.val, by omega⟩) = a ⟨B + l.val, by omega⟩)
    (hc : ∀ l : Fin 128, c (ix2 r l) = Ideal.cos (p * laneFreq l.val))
    (hs : ∀ l : Fin 128, s (ix2 r l) = Ideal.sin (p * laneFreq l.val) * laneSign l.val) (l : Fin 128) :
    k0_pay13 j v c s (ix2 r l) = rotated a p ⟨B + l.val, by omega⟩ * scaleOf j := by
  pointwise [k0_pay13, k0_pay10, k0_pay11, k0_pay9]
  exact lane_eq a p B hB hB' (fun l => v (ix2 r ⟨128 + l.val, by omega⟩)) hu _ _ (scaleOf j) (scaleOf_nonneg j) (scaleOf_ne_top j) l (hc l) (hs l)

theorem pay14_lane (a : Fin 4096 → EReal) (p : EReal) (B : ℕ) (hB : B % 128 = 0) (hB' : B + 128 ≤ 4096)
    (j : BitVec 32) (v : FVec Ideal S512x1024 .f32) (c s : Vec Ideal S512x128 .f32) (r : Fin 512)
    (hu : ∀ l : Fin 128, v (ix2 r ⟨256 + l.val, by omega⟩) = a ⟨B + l.val, by omega⟩)
    (hc : ∀ l : Fin 128, c (ix2 r l) = Ideal.cos (p * laneFreq l.val))
    (hs : ∀ l : Fin 128, s (ix2 r l) = Ideal.sin (p * laneFreq l.val) * laneSign l.val) (l : Fin 128) :
    k0_pay14 j v c s (ix2 r l) = rotated a p ⟨B + l.val, by omega⟩ * scaleOf j := by
  pointwise [k0_pay14, k0_pay10, k0_pay11, k0_pay9]
  exact lane_eq a p B hB hB' (fun l => v (ix2 r ⟨256 + l.val, by omega⟩)) hu _ _ (scaleOf j) (scaleOf_nonneg j) (scaleOf_ne_top j) l (hc l) (hs l)

theorem pay15_lane (a : Fin 4096 → EReal) (p : EReal) (B : ℕ) (hB : B % 128 = 0) (hB' : B + 128 ≤ 4096)
    (j : BitVec 32) (v : FVec Ideal S512x1024 .f32) (c s : Vec Ideal S512x128 .f32) (r : Fin 512)
    (hu : ∀ l : Fin 128, (v) (ix2 r ⟨384 + l.val, by omega⟩) = a ⟨B + l.val, by omega⟩)
    (hc : ∀ l : Fin 128, c (ix2 r l) = Ideal.cos (p * laneFreq l.val))
    (hs : ∀ l : Fin 128, s (ix2 r l) = Ideal.sin (p * laneFreq l.val) * laneSign l.val) (l : Fin 128) :
    k0_pay15 v (k0_pay10 j c) (k0_pay11 j s) (iota .tc S512x128 32 [1] iota_S512x128_d1_w32) (ix2 r l)
      = rotated a p ⟨B + l.val, by omega⟩ * scaleOf j := by
  pointwise [k0_pay15, k0_pay10, k0_pay11, k0_pay9]
  exact lane_eq a p B hB hB' (fun l => (v) (ix2 r ⟨384 + l.val, by omega⟩)) hu _ _ (scaleOf j) (scaleOf_nonneg j) (scaleOf_ne_top j) l (hc l) (hs l)

theorem pay16_lane (a : Fin 4096 → EReal) (p : EReal) (B : ℕ) (hB : B % 128 = 0) (hB' : B + 128 ≤ 4096)
    (j : BitVec 32) (v : FVec Ideal S512x1024 .f32) (c s : Vec Ideal S512x128 .f32) (r : Fin 512)
    (hu : ∀ l : Fin 128, (v) (ix2 r ⟨512 + l.val, by omega⟩) = a ⟨B + l.val, by omega⟩)
    (hc : ∀ l : Fin 128, c (ix2 r l) = Ideal.cos (p * laneFreq l.val))
    (hs : ∀ l : Fin 128, s (ix2 r l) = Ideal.sin (p * laneFreq l.val) * laneSign l.val) (l : Fin 128) :
    k0_pay16 v (k0_pay10 j c) (k0_pay11 j s) (iota .tc S512x128 32 [1] iota_S512x128_d1_w32) (ix2 r l)
      = rotated a p ⟨B + l.val, by omega⟩ * scaleOf j := by
  pointwise [k0_pay16, k0_pay10, k0_pay11, k0_pay9]
  exact lane_eq a p B hB hB' (fun l => (v) (ix2 r ⟨512 + l.val, by omega⟩)) hu _ _ (scaleOf j) (scaleOf_nonneg j) (scaleOf_ne_top j) l (hc l) (hs l)

theorem pay17_lane (a : Fin 4096 → EReal) (p : EReal) (B : ℕ) (hB : B % 128 = 0) (hB' : B + 128 ≤ 4096)
    (j : BitVec 32) (v : FVec Ideal S512x1024 .f32) (c s : Vec Ideal S512x128 .f32) (r : Fin 512)
    (hu : ∀ l : Fin 128, (v) (ix2 r ⟨640 + l.val, by omega⟩) = a ⟨B + l.val, by omega⟩)
    (hc : ∀ l : Fin 128, c (ix2 r l) = Ideal.cos (p * laneFreq l.val))
    (hs : ∀ l : Fin 128, s (ix2 r l) = Ideal.sin (p * laneFreq l.val) * laneSign l.val) (l : Fin 128) :
    k0_pay17 v (k0_pay10 j c) (k0_pay11 j s) (iota .tc S512x128 32 [1] iota_S512x128_d1_w32) (ix2 r l)
      = rotated a p ⟨B + l.val, by omega⟩ * scaleOf j := by
  pointwise [k0_pay17, k0_pay10, k0_pay11, k0_pay9]
  exact lane_eq a p B hB hB' (fun l => (v) (ix2 r ⟨640 + l.val, by omega⟩)) hu _ _ (scaleOf j) (scaleOf_nonneg j) (scaleOf_ne_top j) l (hc l) (hs l)

theorem pay4_lane (a : Fin 4096 → EReal) (p : EReal) (B : ℕ) (hB : B % 128 = 0) (hB' : B + 128 ≤ 4096)
    (j : BitVec 32) (v : FVec Ideal S512x1024 .f32) (c s : Vec Ideal S512x128 .f32) (r : Fin 512)
    (hu : ∀ l : Fin 128, (v) (ix2 r ⟨768 + l.val, by omega⟩) = a ⟨B + l.val, by omega⟩)
    (hc : ∀ l : Fin 128, c (ix2 r l) = Ideal.cos (p * laneFreq l.val))
    (hs : ∀ l : Fin 128, s (ix2 r l) = Ideal.sin (p * laneFreq l.val) * laneSign l.val) (l : Fin 128) :
    k0_pay4 (k0_pay10 j c) (k0_pay11 j s) (k0_pay18 v) (k0_pay19 (iota .tc S512x128 32 [1] iota_S512x128_d1_w32)) (k0_pay20 v) (k0_pay21 v) (ix2 r l)
      = rotated a p ⟨B + l.val, by omega⟩ * scaleOf j := by
  pointwise [k0_pay4, k0_pay18, k0_pay19, k0_pay20, k0_pay21, k0_pay10, k0_pay11, k0_pay9]
  exact lane_eq a p B hB hB' (fun l => (v) (ix2 r ⟨768 + l.val, by omega⟩)) hu _ _ (scaleOf j) (scaleOf_nonneg j) (scaleOf_ne_top j) l (hc l) (hs l)

theorem pay5_lane (a : Fin 4096 → EReal) (p : EReal) (B : ℕ) (hB : B % 128 = 0) (hB' : B + 128 ≤ 4096)
    (j : BitVec 32) (h : Vec Ideal S512x2048 .bf16) (w : Vec Ideal S2048x1024 .bf16) (c s : Vec Ideal S512x128 .f32) (r : Fin 512)
    (hu : ∀ l : Fin 128, (k0_pay3 h w) (ix2 r ⟨896 + l.val, by omega⟩) = a ⟨B + l.val, by omega⟩)
    (hc : ∀ l : Fin 128, c (ix2 r l) = Ideal.cos (p * laneFreq l.val))
    (hs : ∀ l : Fin 128, s (ix2 r l) = Ideal.sin (p * laneFreq l.val) * laneSign l.val) (l : Fin 128) :
    k0_pay5 h w (k0_pay10 j c) (k0_pay11 j s) (iota .tc S512x128 32 [1] iota_S512x128_d1_w32) (ix2 r l)
      = rotated a p ⟨B + l.val, by omega⟩ * scaleOf j := by
  pointwise [k0_pay5, k0_pay10, k0_pay11, k0_pay9]
  exact lane_eq a p B hB hB' (fun l => (k0_pay3 h w) (ix2 r ⟨896 + l.val, by omega⟩)) hu _ _ (scaleOf j) (scaleOf_nonneg j) (scaleOf_ne_top j) l (hc l) (hs l)

end Cert.Inproj
-- ==== Proof.InprojHost.lean ====
module

public import proofs.«01_k».proof.Proof.Gen.Kernel2Ideal.Value
public import proofs.«01_k».proof.Proof.InprojBlock
public import Idealize.ShloMosaic.Lib.StableHlo.ReadAt
public import Idealize.ShloMosaic.Lib.Pipeline.ValueKit

@[expose] public section

/-!
What the in-projection program's host operations leave in the buffers its kernel reads: the weight
as it was, the frequency and sign lanes, and the norm weight as a row.
-/

noncomputable section

namespace Cert.Inproj

open Idealize.ShloMosaic Idealize.ShloMosaic.TcCoe Cert.Kernel2Ideal Cert.Kernel2Ideal.Gen

variable (m : (ℓ : Loc nD τ sig) → Buf (Elt Ideal) ℓ) (c : Dev nD)

theorem host_weight (k : Fin 2048) (q : Fin 4096) :
    V m c main_v0 (ix2 k q) = m ((c : Thread nD τ).loc main_arg4) (ix2 k q) := by
  unfold V
  after_reads_at

theorem host_g (k : Fin 2048) : V m c main_v20 (ix2 0 k) = m ((c : Thread nD τ).loc main_arg2) (ix1 k) := by
  unfold V
  after_reads_at

theorem host_freq (l : Fin 128) : V m c main_v13 (ix2 0 l) = laneFreq l.val := by
  unfold V
  after_reads_at
  unfold laneFreq
  by_cases h : l.val < 16
  · simp only [h, ↓reduceDIte, ↓reduceIte]
    after_reads_at
    rfl
  · by_cases h' : l.val < 32
    · have h2 : l.val - 16 < 16 := by omega
      simp only [h, h', h2, ↓reduceDIte, ↓reduceIte]
      after_reads_at
      rfl
    · have h2 : ¬ l.val - 16 < 16 := by omega
      simp only [h, h', h2, ↓reduceDIte, ↓reduceIte]
      after_reads_at

theorem host_sign (l : Fin 128) : V m c main_v19 (ix2 0 l) = laneSign l.val := by
  unfold V
  after_reads_at
  unfold laneSign
  by_cases h : l.val < 16
  · simp only [h, ↓reduceDIte, ↓reduceIte]
    after_reads_at
  · by_cases h' : l.val < 32
    · have h2 : l.val - 16 < 16 := by omega
      simp only [h, h', h2, ↓reduceDIte, ↓reduceIte]
      after_reads_at
    · have h2 : ¬ l.val - 16 < 16 := by omega
      simp only [h, h', h2, ↓reduceDIte, ↓reduceIte]
      after_reads_at

end Cert.Inproj
-- ==== Proof.InprojValue.lean ====
module

public import proofs.«01_k».proof.Proof.InprojHost
public import Idealize.ShloMosaic.Lib.Pipeline.ValueKit
public import Idealize.ShloMosaic.Lib.Pipeline.ReadBack

@[expose] public section

set_option maxRecDepth 8192

/-!
The in-projection kernel's output array: what the carried scratches hold after every grid point, what
each point writes back, and the array at a row and a column.
-/

noncomputable section

namespace Cert.Inproj

open Idealize.ShloMosaic Idealize.ShloMosaic.TcCoe Cert.Kernel2Ideal Cert.Kernel2Ideal.Gen
open Idealize.ShloMosaic.Pipeline (Dat)

variable (m : (ℓ : Loc nD τ sig) → Buf (Elt Ideal) ℓ) (c : Dev nD)

theorem points : cfg0.N = 128 := rfl

theorem at0 : ∀ t : Fin cfg0.N, win0_0.index t = ![t.val / 4, 0] := (by decide +kernel : ∀ t : Fin grid0.N, _)
theorem at1 : ∀ t : Fin cfg0.N, win0_1.index t = ![t.val / 32, 0, 0] := (by decide +kernel : ∀ t : Fin grid0.N, _)
theorem at2 : ∀ t : Fin cfg0.N, win0_2.index t = ![0, 0] := (by decide +kernel : ∀ t : Fin grid0.N, _)
theorem at3 : ∀ t : Fin cfg0.N, win0_3.index t = ![t.val / 4, 0] := (by decide +kernel : ∀ t : Fin grid0.N, _)
theorem at4 : ∀ t : Fin cfg0.N, win0_4.index t = ![0, 0] := (by decide +kernel : ∀ t : Fin grid0.N, _)
theorem at5 : ∀ t : Fin cfg0.N, win0_5.index t = ![0, 0] := (by decide +kernel : ∀ t : Fin grid0.N, _)
theorem at6 : ∀ t : Fin cfg0.N, win0_6.index t = ![0, t.val % 4] := (by decide +kernel : ∀ t : Fin grid0.N, _)
theorem at7 : ∀ t : Fin cfg0.N, win0_7.index t = ![t.val / 4, t.val % 4] := (by decide +kernel : ∀ t : Fin grid0.N, _)
theorem tile_at : ∀ t : Fin cfg0.N, (grid0.coords t 1).val = t.val % 4 := (by decide +kernel : ∀ t : Fin grid0.N, _)

/-- The array row of lane row `r` of grid point `n`'s blocks. -/
def rowAt (n : ℕ) (hn : n < cfg0.N) (r : Fin 512) : Fin 16384 :=
  ⟨512 * (n / 4) + r.val, by rw [points] at hn; omega⟩

theorem blk0 (t : Fin cfg0.N) (r : Fin 512) (k : Fin 2048) :
    iblk m c 0 t (ix2 r k) = m ((c : Thread nD τ).loc main_arg0) (ix2 (rowAt t.val t.isLt r) k) := by
  rw [← V_main_arg0 m c]
  unfold rowAt
  blk_ext [iblk, at0]

theorem blk1 (t : Fin cfg0.N) (a : Fin 6) (k : Fin 2048) :
    iblk m c 1 t (ix3 0 a k) = m ((c : Thread nD τ).loc main_arg1) (ix3 ⟨t.val / 32, by have := t.isLt; have := points; omega⟩ a k) := by
  rw [← V_main_arg1 m c]
  blk_ext [iblk, at1]

theorem blk2 (t : Fin cfg0.N) (k : Fin 2048) :
    iblk m c 2 t (ix2 0 k) = m ((c : Thread nD τ).loc main_arg2) (ix1 k) := by
  rw [← host_g m c]
  blk_ext [iblk, at2]

theorem blk3 (t : Fin cfg0.N) (r : Fin 512) :
    iblk m c 3 t (ix2 r 0) = m ((c : Thread nD τ).loc main_arg3) (ix2 (rowAt t.val t.isLt r) 0) := by
  rw [← V_main_arg3 m c]
  unfold rowAt
  blk_ext [iblk, at3]

theorem blk4 (t : Fin cfg0.N) (l : Fin 128) : iblk m c 4 t (ix2 0 l) = laneFreq l.val := by
  rw [← host_freq m c]
  blk_ext [iblk, at4]

theorem blk5 (t : Fin cfg0.N) (l : Fin 128) : iblk m c 5 t (ix2 0 l) = laneSign l.val := by
  rw [← host_sign m c]
  blk_ext [iblk, at5]

theorem blk6 (t : Fin cfg0.N) (k : Fin 2048) (q : Fin 1024) :
    iblk m c 6 t (ix2 k q) = m ((c : Thread nD τ).loc main_arg4) (ix2 k ⟨1024 * (t.val % 4) + q.val, by omega⟩) := by
  rw [← host_weight m c]
  blk_ext [iblk, at6]

/-- The modulated normed row of the array. -/
def hiddenAt (R : Fin 16384) (k : Fin 2048) : EReal :=
  hidden (fun k => m ((c : Thread nD τ).loc main_arg0) (ix2 R k)) (fun k => m ((c : Thread nD τ).loc main_arg2) (ix1 k))
    (fun k => m ((c : Thread nD τ).loc main_arg1) (ix3 ⟨R.val / 4096, by omega⟩ 1 k))
    (fun k => m ((c : Thread nD τ).loc main_arg1) (ix3 ⟨R.val / 4096, by omega⟩ 0 k)) k

/-- The row's position. -/
def posAt (R : Fin 16384) : EReal := FloatOps.sitofp (F := Ideal) .f32 (m ((c : Thread nD τ).loc main_arg3) (ix2 R 0))

/-- What the three carried scratches hold after point `n`, at lane row `r`. -/
structure Carried (n : ℕ) (hn : n < cfg0.N) (r : Fin 512) : Prop where
  normed : ∀ k, (outsAt0 m c n hn).2.1 (ix2 r k) = hiddenAt m c (rowAt n hn r) k
  cosine : ∀ l : Fin 128, (outsAt0 m c n hn).2.2.1 (ix2 r l) = Ideal.cos (posAt m c (rowAt n hn r) * laneFreq l.val)
  sine : ∀ l : Fin 128, (outsAt0 m c n hn).2.2.2 (ix2 r l)
    = Ideal.sin (posAt m c (rowAt n hn r) * laneFreq l.val) * laneSign l.val

theorem mod_row1 (t : Fin cfg0.N) (k : Fin 2048) :
    View.ld (iblk m c 1 t) (Rect.unit ![0, 1, 0] ![1, 1, 2048] inb_S1x6x2048_S1x1x2048_0_1_0) (ix3 0 0 k)
      = iblk m c 1 t (ix3 0 1 k) := by
  refine congrArg (iblk m c 1 t) (funext fun a => ?_)
  fin_cases a
  · rfl
  · rfl
  · exact Fin.ext (by show 0 + 1 * k.val = k.val; omega)

theorem mod_row0 (t : Fin cfg0.N) (k : Fin 2048) :
    View.ld (iblk m c 1 t) (Rect.unit ![0, 0, 0] ![1, 1, 2048] inb_S1x6x2048_S1x1x2048_0_0_0) (ix3 0 0 k)
      = iblk m c 1 t (ix3 0 0 k) := by
  refine congrArg (iblk m c 1 t) (funext fun a => ?_)
  fin_cases a
  · rfl
  · rfl
  · exact Fin.ext (by show 0 + 1 * k.val = k.val; omega)

/-- The row norm computed at a row block's first point. -/
theorem normed_row (t : Fin cfg0.N) (r : Fin 512) (k : Fin 2048) :
    k0_pay6 (iblk m c 0 t) (iblk m c 2 t)
        (View.ld (iblk m c 1 t) (Rect.unit ![0, 1, 0] ![1, 1, 2048] inb_S1x6x2048_S1x1x2048_0_1_0))
        (View.ld (iblk m c 1 t) (Rect.unit ![0, 0, 0] ![1, 1, 2048] inb_S1x6x2048_S1x1x2048_0_0_0)) (ix2 r k)
      = hiddenAt m c (rowAt t.val t.isLt r) k := by
  have e : (⟨(rowAt t.val t.isLt r).val / 4096, by omega⟩ : Fin 4)
      = ⟨t.val / 32, by have := t.isLt; have := points; omega⟩ :=
    Fin.ext (by show (512 * (t.val / 4) + r.val) / 4096 = t.val / 32; omega)
  rw [pay6_apply]
  unfold hiddenAt
  simp only [mod_row1, mod_row0, blk0, blk1, blk2, e]

theorem normed_first (t : Fin cfg0.N) (h0 : t.val % 4 = 0) (r : Fin 512) (k : Fin 2048) :
    (outsAt0 m c t.val t.isLt).2.1 (ix2 r k) = hiddenAt m c (rowAt t.val t.isLt r) k := by
  rw [outsAt0_A m c t h0 (by omega) (by omega)]
  dsimp only
  frame_out
  exact normed_row m c t r k

theorem cosine_first (t : Fin cfg0.N) (h0 : t.val % 4 = 0) (r : Fin 512) (l : Fin 128) :
    (outsAt0 m c t.val t.isLt).2.2.1 (ix2 r l) = Ideal.cos (posAt m c (rowAt t.val t.isLt r) * laneFreq l.val) := by
  rw [outsAt0_A m c t h0 (by omega) (by omega)]
  dsimp only
  frame_out
  rw [cos_apply, blk3, blk4]
  rfl

theorem sine_first (t : Fin cfg0.N) (h0 : t.val % 4 = 0) (r : Fin 512) (l : Fin 128) :
    (outsAt0 m c t.val t.isLt).2.2.2 (ix2 r l)
      = Ideal.sin (posAt m c (rowAt t.val t.isLt r) * laneFreq l.val) * laneSign l.val := by
  rw [outsAt0_A m c t h0 (by omega) (by omega)]
  dsimp only
  frame_out
  rw [sin_apply, blk3, blk4, blk5]
  rfl

theorem row_before (n : ℕ) (hn : n < cfg0.N) (h0 : ¬ n % 4 = 0) (r : Fin 512) :
    rowAt (n - 1) (Nat.lt_of_le_of_lt (Nat.sub_le _ _) hn) r = rowAt n hn r := by
  unfold rowAt
  refine Fin.ext ?_
  show 512 * ((n - 1) / 4) + r.val = 512 * (n / 4) + r.val
  omega

theorem carried (n : ℕ) (hn : n < cfg0.N) (r : Fin 512) : Carried m c n hn r := by
  induction n with
  | zero => exact ⟨normed_first m c ⟨0, hn⟩ rfl r, cosine_first m c ⟨0, hn⟩ rfl r, sine_first m c ⟨0, hn⟩ rfl r⟩
  | succ n ih =>
    by_cases h0 : (n + 1) % 4 = 0
    · exact ⟨normed_first m c ⟨n + 1, hn⟩ h0 r, cosine_first m c ⟨n + 1, hn⟩ h0 r, sine_first m c ⟨n + 1, hn⟩ h0 r⟩
    · have ih' := ih (by omega)
      have e := row_before (n + 1) hn h0 r
      by_cases h2 : 1 ≤ (n + 1) % 4 ∧ (n + 1) % 4 ≤ 2
      · have k := outsAt0_B m c ⟨n + 1, hn⟩ h0 (not_not_intro h2) h2
        refine ⟨?_, ?_, ?_⟩ <;> rw [← e] <;> dsimp only at k <;> rw [k]
        exacts [ih'.1, ih'.2, ih'.3]
      · have k := outsAt0_C m c ⟨n + 1, hn⟩ h0 h2 h2
        refine ⟨?_, ?_, ?_⟩ <;> rw [← e] <;> dsimp only at k <;> rw [k]
        exacts [ih'.1, ih'.2, ih'.3]

/-- The projected row of the array. -/
def projAt (R : Fin 16384) (Q : Fin 4096) : EReal :=
  ∑ k, hiddenAt m c R k * m ((c : Thread nD τ).loc main_arg4) (ix2 k Q)

theorem proj_row (t : Fin cfg0.N) (h : Vec Ideal S512x2048 .bf16) (r : Fin 512)
    (hh : ∀ k, h (ix2 r k) = hiddenAt m c (rowAt t.val t.isLt r) k) (q : Fin 1024) :
    k0_pay3 h (iblk m c 6 t) (ix2 r q)
      = projAt m c (rowAt t.val t.isLt r) ⟨1024 * (t.val % 4) + q.val, by omega⟩ := by
  rw [pay3_apply]
  unfold projAt
  simp only [hh, blk6]

theorem out_first (t : Fin cfg0.N) (h0 : t.val % 4 = 0) (r : Fin 512) (q : Fin 1024) :
    (outsAt0 m c t.val t.isLt).1 (ix2 r q)
      = projAt m c (rowAt t.val t.isLt r) ⟨1024 * (t.val % 4) + q.val, by omega⟩ := by
  rw [outsAt0_A m c t h0 (by omega) (by omega)]
  dsimp only
  frame_out
  exact proj_row m c t _ r (normed_row m c t r) q

theorem out_last (t : Fin cfg0.N) (h0 : t.val % 4 = 3) (r : Fin 512) (q : Fin 1024) :
    (outsAt0 m c t.val t.isLt).1 (ix2 r q)
      = projAt m c (rowAt t.val t.isLt r) ⟨1024 * (t.val % 4) + q.val, by omega⟩ := by
  have hc := carried m c (t.val - 1) (Nat.lt_of_le_of_lt (Nat.sub_le _ _) t.isLt) r
  have e := row_before t.val t.isLt (by omega) r
  rw [outsAt0_C m c t (by omega) (by omega) (by omega)]
  dsimp only
  frame_out
  simp only [read_unread_whole]
  exact proj_row m c t _ r (fun k => by rw [← e]; exact hc.normed k) q

theorem out_rotated (t : Fin cfg0.N) (h2 : 1 ≤ t.val % 4 ∧ t.val % 4 ≤ 2) (r : Fin 512) (q : Fin 1024) :
    (outsAt0 m c t.val t.isLt).1 (ix2 r q)
      = rotated (projAt m c (rowAt t.val t.isLt r)) (posAt m c (rowAt t.val t.isLt r))
          ⟨1024 * (t.val % 4) + q.val, by omega⟩ * scaleOf (BitVec.ofNat 32 (t.val % 4)) := by
  have hc := carried m c (t.val - 1) (Nat.lt_of_le_of_lt (Nat.sub_le _ _) t.isLt) r
  have e := row_before t.val t.isLt (by omega) r
  have hcos := hc.cosine
  have hsin := hc.sine
  have hnorm := hc.normed
  rw [e] at hcos hsin hnorm
  have hu : ∀ off (ho : off + 128 ≤ 1024) (l : Fin 128),
      k0_pay3 (outsAt0 m c (t.val - 1) (Nat.lt_of_le_of_lt (Nat.sub_le _ _) t.isLt)).2.1 (iblk m c 6 t)
          (ix2 r ⟨off + l.val, by omega⟩)
        = projAt m c (rowAt t.val t.isLt r) ⟨1024 * (t.val % 4) + off + l.val, by omega⟩ := fun off ho l => by
    rw [proj_row m c t _ r hnorm]
    exact congrArg _ (Fin.ext (by simp only; omega))
  rw [outsAt0_B m c t (by omega) (not_not_intro h2) h2]
  dsimp only
  frame_out
  canon_tiles x hx
  all_goals simp only [read_unread_whole, tile_at]
  · idx_vars x
    obtain rfl : r = x0 := Fin.ext hx0
    have eq : (⟨1024 * (t.val % 4) + q.val, by omega⟩ : Fin 4096) = ⟨1024 * (t.val % 4) + 896 + x1.val, by omega⟩ :=
      Fin.ext (by simp only; have : q.val = _ := hx1; omega)
    rw [eq]
    exact pay5_lane _ _ (1024 * (t.val % 4) + 896) (by omega) (by omega) _ _ _ _ _ r (hu 896 (by omega)) hcos hsin x1
  · idx_vars x
    obtain rfl : r = x0 := Fin.ext hx0
    have eq : (⟨1024 * (t.val % 4) + q.val, by omega⟩ : Fin 4096) = ⟨1024 * (t.val % 4) + 768 + x1.val, by omega⟩ :=
      Fin.ext (by simp only; have : q.val = _ := hx1; omega)
    rw [eq]
    exact pay4_lane _ _ (1024 * (t.val % 4) + 768) (by omega) (by omega) _ _ _ _ r (hu 768 (by omega)) hcos hsin x1
  · idx_vars x
    obtain rfl : r = x0 := Fin.ext hx0
    have eq : (⟨1024 * (t.val % 4) + q.val, by omega⟩ : Fin 4096) = ⟨1024 * (t.val % 4) + 640 + x1.val, by omega⟩ :=
      Fin.ext (by simp only; have : q.val = _ := hx1; omega)
    rw [eq]
    exact pay17_lane _ _ (1024 * (t.val % 4) + 640) (by omega) (by omega) _ _ _ _ r (hu 640 (by omega)) hcos hsin x1
  · idx_vars x
    obtain rfl : r = x0 := Fin.ext hx0
    have eq : (⟨1024 * (t.val % 4) + q.val, by omega⟩ : Fin 4096) = ⟨1024 * (t.val % 4) + 512 + x1.val, by omega⟩ :=
      Fin.ext (by simp only; have : q.val = _ := hx1; omega)
    rw [eq]
    exact pay16_lane _ _ (1024 * (t.val % 4) + 512) (by omega) (by omega) _ _ _ _ r (hu 512 (by omega)) hcos hsin x1
  · idx_vars x
    obtain rfl : r = x0 := Fin.ext hx0
    have eq : (⟨1024 * (t.val % 4) + q.val, by omega⟩ : Fin 4096) = ⟨1024 * (t.val % 4) + 384 + x1.val, by omega⟩ :=
      Fin.ext (by simp only; have : q.val = _ := hx1; omega)
    rw [eq]
    exact pay15_lane _ _ (1024 * (t.val % 4) + 384) (by omega) (by omega) _ _ _ _ r (hu 384 (by omega)) hcos hsin x1
  · idx_vars x
    obtain rfl : r = x0 := Fin.ext hx0
    have eq : (⟨1024 * (t.val % 4) + q.val, by omega⟩ : Fin 4096) = ⟨1024 * (t.val % 4) + 256 + x1.val, by omega⟩ :=
      Fin.ext (by simp only; have : q.val = _ := hx1; omega)
    rw [eq]
    exact pay14_lane _ _ (1024 * (t.val % 4) + 256) (by omega) (by omega) _ _ _ _ r (hu 256 (by omega)) hcos hsin x1
  · idx_vars x
    obtain rfl : r = x0 := Fin.ext hx0
    have eq : (⟨1024 * (t.val % 4) + q.val, by omega⟩ : Fin 4096) = ⟨1024 * (t.val % 4) + 128 + x1.val, by omega⟩ :=
      Fin.ext (by simp only; have : q.val = _ := hx1; omega)
    rw [eq]
    exact pay13_lane _ _ (1024 * (t.val % 4) + 128) (by omega) (by omega) _ _ _ _ r (hu 128 (by omega)) hcos hsin x1
  · idx_vars x
    obtain rfl : r = x0 := Fin.ext hx0
    have eq : (⟨1024 * (t.val % 4) + q.val, by omega⟩ : Fin 4096) = ⟨1024 * (t.val % 4) + 0 + x1.val, by omega⟩ :=
      Fin.ext (by simp only; have : q.val = _ := hx1; omega)
    rw [eq]
    exact pay12_lane _ _ (1024 * (t.val % 4) + 0) (by omega) (by omega) _ _ _ _ r (hu 0 (by omega)) hcos hsin x1

theorem scale_query : scaleOf (BitVec.ofNat 32 1) = queryScale := scale_named

theorem scale_key : scaleOf (BitVec.ofNat 32 2) = 1 := rfl

/-- What grid point `t` writes back, at an entry. -/
theorem out_entry (t : Fin cfg0.N) (r : Fin 512) (q : Fin 1024) :
    (outsAt0 m c t.val t.isLt).1 (ix2 r q)
      = entry (projAt m c (rowAt t.val t.isLt r)) (posAt m c (rowAt t.val t.isLt r))
          ⟨1024 * (t.val % 4) + q.val, by omega⟩ := by
  unfold entry
  have h : t.val % 4 = 0 ∨ t.val % 4 = 1 ∨ t.val % 4 = 2 ∨ t.val % 4 = 3 := by omega
  rcases h with h | h | h | h
  · rw [out_first m c t h, if_pos (by simp only; omega)]
  · rw [out_rotated m c t (by omega), if_neg (by simp only; omega), if_pos (by simp only; omega)]
    rw [congrArg scaleOf (congrArg (BitVec.ofNat 32) h), scale_query]
  · rw [out_rotated m c t (by omega), if_neg (by simp only; omega), if_neg (by simp only; omega), if_pos (by simp only; omega)]
    rw [congrArg scaleOf (congrArg (BitVec.ofNat 32) h), scale_key, mul_one]
  · rw [out_last m c t h, if_neg (by simp only; omega), if_neg (by simp only; omega), if_neg (by simp only; omega)]

/-- The kernel's output array after the run. -/
theorem final_array : (dats m 0 c).arrAt 7 cfg0.N
    = fun i : S16384x4096.Idx => entry (projAt m c (i 0)) (posAt m c (i 0)) (i 1) := by
  refine (dats m 0 c).arrAt_eq_of_covers 7 _ (by decide +kernel) fun t hf y => ?_
  blk_simp
  rw [after0_7]
  idx_vars y
  rw [out_entry]
  have e0 : (win0_7.blk t).view.emb (ix2 y0 y1) 0 = rowAt t.val t.isLt y0 := by
    refine Fin.ext ?_
    show _ = 512 * (t.val / 4) + y0.val
    blk_simp [at7]
    try omega
  have e1 : (win0_7.blk t).view.emb (ix2 y0 y1) 1 = (⟨1024 * (t.val % 4) + y1.val, by omega⟩ : Fin 4096) := by
    refine Fin.ext ?_
    show _ = 1024 * (t.val % 4) + y1.val
    blk_simp [at7]
    try omega
  rw [e0, e1]

end Cert.Inproj
-- ==== Proof.InprojReference.lean ====
module

public import proofs.«01_k».proof.Proof.Gen.Reference2Ideal.Run
public import proofs.«01_k».proof.Proof.InprojSpec

@[expose] public section

noncomputable section

namespace Cert.Inproj

open Idealize.ShloMosaic Cert.Reference2Ideal Cert.Reference2Ideal.Gen Cert.Reference2Ideal.Value

/-- The reference's rotary over eight heads of 128 lanes. -/
def heads (X : FVec Ideal S16384x1024 .f32) (C S : FVec Ideal S16384x1x16 .f32) : FVec Ideal S16384x8x128 .f32 :=
  ((concatenate S16384x8x128 2 [⟨S16384x8x16, ((subf (mulf (extractStridedSlice S16384x8x16 ![0, 0, 0] (shapeCast S16384x8x128 X shapeCasts_S16384x1024_S16384x8x128) slices_S16384x8x128_S16384x8x16_0_0_0) (broadcastInDim S16384x8x16 ![0, 1, 2] bcast_S16384x1x16_S16384x8x16_0_1_2 C)) (mulf (extractStridedSlice S16384x8x16 ![0, 0, 16] (shapeCast S16384x8x128 X shapeCasts_S16384x1024_S16384x8x128) slices_S16384x8x128_S16384x8x16_0_0_16) (broadcastInDim S16384x8x16 ![0, 1, 2] bcast_S16384x1x16_S16384x8x16_0_1_2 S))) : (⟨S16384x8x16, .f32⟩ : BufTy).Contents (Elt Ideal))⟩, ⟨S16384x8x16, ((addf (mulf (extractStridedSlice S16384x8x16 ![0, 0, 16] (shapeCast S16384x8x128 X shapeCasts_S16384x1024_S16384x8x128) slices_S16384x8x128_S16384x8x16_0_0_16) (broadcastInDim S16384x8x16 ![0, 1, 2] bcast_S16384x1x16_S16384x8x16_0_1_2 C)) (mulf (extractStridedSlice S16384x8x16 ![0, 0, 0] (shapeCast S16384x8x128 X shapeCasts_S16384x1024_S16384x8x128) slices_S16384x8x128_S16384x8x16_0_0_0) (broadcastInDim S16384x8x16 ![0, 1, 2] bcast_S16384x1x16_S16384x8x16_0_1_2 S))) : (⟨S16384x8x16, .f32⟩ : BufTy).Contents (Elt Ideal))⟩, ⟨S16384x8x96, ((extractStridedSlice S16384x8x96 ![0, 0, 32] (shapeCast S16384x8x128 X shapeCasts_S16384x1024_S16384x8x128) slices_S16384x8x128_S16384x8x96_0_0_32) : (⟨S16384x8x96, .f32⟩ : BufTy).Contents (Elt Ideal))⟩] concatenates_S16384x8x16_S16384x8x16_S16384x8x96_S16384x8x128_d2 : (⟨S16384x8x128, .f32⟩ : BufTy).Contents (Elt Ideal)))

/-- The reference's last steps, from the projected rows and the cosines and sines. -/
def tail (P : FVec Ideal S16384x4096 .f32) (C S : FVec Ideal S16384x1x16 .f32) : FVec Ideal S16384x4096 .f32 :=
  (concatenate S16384x4096 1 [⟨S16384x1024, ((extractStridedSlice S16384x1024 ![0, 0] P slices_S16384x4096_S16384x1024_0_0) : (⟨S16384x1024, .f32⟩ : BufTy).Contents (Elt Ideal))⟩, ⟨S16384x1024, ((Host.divf (F := Ideal) (φ := .f32) (shapeCast S16384x1024 (heads (extractStridedSlice S16384x1024 ![0, 1024] P slices_S16384x4096_S16384x1024_0_1024) C S) shapeCasts_S16384x8x128_S16384x1024) (broadcastInDim S16384x1024 ![] bcast_S_S16384x1024 (Host.sqrt (constant S_ .f32 0x43000000#32)))) : (⟨S16384x1024, .f32⟩ : BufTy).Contents (Elt Ideal))⟩, ⟨S16384x1024, ((shapeCast S16384x1024 (heads (extractStridedSlice S16384x1024 ![0, 2048] P slices_S16384x4096_S16384x1024_0_2048) C S) shapeCasts_S16384x8x128_S16384x1024) : (⟨S16384x1024, .f32⟩ : BufTy).Contents (Elt Ideal))⟩, ⟨S16384x1024, ((extractStridedSlice S16384x1024 ![0, 3072] P slices_S16384x4096_S16384x1024_0_3072) : (⟨S16384x1024, .f32⟩ : BufTy).Contents (Elt Ideal))⟩] concatenates_S16384x1024_S16384x1024_S16384x1024_S16384x1024_S16384x4096_d1 : (⟨S16384x4096, .f32⟩ : BufTy).Contents (Elt Ideal))

variable (m : (ℓ : Loc nD τ sig) → Buf (Elt Ideal) ℓ) (c : Dev nD)

/-- The reference's weighted row norm. -/
def refNorm : FVec Ideal S16384x2048 .f32 :=
  (mulf (mulf (m ((c.tc : Thread nD τ).loc main_arg0)) (broadcastInDim S16384x2048 ![0, 1] bcast_S16384x1_S16384x2048_0_1 (Host.rsqrt (addf (Host.divf (broadcastInDim S16384x1 ![0] bcast_S16384_S16384x1_0 (Host.reduceAdd (mulf (m ((c.tc : Thread nD τ).loc main_arg0)) (m ((c.tc : Thread nD τ).loc main_arg0))) (constant S_ .f32 0x00000000#32) reducesTo_S16384x2048_S16384_d1 h_S_)) (broadcastInDim S16384x1 ![] bcast_S_S16384x1 (constant S_ .f32 0x45000000#32))) (broadcastInDim S16384x1 ![] bcast_S_S16384x1 (constant S_ .f32 0x358637BD#32)))))) (broadcastInDim S16384x2048 ![0, 1] bcast_S1x2048_S16384x2048_0_1 (broadcastInDim S1x2048 ![1] bcast_S2048_S1x2048_1 (m ((c.tc : Thread nD τ).loc main_arg2)))))

/-- The reference's modulated rows. -/
def refHidden : FVec Ideal S16384x2048 .f32 :=
  (shapeCast S16384x2048 (addf (mulf (shapeCast S4x4096x2048 (refNorm m c) shapeCasts_S16384x2048_S4x4096x2048) (broadcastInDim S4x4096x2048 ![0, 1, 2] bcast_S4x1x2048_S4x4096x2048_0_1_2 (addf (broadcastInDim S4x1x2048 ![] bcast_S_S4x1x2048 (constant S_ .f32 0x3F800000#32)) (extractStridedSlice S4x1x2048 ![0, 1, 0] (m ((c.tc : Thread nD τ).loc main_arg1)) slices_S4x6x2048_S4x1x2048_0_1_0)))) (broadcastInDim S4x4096x2048 ![0, 1, 2] bcast_S4x1x2048_S4x4096x2048_0_1_2 (extractStridedSlice S4x1x2048 ![0, 0, 0] (m ((c.tc : Thread nD τ).loc main_arg1)) slices_S4x6x2048_S4x1x2048_0_0_0))) shapeCasts_S4x4096x2048_S16384x2048)

/-- The reference's projected rows. -/
def refProj : FVec Ideal S16384x4096 .f32 :=
  (Host.dotGeneral (φ₁ := .f32) (φ₂ := .f32) dot_S16384x2048_S2048x4096_S16384x4096_1_0_0_1_n_n none (refHidden m c) (m ((c.tc : Thread nD τ).loc main_arg4) : FVec Ideal S2048x4096 .f32))

/-- The reference's cosines. -/
def refCos : FVec Ideal S16384x1x16 .f32 :=
  (Host.cos (broadcastInDim S16384x1x16 ![0, 2] bcast_S16384x16_S16384x1x16_0_2 (mulf (broadcastInDim S16384x16 ![0, 1] bcast_S16384x1_S16384x16_0_1 (sitofp .f32 (m ((c.tc : Thread nD τ).loc main_arg3)))) (broadcastInDim S16384x16 ![0, 1] bcast_S1x16_S16384x16_0_1 (broadcastInDim S1x16 ![1] bcast_S16_S1x16_1 (Host.powf (broadcastInDim S16 ![] bcast_S_S16 (constant S_ .f32 0x48F42400#32)) (Host.divf (Host.negf (addf (broadcastInDim S16 ![] bcast_S_S16 (constant S_ .f32 0x00000000#32)) (mulf (broadcastInDim S16 ![] bcast_S_S16 (constant S_ .f32 0x40000000#32)) (sitofp .f32 (iotaInDim S16 32 0))))) (broadcastInDim S16 ![] bcast_S_S16 (constant S_ .f32 0x42000000#32)))))))))

/-- The reference's sines. -/
def refSin : FVec Ideal S16384x1x16 .f32 :=
  (Host.sin (broadcastInDim S16384x1x16 ![0, 2] bcast_S16384x16_S16384x1x16_0_2 (mulf (broadcastInDim S16384x16 ![0, 1] bcast_S16384x1_S16384x16_0_1 (sitofp .f32 (m ((c.tc : Thread nD τ).loc main_arg3)))) (broadcastInDim S16384x16 ![0, 1] bcast_S1x16_S16384x16_0_1 (broadcastInDim S1x16 ![1] bcast_S16_S1x16_1 (Host.powf (broadcastInDim S16 ![] bcast_S_S16 (constant S_ .f32 0x48F42400#32)) (Host.divf (Host.negf (addf (broadcastInDim S16 ![] bcast_S_S16 (constant S_ .f32 0x00000000#32)) (mulf (broadcastInDim S16 ![] bcast_S_S16 (constant S_ .f32 0x40000000#32)) (sitofp .f32 (iotaInDim S16 32 0))))) (broadcastInDim S16 ![] bcast_S_S16 (constant S_ .f32 0x42000000#32)))))))))

theorem res_eq : res_main_v81 m c = tail (refProj m c) (refCos m c) (refSin m c) := by
  unfold res_main_v81
  rfl

theorem refCos_apply (r : Fin 16384) (l : Fin 16) : refCos m c (ix3 r 0 l)
    = Ideal.cos (FloatOps.sitofp (F := Ideal) .f32 (m ((c.tc : Thread nD τ).loc main_arg3) (ix2 r 0)) * freq l.val) := by
  pointwise [refCos]
  rfl

theorem refSin_apply (r : Fin 16384) (l : Fin 16) : refSin m c (ix3 r 0 l)
    = Ideal.sin (FloatOps.sitofp (F := Ideal) .f32 (m ((c.tc : Thread nD τ).loc main_arg3) (ix2 r 0)) * freq l.val) := by
  pointwise [refSin]
  rfl

theorem refHidden_apply (r : Fin 16384) (k : Fin 2048) : refHidden m c (ix2 r k)
    = hidden (fun k => m ((c.tc : Thread nD τ).loc main_arg0) (ix2 r k)) (fun k => m ((c.tc : Thread nD τ).loc main_arg2) (ix1 k))
        (fun k => m ((c.tc : Thread nD τ).loc main_arg1) (ix3 ⟨r.val / 4096, by omega⟩ 1 k))
        (fun k => m ((c.tc : Thread nD τ).loc main_arg1) (ix3 ⟨r.val / 4096, by omega⟩ 0 k)) k := by
  pointwise [refHidden, refNorm]
  rfl

theorem refProj_apply (r : Fin 16384) (q : Fin 4096) : refProj m c (ix2 r q)
    = ∑ k : Fin 2048, refHidden m c (ix2 r k) * m ((c.tc : Thread nD τ).loc main_arg4) (ix2 k q) := by
  pointwise [refProj]

/-- The rotary of one head lane, read off the reference's concatenation of the turned pairs and the rest. -/
theorem heads_apply (X : FVec Ideal S16384x1024 .f32) (C S : FVec Ideal S16384x1x16 .f32) (r : Fin 16384)
    (d : Fin 8) (l : Fin 128) : heads X C S (ix3 r d l) =
      if h : l.val < 16 then
        X (ix2 r ⟨d.val * 128 + l.val, by omega⟩) * C (ix3 r 0 ⟨l.val, by omega⟩)
          - X (ix2 r ⟨d.val * 128 + (16 + l.val), by omega⟩) * S (ix3 r 0 ⟨l.val, by omega⟩)
      else if h' : l.val < 32 then
        X (ix2 r ⟨d.val * 128 + l.val, by omega⟩) * C (ix3 r 0 ⟨l.val - 16, by omega⟩)
          + X (ix2 r ⟨d.val * 128 + (l.val - 16), by omega⟩) * S (ix3 r 0 ⟨l.val - 16, by omega⟩)
      else X (ix2 r ⟨d.val * 128 + l.val, by omega⟩) := by
  pointwise [heads]
  by_cases h : l.val < 16
  · simp only [h, ↓reduceDIte]
  · by_cases h' : l.val < 32
    · have h2 : l.val - 16 < 16 := by omega
      have e : 16 + (l.val - 16) = l.val := by omega
      simp only [h, h', h2, e, ↓reduceDIte]
    · have h2 : ¬ l.val - 16 < 16 := by omega
      have e : 32 + (l.val - 16 - 16) = l.val := by omega
      simp only [h, h', h2, e, ↓reduceDIte]

/-- The rotary of the head that holds global column `q`. -/
theorem heads_rotated (P : FVec Ideal S16384x4096 .f32) (C S : FVec Ideal S16384x1x16 .f32) (r : Fin 16384) (p : EReal)
    (hC : ∀ l : Fin 16, C (ix3 r 0 l) = Ideal.cos (p * freq l.val))
    (hS : ∀ l : Fin 16, S (ix3 r 0 l) = Ideal.sin (p * freq l.val))
    (X : FVec Ideal S16384x1024 .f32) (o : ℕ) (ho : o % 128 = 0) (ho' : o + 1024 ≤ 4096)
    (hX : ∀ k : Fin 1024, X (ix2 r k) = P (ix2 r ⟨o + k.val, by omega⟩))
    (q : Fin 4096) (d : Fin 8) (l : Fin 128) (hq : q.val = o + d.val * 128 + l.val) :
    heads X C S (ix3 r d l) = rotated (fun q => P (ix2 r q)) p q := by
  have hl : q.val % 128 = l.val := by omega
  rw [heads_apply]
  unfold rotated
  simp only [hl, hX, hC, hS]
  have e1 : (⟨o + (d.val * 128 + l.val), by omega⟩ : Fin 4096) = q := Fin.ext (by simp only; omega)
  by_cases h : l.val < 16
  · have e2 : (⟨o + (d.val * 128 + (16 + l.val)), by omega⟩ : Fin 4096) = ⟨q.val + 16, by omega⟩ :=
      Fin.ext (by simp only; omega)
    simp only [h, ↓reduceDIte, e1, e2]
  · by_cases h' : l.val < 32
    · have e2 : (⟨o + (d.val * 128 + (l.val - 16)), by omega⟩ : Fin 4096) = ⟨q.val - 16, by omega⟩ :=
        Fin.ext (by simp only; omega)
      simp only [h, h', ↓reduceDIte, e1, e2]
    · simp only [h, h', ↓reduceDIte, e1]

/-- The head width's word is the number 128, -/
theorem width_word : Ideal.ofBits .f32 0x43000000#32 = ((128 : ℝ) : EReal) := by
  simp [Ideal.ofBits, Ideal.ieee, -EReal.coe_mul]
  norm_num

/-- and to divide by its root is to multiply by the query scale. -/
theorem div_root (a : EReal) : Ideal.div a (Ideal.sqrt (Ideal.ofBits .f32 0x43000000#32)) = a * queryScale := by
  have h : (0 : ℝ) < Real.sqrt 128 := Real.sqrt_pos.mpr (by norm_num)
  rw [width_word, Ideal.sqrt_coe, if_neg (by norm_num), Ideal.div_coe h.ne', one_div]
  rfl

theorem tail_apply (P : FVec Ideal S16384x4096 .f32) (C S : FVec Ideal S16384x1x16 .f32) (r : Fin 16384) (p : EReal)
    (hC : ∀ l : Fin 16, C (ix3 r 0 l) = Ideal.cos (p * freq l.val))
    (hS : ∀ l : Fin 16, S (ix3 r 0 l) = Ideal.sin (p * freq l.val)) (q : Fin 4096) :
    tail P C S (ix2 r q) = entry (fun q => P (ix2 r q)) p q := by
  pointwise [tail]
  unfold entry
  by_cases h1 : q.val < 1024
  · simp only [h1, ↓reduceDIte, ↓reduceIte]
  · by_cases h2 : q.val < 2048
    · have h3 : q.val - 1024 < 1024 := by omega
      simp only [h1, h2, h3, ↓reduceDIte, ↓reduceIte]
      rw [heads_rotated P C S r p hC hS _ 1024 (by norm_num) (by norm_num) _ q _ _ (by simp only; omega)]
      · exact div_root _
      · intro k
        pointwise []
    · by_cases h3 : q.val < 3072
      · have h4 : ¬ q.val - 1024 < 1024 := by omega
        have h5 : q.val - 1024 - 1024 < 1024 := by omega
        simp only [h1, h2, h3, h4, h5, ↓reduceDIte, ↓reduceIte]
        rw [heads_rotated P C S r p hC hS _ 2048 (by norm_num) (by norm_num) _ q _ _ (by simp only; omega)]
        intro k
        pointwise []
      · have h4 : ¬ q.val - 1024 < 1024 := by omega
        have h5 : ¬ q.val - 1024 - 1024 < 1024 := by omega
        have e : 3072 + (q.val - 1024 - 1024 - 1024) = q.val := by omega
        simp only [h1, h2, h3, h4, h5, e, ↓reduceDIte, ↓reduceIte]

/-- The reference's result at row `r`, column `q`. -/
theorem reference_apply (r : Fin 16384) (q : Fin 4096) : res_out0 m c (ix2 r q)
    = out (fun k => m ((c.tc : Thread nD τ).loc main_arg0) (ix2 r k)) (fun k => m ((c.tc : Thread nD τ).loc main_arg2) (ix1 k))
        (fun k => m ((c.tc : Thread nD τ).loc main_arg1) (ix3 ⟨r.val / 4096, by omega⟩ 1 k))
        (fun k => m ((c.tc : Thread nD τ).loc main_arg1) (ix3 ⟨r.val / 4096, by omega⟩ 0 k))
        (fun k q => m ((c.tc : Thread nD τ).loc main_arg4) (ix2 k q))
        (FloatOps.sitofp (F := Ideal) .f32 (m ((c.tc : Thread nD τ).loc main_arg3) (ix2 r 0))) q := by
  show res_main_v81 m c (ix2 r q) = _
  rw [res_eq, tail_apply _ _ _ r _ (refCos_apply m c r) (refSin_apply m c r)]
  unfold out
  simp only [refProj_apply, refHidden_apply]

end Cert.Inproj
-- ==== Proof.InprojClaims.lean ====
module

public import proofs.«01_k».proof.Defs
public import proofs.«01_k».proof.Proof.Gen.Kernel2.Frame
public import proofs.«01_k».proof.Proof.InprojValue
public import proofs.«01_k».proof.Proof.InprojReference

/-!
# The claims of the in-projection
-/

@[expose] public section

set_option maxRecDepth 16384

noncomputable section

namespace Cert.Inproj

open Idealize.ShloMosaic Idealize.SL.Sem

theorem kernel_quiescent : quiescent_Kernel2 := fun m g _ => Cert.Kernel2.Gen.frame m g

theorem ideal_quiescent : quiescent_Kernel2Ideal := fun m g _ => Cert.Kernel2Ideal.Gen.frame m g

theorem reference_quiescent : quiescent_Reference2Ideal := fun m g _ =>
  (θ_run _ _ _).mono (fun r h => ⟨fun c => (h c).2, sem_eq_zero_of_no_sems (by decide) r.2⟩) (Cert.Reference2Ideal.Value.run m g)

/-- The one named constant: the query scale's literal is named, with its exact value. -/
theorem kernel_preserved : preserves_Kernel2_Kernel2Ideal :=
  IdealRules.named_const.statement _ _ _ _ _ rfl

theorem inproj_algebraic : algebraic_Kernel2Ideal_Reference2Ideal := fun m g m' g' _ ha => by
  refine ⟨fun c => (Cert.Kernel2Ideal.Gen.dats m 0 c).arrAt 7 Cert.Kernel2Ideal.cfg0.N, ?_, ?_⟩
  · exact Cert.Kernel2Ideal.Value.run_blocks m g
  · refine (θ_run _ _ _).mono (fun r h c => ⟨?_, (h c).2⟩) (Cert.Reference2Ideal.Value.run m' g')
    have hc : c = 0 := Subsingleton.elim _ _
    subst hc
    obtain ⟨a0, a1, a2, a3, a4⟩ := ha 0
    refine (h 0).1.trans (Eq.trans ?_ (final_array m 0).symm)
    funext i
    have hi : i = ix2 (i 0) (i 1) := funext fun a => by fin_cases a <;> rfl
    refine (congrArg _ hi).trans ((reference_apply m' 0 (i 0) (i 1)).trans ?_)
    rw [a0, a1, a2, a3, a4]
    rfl

end Cert.Inproj

end
-- ==== Proof.OutprojSpec.lean ====
module

public import proofs.«01_k».proof.Proof.InprojSpec

@[expose] public section

/-!
The out-projection call's mathematics, one output entry at a time, over the extended reals: the row
norm of the attention's channels, the product of both mixers' channels with the output weight, the
gated residual, and (with the in-projection's `hidden`) the modulated norm after it.
-/

noncomputable section

namespace Cert.Outproj

open Idealize.ShloMosaic

/-- One entry of the attention channels' row norm with its weight. -/
def normed (a g : Fin 1024 → EReal) (k : Fin 1024) : EReal :=
  a k * Ideal.rsqrt (Ideal.div (∑ j, a j * a j) (Ideal.ofBits .f32 0x44800000#32)
    + Ideal.ofBits .f32 0x358637BD#32) * g k

/-- One entry of the row after the mixer: the input plus the gate times the projected channels. -/
def residual (x : Fin 2048 → EReal) (f a g : Fin 1024 → EReal) (w : Fin 2048 → Fin 2048 → EReal)
    (gate : Fin 2048 → EReal) (q : Fin 2048) : EReal :=
  x q + gate q * (∑ k : Fin 1024, f k * w ⟨k.val, by omega⟩ q + ∑ k : Fin 1024, normed a g k * w ⟨1024 + k.val, by omega⟩ q)

end Cert.Outproj
-- ==== Proof.OutprojFinite.lean ====
module

public import proofs.«01_k».proof.Proof.OutprojSpec
public import Idealize.ShloMosaic.Lib.IdealHost

@[expose] public section

/-!
Finite entries of the out-projection call: with finite inputs the hidden row is finite, so the high and
low parts of the router's product add up to the plain product.
-/

noncomputable section

namespace Cert.Outproj

open Idealize.ShloMosaic
open Cert.Inproj (hidden)

/-- A value that is a real number. -/
def IsReal (x : EReal) : Prop := ∃ r : ℝ, x = (r : EReal)

/-- A value that is a real number and not negative. -/
def IsSize (x : EReal) : Prop := ∃ r : ℝ, 0 ≤ r ∧ x = (r : EReal)

theorem IsReal.add {x y : EReal} : IsReal x → IsReal y → IsReal (x + y) := by
  rintro ⟨a, rfl⟩ ⟨b, rfl⟩
  exact ⟨a + b, (EReal.coe_add a b).symm⟩

theorem IsReal.mul {x y : EReal} : IsReal x → IsReal y → IsReal (x * y) := by
  rintro ⟨a, rfl⟩ ⟨b, rfl⟩
  exact ⟨a * b, (EReal.coe_mul a b).symm⟩

theorem IsReal.sum {n : ℕ} (f : Fin n → EReal) (h : ∀ k, IsReal (f k)) : IsReal (∑ k, f k) :=
  Finset.sum_induction _ IsReal (fun _ _ => IsReal.add) ⟨0, rfl⟩ fun k _ => h k

theorem IsReal.sub_self {x : EReal} : IsReal x → x - x = 0 := by
  rintro ⟨a, rfl⟩
  rw [← EReal.coe_sub, _root_.sub_self]
  rfl

theorem isReal_one : IsReal 1 := ⟨1, rfl⟩

/-- A value whose magnitude is below the infinity is real. -/
theorem isReal_of_lt {x : EReal} (h : max x (-x) < ⊤) : IsReal x := by
  induction x with
  | bot => simp at h
  | top => simp at h
  | coe r => exact ⟨r, rfl⟩

theorem isSize_squares {n : ℕ} (f : Fin n → EReal) (h : ∀ k, IsReal (f k)) : IsSize (∑ k, f k * f k) := by
  refine Finset.sum_induction _ IsSize ?_ ⟨0, le_refl _, rfl⟩ fun k _ => ?_
  · rintro _ _ ⟨a, ha, rfl⟩ ⟨b, hb, rfl⟩
    exact ⟨a + b, add_nonneg ha hb, (EReal.coe_add a b).symm⟩
  · obtain ⟨a, e⟩ := h k
    rw [e]
    exact ⟨a * a, mul_self_nonneg a, (EReal.coe_mul a a).symm⟩

theorem lit_1024 : Ideal.ofBits .f32 0x44800000#32 = ((1024 : ℝ) : EReal) := by
  simp [Ideal.ofBits, Ideal.ieee, -EReal.coe_mul]
  norm_num

theorem lit_2048 : Ideal.ofBits .f32 0x45000000#32 = ((2048 : ℝ) : EReal) := by
  simp [Ideal.ofBits, Ideal.ieee, -EReal.coe_mul]
  norm_num

theorem lit_eps : ∃ e : ℝ, 0 < e ∧ Ideal.ofBits .f32 0x358637BD#32 = (e : EReal) := by
  refine ⟨8796093 * (2 : ℝ) ^ (-43 : ℤ), by positivity, ?_⟩
  simp [Ideal.ofBits, Ideal.ieee, -EReal.coe_mul]

/-- The norm's factor is real for a mean of squares of real entries. -/
theorem isReal_factor {x : EReal} (h : IsSize x) (n : ℝ) (hn : 0 < n) :
    IsReal (Ideal.rsqrt (Ideal.div x (n : EReal) + Ideal.ofBits .f32 0x358637BD#32)) := by
  obtain ⟨a, ha, rfl⟩ := h
  obtain ⟨e, he, h2⟩ := lit_eps
  have h0 : ((n : ℝ) : EReal) ≠ 0 := fun h => hn.ne' (EReal.coe_eq_zero.1 h)
  have h1 : Ideal.div (a : EReal) (n : EReal) = ((a * n⁻¹ : ℝ) : EReal) := by
    rw [Ideal.div, if_neg h0, ← EReal.coe_inv, ← EReal.coe_mul]
  rw [h1, h2, ← EReal.coe_add]
  have hp : 0 < a * n⁻¹ + e := by positivity
  refine ⟨(Real.sqrt (a * n⁻¹ + e))⁻¹, ?_⟩
  show (if a * n⁻¹ + e < 0 then (⊥ : EReal) else if a * n⁻¹ + e = 0 then ⊤ else ((Real.sqrt (a * n⁻¹ + e))⁻¹ : ℝ)) = _
  rw [if_neg (not_lt.2 hp.le), if_neg hp.ne']

theorem isReal_normed (a g : Fin 1024 → EReal) (ha : ∀ k, IsReal (a k)) (hg : ∀ k, IsReal (g k)) (k : Fin 1024) :
    IsReal (normed a g k) := by
  unfold normed
  rw [lit_1024]
  exact ((ha k).mul (isReal_factor (isSize_squares a ha) 1024 (by norm_num))).mul (hg k)

theorem isReal_hidden (x g s b : Fin 2048 → EReal) (hx : ∀ k, IsReal (x k)) (hg : ∀ k, IsReal (g k))
    (hs : ∀ k, IsReal (s k)) (hb : ∀ k, IsReal (b k)) (k : Fin 2048) : IsReal (hidden x g s b k) := by
  unfold Cert.Inproj.hidden
  rw [lit_2048]
  exact ((((hx k).mul (isReal_factor (isSize_squares x hx) 2048 (by norm_num))).mul (hg k)).mul (isReal_one.add (hs k))).add (hb k)

theorem isReal_residual (x : Fin 2048 → EReal) (f a g : Fin 1024 → EReal) (w : Fin 2048 → Fin 2048 → EReal) (gate : Fin 2048 → EReal)
    (hx : ∀ k, IsReal (x k)) (hf : ∀ k, IsReal (f k)) (ha : ∀ k, IsReal (a k)) (hg : ∀ k, IsReal (g k))
    (hw : ∀ k q, IsReal (w k q)) (hm : ∀ k, IsReal (gate k)) (q : Fin 2048) : IsReal (residual x f a g w gate q) := by
  unfold residual
  exact (hx q).add ((hm q).mul ((IsReal.sum _ fun k => (hf k).mul (hw _ q)).add
    (IsReal.sum _ fun k => (isReal_normed a g ha hg k).mul (hw _ q))))

/-- The router's product as the call forms it: the high part of the row with both parts of the weight, and its low part
    with the weight's high part. -/
def parts (h w : Fin 2048 → EReal) : EReal :=
  ∑ k, h k * w k + ∑ k, (h k - h k) * w k + ∑ k, h k * (w k - w k)

theorem parts_eq (h w : Fin 2048 → EReal) (hh : ∀ k, IsReal (h k)) (hw : ∀ k, IsReal (w k)) : parts h w = ∑ k, h k * w k := by
  unfold parts
  have e1 : ∀ k, (h k - h k) * w k = 0 := fun k => by rw [(hh k).sub_self, zero_mul]
  have e2 : ∀ k, h k * (w k - w k) = 0 := fun k => by rw [(hw k).sub_self, mul_zero]
  simp only [e1, e2, Finset.sum_const_zero, add_zero]

end Cert.Outproj
-- ==== Proof.OutprojValue.lean ====
module

public import proofs.«01_k».proof.Proof.Gen.Kernel3Ideal.Value
public import proofs.«01_k».proof.Proof.OutprojSpec
public import proofs.«01_k».proof.Proof.OutprojFinite
public import Idealize.ShloMosaic.Lib.StableHlo.ReadAt
public import Idealize.ShloMosaic.Lib.Pipeline.ValueKit
public import Idealize.ShloMosaic.Lib.Pipeline.ReadBack

@[expose] public section

set_option maxRecDepth 8192

/-!
The out-projection kernel's three output arrays at a row and a column: the payloads at an index, the
blocks every grid point reads, and the arrays.
-/

noncomputable section

namespace Cert.Outproj

open Idealize.ShloMosaic Idealize.ShloMosaic.TcCoe Cert.Kernel3Ideal Cert.Kernel3Ideal.Gen
open Idealize.ShloMosaic.Pipeline (Dat)
open Cert.Inproj (hidden)

theorem pay1_apply (a : Vec Ideal S256x1024 .f32) (g : Vec Ideal S1x1024 .f32) (f : Vec Ideal S256x1024 .bf16)
    (w1 w2 : Vec Ideal S1024x2048 .bf16) (x : Vec Ideal S256x2048 .f32) (s : Vec Ideal S1x1x2048 .f32) (r : Fin 256) (q : Fin 2048) :
    k0_pay1 a g f w1 w2 x s (ix2 r q) = x (ix2 r q) + s (ix3 0 0 q) * (∑ k : Fin 1024, f (ix2 r k) * w1 (ix2 k q)
      + ∑ k : Fin 1024, normed (fun k => a (ix2 r k)) (fun k => g (ix2 0 k)) k * w2 (ix2 k q)) := by
  pointwise [k0_pay1]
  rfl

theorem pay4_apply (X : FVec Ideal S256x2048 .f32) (g : Vec Ideal S1x2048 .f32) (s b : Vec Ideal S1x1x2048 .f32)
    (r : Fin 256) (q : Fin 2048) : k0_pay4 X (k0_pay2 g) (mulf X X) s b (ix2 r q)
      = hidden (fun k => X (ix2 r k)) (fun k => g (ix2 0 k)) (fun k => s (ix3 0 0 k)) (fun k => b (ix3 0 0 k)) q := by
  pointwise [k0_pay4, k0_pay2]
  rfl

theorem pay5_apply (X : FVec Ideal S256x2048 .f32) (g : Vec Ideal S1x2048 .f32) (s b : Vec Ideal S1x1x2048 .f32)
    (w v : Vec Ideal S2048x256 .bf16) (r : Fin 256) (e : Fin 256) : k0_pay5 X (k0_pay2 g) (mulf X X) s b w w v (ix2 r e)
      = ∑ k : Fin 2048, hidden (fun k => X (ix2 r k)) (fun k => g (ix2 0 k)) (fun k => s (ix3 0 0 k)) (fun k => b (ix3 0 0 k)) k * w (ix2 k e)
        + ∑ k : Fin 2048, (hidden (fun k => X (ix2 r k)) (fun k => g (ix2 0 k)) (fun k => s (ix3 0 0 k)) (fun k => b (ix3 0 0 k)) k
            - hidden (fun k => X (ix2 r k)) (fun k => g (ix2 0 k)) (fun k => s (ix3 0 0 k)) (fun k => b (ix3 0 0 k)) k) * w (ix2 k e)
        + ∑ k : Fin 2048, hidden (fun k => X (ix2 r k)) (fun k => g (ix2 0 k)) (fun k => s (ix3 0 0 k)) (fun k => b (ix3 0 0 k)) k * v (ix2 k e) := by
  simp only [← pay4_apply]
  pointwise [k0_pay5]

variable (m : (ℓ : Loc nD τ sig) → Buf (Elt Ideal) ℓ) (c : Dev nD)

theorem host_ga (k : Fin 1024) : V m c main_v5 (ix2 0 k) = m ((c : Thread nD τ).loc main_arg4) (ix1 k) := by
  unfold V
  after_reads_at

theorem host_gf (k : Fin 2048) : V m c main_v6 (ix2 0 k) = m ((c : Thread nD τ).loc main_arg5) (ix1 k) := by
  unfold V
  after_reads_at

theorem host_w (k q : Fin 2048) : V m c main_v4 (ix2 k q) = m ((c : Thread nD τ).loc main_arg6) (ix2 k q) := by
  unfold V
  after_reads_at

theorem host_high (k : Fin 2048) (e : Fin 256) : V m c main_v0 (ix2 k e) = m ((c : Thread nD τ).loc main_arg7) (ix2 k e) := by
  unfold V
  after_reads_at

/-- The low part of the router's weight. -/
def lowPart (x : EReal) : EReal := x - x

theorem host_low (k : Fin 2048) (e : Fin 256) : V m c main_v3 (ix2 k e) = lowPart (m ((c : Thread nD τ).loc main_arg7) (ix2 k e)) := by
  unfold V
  after_reads_at
  rfl

theorem points : cfg0.N = 64 := rfl

theorem at0 : ∀ t : Fin cfg0.N, win0_0.index t = ![t.val, 0] := (by decide +kernel : ∀ t : Fin grid0.N, _)
theorem at1 : ∀ t : Fin cfg0.N, win0_1.index t = ![t.val, 0] := (by decide +kernel : ∀ t : Fin grid0.N, _)
theorem at2 : ∀ t : Fin cfg0.N, win0_2.index t = ![t.val, 0] := (by decide +kernel : ∀ t : Fin grid0.N, _)
theorem at3 : ∀ t : Fin cfg0.N, win0_3.index t = ![t.val / 16, 0, 0] := (by decide +kernel : ∀ t : Fin grid0.N, _)
theorem at4 : ∀ t : Fin cfg0.N, win0_4.index t = ![0, 0] := (by decide +kernel : ∀ t : Fin grid0.N, _)
theorem at5 : ∀ t : Fin cfg0.N, win0_5.index t = ![0, 0] := (by decide +kernel : ∀ t : Fin grid0.N, _)
theorem at6 : ∀ t : Fin cfg0.N, win0_6.index t = ![0, 0] := (by decide +kernel : ∀ t : Fin grid0.N, _)
theorem at7 : ∀ t : Fin cfg0.N, win0_7.index t = ![0, 0] := (by decide +kernel : ∀ t : Fin grid0.N, _)
theorem at8 : ∀ t : Fin cfg0.N, win0_8.index t = ![0, 0] := (by decide +kernel : ∀ t : Fin grid0.N, _)
theorem at9 : ∀ t : Fin cfg0.N, win0_9.index t = ![t.val, 0] := (by decide +kernel : ∀ t : Fin grid0.N, _)
theorem at11 : ∀ t : Fin cfg0.N, win0_11.index t = ![t.val, 0] := (by decide +kernel : ∀ t : Fin grid0.N, _)
theorem at10 : ∀ t : Fin cfg0.N, win0_10.index t = ![t.val, 0] := (by decide +kernel : ∀ t : Fin grid0.N, _)

/-- The array row of row `r` of grid point `t`'s blocks. -/
def rowAt (t : Fin cfg0.N) (r : Fin 256) : Fin 16384 :=
  ⟨256 * t.val + r.val, by have := t.isLt; have := points; omega⟩

theorem blk0 (t : Fin cfg0.N) (r : Fin 256) (k : Fin 2048) : iblk m c 0 t (ix2 r k) = m ((c : Thread nD τ).loc main_arg0) (ix2 (rowAt t r) k) := by
  rw [← V_main_arg0 m c]
  unfold rowAt
  blk_ext [iblk, at0]

theorem blk1 (t : Fin cfg0.N) (r : Fin 256) (k : Fin 1024) : iblk m c 1 t (ix2 r k) = m ((c : Thread nD τ).loc main_arg1) (ix2 (rowAt t r) k) := by
  rw [← V_main_arg1 m c]
  unfold rowAt
  blk_ext [iblk, at1]

theorem blk2 (t : Fin cfg0.N) (r : Fin 256) (k : Fin 1024) : iblk m c 2 t (ix2 r k) = m ((c : Thread nD τ).loc main_arg2) (ix2 (rowAt t r) k) := by
  rw [← V_main_arg2 m c]
  unfold rowAt
  blk_ext [iblk, at2]

theorem blk3 (t : Fin cfg0.N) (a : Fin 6) (k : Fin 2048) :
    iblk m c 3 t (ix3 0 a k) = m ((c : Thread nD τ).loc main_arg3) (ix3 ⟨t.val / 16, by have := t.isLt; have := points; omega⟩ a k) := by
  rw [← V_main_arg3 m c]
  blk_ext [iblk, at3]

theorem blk4 (t : Fin cfg0.N) (k : Fin 1024) : iblk m c 4 t (ix2 0 k) = m ((c : Thread nD τ).loc main_arg4) (ix1 k) := by
  rw [← host_ga m c]
  blk_ext [iblk, at4]

theorem blk5 (t : Fin cfg0.N) (k : Fin 2048) : iblk m c 5 t (ix2 0 k) = m ((c : Thread nD τ).loc main_arg5) (ix1 k) := by
  rw [← host_gf m c]
  blk_ext [iblk, at5]

theorem blk6 (t : Fin cfg0.N) (k q : Fin 2048) : iblk m c 6 t (ix2 k q) = m ((c : Thread nD τ).loc main_arg6) (ix2 k q) := by
  rw [← host_w m c]
  blk_ext [iblk, at6]

theorem blk7 (t : Fin cfg0.N) (k : Fin 2048) (e : Fin 256) : iblk m c 7 t (ix2 k e) = m ((c : Thread nD τ).loc main_arg7) (ix2 k e) := by
  rw [← host_high m c]
  blk_ext [iblk, at7]

theorem blk8 (t : Fin cfg0.N) (k : Fin 2048) (e : Fin 256) : iblk m c 8 t (ix2 k e) = lowPart (m ((c : Thread nD τ).loc main_arg7) (ix2 k e)) := by
  rw [← host_low m c]
  blk_ext [iblk, at8]

/-- The kernel's row `R` after the mixer, from the arguments. -/
def rowOf (R : Fin 16384) (q : Fin 2048) : EReal :=
  residual (fun k => m ((c : Thread nD τ).loc main_arg0) (ix2 R k)) (fun k => m ((c : Thread nD τ).loc main_arg1) (ix2 R k)) (fun k => m ((c : Thread nD τ).loc main_arg2) (ix2 R k))
    (fun k => m ((c : Thread nD τ).loc main_arg4) (ix1 k)) (fun k q => m ((c : Thread nD τ).loc main_arg6) (ix2 k q))
    (fun k => m ((c : Thread nD τ).loc main_arg3) (ix3 ⟨R.val / 4096, by omega⟩ 2 k)) q

theorem seq_eq (t : Fin cfg0.N) (r : Fin 256) : (⟨(rowAt t r).val / 4096, by omega⟩ : Fin 4)
    = ⟨t.val / 16, by have := t.isLt; have := points; omega⟩ :=
  Fin.ext (by show (256 * t.val + r.val) / 4096 = t.val / 16; omega)

/-- One row of the modulation's block, as the body loads it. -/
theorem mod_row (x : Vec Ideal S1x6x2048 .f32) (a : Fin 6)
    (h : ∀ j, (![0, a.val, 0] : Fin 3 → ℕ) j + (![1, 1, 2048] : Fin 3 → ℕ) j ≤ S1x6x2048.size j) (k : Fin 2048) :
    View.ld x (Rect.unit ![0, a.val, 0] ![1, 1, 2048] h) (ix3 0 0 k) = x (ix3 0 a k) := by
  refine congrArg x (funext fun j => ?_)
  fin_cases j
  · rfl
  · exact Fin.ext (by show a.val + 1 * 0 = a.val; omega)
  · exact Fin.ext (by show 0 + 1 * k.val = k.val; omega)

/-- The upper half of the weight's block, as the body loads it, -/
theorem upper (x : Vec Ideal S2048x2048 .bf16) (k : Fin 1024) (q : Fin 2048) :
    View.ld x r0_2 (ix2 k q) = x (ix2 ⟨k.val, by omega⟩ q) := by
  refine congrArg x (funext fun j => ?_)
  fin_cases j
  · exact Fin.ext (by show 0 + 1 * k.val = k.val; omega)
  · exact Fin.ext (by show 0 + 1 * q.val = q.val; omega)

/-- and the lower half. -/
theorem lower (x : Vec Ideal S2048x2048 .bf16) (k : Fin 1024) (q : Fin 2048) :
    View.ld x r0_3 (ix2 k q) = x (ix2 ⟨1024 + k.val, by omega⟩ q) := by
  refine congrArg x (funext fun j => ?_)
  fin_cases j
  · exact Fin.ext (by show 1024 + 1 * k.val = 1024 + k.val; omega)
  · exact Fin.ext (by show 0 + 1 * q.val = q.val; omega)

/-- The rows after the mixer that grid point `t` computes. -/
def rowsAt (t : Fin cfg0.N) : FVec Ideal S256x2048 .f32 :=
  k0_pay1 (iblk m c 2 t) (iblk m c 4 t) (iblk m c 1 t) (View.ld (iblk m c 6 t) r0_2) (View.ld (iblk m c 6 t) r0_3)
    (iblk m c 0 t) (View.ld (iblk m c 3 t) r0_5)

theorem rowsAt_apply (t : Fin cfg0.N) (r : Fin 256) (q : Fin 2048) : rowsAt m c t (ix2 r q) = rowOf m c (rowAt t r) q := by
  have e2 : ∀ k, View.ld (iblk m c 3 t) r0_5 (ix3 0 0 k) = _ := mod_row (iblk m c 3 t) 2 inb_S1x6x2048_S1x1x2048_0_2_0
  unfold rowsAt
  rw [pay1_apply]
  unfold rowOf residual
  simp only [blk0, blk1, blk2, blk4, seq_eq, e2, blk3]
  exact congrArg₂ (· + ·) rfl (congrArg₂ (· * ·) rfl (congrArg₂ (· + ·)
    (Finset.sum_congr rfl fun k _ => congrArg₂ (· * ·) rfl ((upper _ k q).trans (blk6 m c t _ q)))
    (Finset.sum_congr rfl fun k _ => congrArg₂ (· * ·) rfl ((lower _ k q).trans (blk6 m c t _ q)))))

/-- What grid point `t` writes back to the first output, at an entry, -/
theorem first_block (t : Fin cfg0.N) (r : Fin 256) (q : Fin 2048) :
    out0_9 (iblk m c 0 t) (iblk m c 1 t) (iblk m c 2 t) (iblk m c 3 t) (iblk m c 4 t) (iblk m c 5 t) (iblk m c 6 t) (iblk m c 7 t) (iblk m c 8 t) (ix2 r q)
      = rowOf m c (rowAt t r) q := by
  unfold_out out0_9
  frame_out
  exact rowsAt_apply m c t r q

/-- The modulated norm of the kernel's row `R`, from the arguments. -/
def nextOf (R : Fin 16384) (q : Fin 2048) : EReal :=
  hidden (rowOf m c R) (fun k => m ((c : Thread nD τ).loc main_arg5) (ix1 k))
    (fun k => m ((c : Thread nD τ).loc main_arg3) (ix3 ⟨R.val / 4096, by omega⟩ 4 k))
    (fun k => m ((c : Thread nD τ).loc main_arg3) (ix3 ⟨R.val / 4096, by omega⟩ 3 k)) q

/-- and to the second. -/
theorem second_block (t : Fin cfg0.N) (r : Fin 256) (q : Fin 2048) :
    out0_10 (iblk m c 0 t) (iblk m c 1 t) (iblk m c 2 t) (iblk m c 3 t) (iblk m c 4 t) (iblk m c 5 t) (iblk m c 6 t) (iblk m c 7 t) (iblk m c 8 t) (ix2 r q)
      = nextOf m c (rowAt t r) q := by
  have e4 : ∀ k, View.ld (iblk m c 3 t) r0_7 (ix3 0 0 k) = _ := mod_row (iblk m c 3 t) 4 inb_S1x6x2048_S1x1x2048_0_4_0
  have e3 : ∀ k, View.ld (iblk m c 3 t) r0_8 (ix3 0 0 k) = _ := mod_row (iblk m c 3 t) 3 inb_S1x6x2048_S1x1x2048_0_3_0
  unfold_out out0_10
  frame_out
  refine (pay4_apply (rowsAt m c t) (iblk m c 5 t) (View.ld (iblk m c 3 t) r0_7) (View.ld (iblk m c 3 t) r0_8) r q).trans ?_
  unfold nextOf
  simp only [e4, e3, blk3, blk5, seq_eq, rowsAt_apply]

/-- The logits of the kernel's row `R`, from the arguments, as the call forms them. -/
def logitsOf (R : Fin 16384) (e : Fin 256) : EReal :=
  parts (nextOf m c R) (fun k => m ((c : Thread nD τ).loc main_arg7) (ix2 k e))

/-- And to the third. -/
theorem third_block (t : Fin cfg0.N) (r : Fin 256) (e : Fin 256) :
    out0_11 (iblk m c 0 t) (iblk m c 1 t) (iblk m c 2 t) (iblk m c 3 t) (iblk m c 4 t) (iblk m c 5 t) (iblk m c 6 t) (iblk m c 7 t) (iblk m c 8 t) (ix2 r e)
      = logitsOf m c (rowAt t r) e := by
  have e4 : ∀ k, View.ld (iblk m c 3 t) r0_7 (ix3 0 0 k) = _ := mod_row (iblk m c 3 t) 4 inb_S1x6x2048_S1x1x2048_0_4_0
  have e3 : ∀ k, View.ld (iblk m c 3 t) r0_8 (ix3 0 0 k) = _ := mod_row (iblk m c 3 t) 3 inb_S1x6x2048_S1x1x2048_0_3_0
  unfold_out out0_11
  frame_out
  refine (pay5_apply (rowsAt m c t) (iblk m c 5 t) (View.ld (iblk m c 3 t) r0_7) (View.ld (iblk m c 3 t) r0_8) (iblk m c 7 t) (iblk m c 8 t) r e).trans ?_
  unfold logitsOf parts nextOf
  simp only [e4, e3, blk3, blk5, blk7, blk8, seq_eq, rowsAt_apply, lowPart]

/-- The kernel's first output array after the run, -/
theorem first_array : (dats m 0 c).arrAt 9 cfg0.N = fun i : S16384x2048.Idx => rowOf m c (i 0) (i 1) := by
  refine (dats m 0 c).arrAt_eq_of_covers 9 _ (by decide +kernel) fun t hf y => ?_
  blk_simp
  rw [after0_9]
  idx_vars y
  rw [first_block]
  have e0 : (win0_9.blk t).view.emb (ix2 y0 y1) 0 = rowAt t y0 := by
    refine Fin.ext ?_
    show _ = 256 * t.val + y0.val
    blk_simp [at9]
    try omega
  have e1 : (win0_9.blk t).view.emb (ix2 y0 y1) 1 = (y1 : Fin 2048) := by
    refine Fin.ext ?_
    show _ = y1.val
    blk_simp [at9]
    try omega
  rw [e0, e1]

/-- and its second. -/
theorem second_array : (dats m 0 c).arrAt 10 cfg0.N = fun i : S16384x2048.Idx => nextOf m c (i 0) (i 1) := by
  refine (dats m 0 c).arrAt_eq_of_covers 10 _ (by decide +kernel) fun t hf y => ?_
  blk_simp
  rw [after0_10]
  idx_vars y
  rw [second_block]
  have e0 : (win0_10.blk t).view.emb (ix2 y0 y1) 0 = rowAt t y0 := by
    refine Fin.ext ?_
    show _ = 256 * t.val + y0.val
    blk_simp [at10]
    try omega
  have e1 : (win0_10.blk t).view.emb (ix2 y0 y1) 1 = (y1 : Fin 2048) := by
    refine Fin.ext ?_
    show _ = y1.val
    blk_simp [at10]
    try omega
  rw [e0, e1]

/-- And its third. -/
theorem third_array : (dats m 0 c).arrAt 11 cfg0.N = fun i : S16384x256.Idx => logitsOf m c (i 0) (i 1) := by
  refine (dats m 0 c).arrAt_eq_of_covers 11 _ (by decide +kernel) fun t hf y => ?_
  blk_simp
  rw [after0_11]
  idx_vars y
  rw [third_block]
  have e0 : (win0_11.blk t).view.emb (ix2 y0 y1) 0 = rowAt t y0 := by
    refine Fin.ext ?_
    show _ = 256 * t.val + y0.val
    blk_simp [at11]
    try omega
  have e1 : (win0_11.blk t).view.emb (ix2 y0 y1) 1 = (y1 : Fin 256) := by
    refine Fin.ext ?_
    show _ = y1.val
    blk_simp [at11]
    try omega
  rw [e0, e1]

end Cert.Outproj
-- ==== Proof.OutprojReference.lean ====
module

public import proofs.«01_k».proof.Proof.Gen.Reference3Ideal.Run
public import proofs.«01_k».proof.Proof.OutprojSpec

@[expose] public section

set_option maxRecDepth 8192

/-!
The out-projection's reference at an entry, for each of its results.
-/

noncomputable section

namespace Cert.Outproj

open Idealize.ShloMosaic Cert.Reference3Ideal Cert.Reference3Ideal.Gen Cert.Reference3Ideal.Value
open Cert.Inproj (hidden)

variable (m : (ℓ : Loc nD τ sig) → Buf (Elt Ideal) ℓ) (c : Dev nD)

/-- The reference's row norm of the attention channels. -/
def refNorm : FVec Ideal S16384x1024 .f32 :=
  (mulf (mulf (m ((c.tc : Thread nD τ).loc main_arg2)) (broadcastInDim S16384x1024 ![0, 1] bcast_S16384x1_S16384x1024_0_1 (Host.rsqrt (addf (Host.divf (broadcastInDim S16384x1 ![0] bcast_S16384_S16384x1_0 (Host.reduceAdd (mulf (m ((c.tc : Thread nD τ).loc main_arg2)) (m ((c.tc : Thread nD τ).loc main_arg2))) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32)))))) (broadcastInDim S16384x1024 ![0, 1] bcast_S1x1024_S16384x1024_0_1 (broadcastInDim S1x1024 ![1] bcast_S1024_S1x1024_1 (m ((c.tc : Thread nD τ).loc main_arg4)))))

/-- Both mixers' channels side by side. -/
def refCat : FVec Ideal S16384x2048 .f32 :=
  (concatenate S16384x2048 1 [⟨S16384x1024, ((extf .f32 (m ((c.tc : Thread nD τ).loc main_arg1)) bitsLt_bf16_f32 : FVec Ideal S16384x1024 .f32) : (⟨S16384x1024, .f32⟩ : BufTy).Contents (Elt Ideal))⟩, ⟨S16384x1024, (refNorm m c : (⟨S16384x1024, .f32⟩ : BufTy).Contents (Elt Ideal))⟩] concatenates_S16384x1024_S16384x1024_S16384x2048_d1)

/-- The reference's rows after the mixer, sequence by sequence. -/
def refRows : FVec Ideal S4x4096x2048 .f32 :=
  addf (shapeCast S4x4096x2048 (m ((c.tc : Thread nD τ).loc main_arg0)) shapeCasts_S16384x2048_S4x4096x2048) (mulf (broadcastInDim S4x4096x2048 ![0, 1, 2] bcast_S4x1x2048_S4x4096x2048_0_1_2 (extractStridedSlice S4x1x2048 ![0, 2, 0] (m ((c.tc : Thread nD τ).loc main_arg3)) slices_S4x6x2048_S4x1x2048_0_2_0)) (shapeCast S4x4096x2048 (Host.dotGeneral (φ₁ := .f32) (φ₂ := .f32) dot_S16384x2048_S2048x2048_S16384x2048_1_0_0_1_n_n none (refCat m c) (m ((c.tc : Thread nD τ).loc main_arg6) : FVec Ideal S2048x2048 .f32)) shapeCasts_S16384x2048_S4x4096x2048))

/-- The reference's modulated norm of the rows `X`. -/
def refTail (X : FVec Ideal S4x4096x2048 .f32) : FVec Ideal S16384x2048 .f32 :=
  shapeCast S16384x2048 (addf (mulf (mulf (mulf X (broadcastInDim S4x4096x2048 ![0, 1, 2] bcast_S4x4096x1_S4x4096x2048_0_1_2 (Host.rsqrt (addf (Host.divf (broadcastInDim S4x4096x1 ![0, 1] bcast_S4x4096_S4x4096x1_0_1 (Host.reduceAdd (mulf X X) (constant S_ .f32 0x00000000#32) reducesTo_S4x4096x2048_S4x4096_d2 h_S_)) (broadcastInDim S4x4096x1 ![] bcast_S_S4x4096x1 (constant S_ .f32 0x45000000#32))) (broadcastInDim S4x4096x1 ![] bcast_S_S4x4096x1 (constant S_ .f32 0x358637BD#32)))))) (broadcastInDim S4x4096x2048 ![0, 1, 2] bcast_S1x1x2048_S4x4096x2048_0_1_2 (broadcastInDim S1x1x2048 ![2] bcast_S2048_S1x1x2048_2 (m ((c.tc : Thread nD τ).loc main_arg5))))) (broadcastInDim S4x4096x2048 ![0, 1, 2] bcast_S4x1x2048_S4x4096x2048_0_1_2 (addf (broadcastInDim S4x1x2048 ![] bcast_S_S4x1x2048 (constant S_ .f32 0x3F800000#32)) (extractStridedSlice S4x1x2048 ![0, 4, 0] (m ((c.tc : Thread nD τ).loc main_arg3)) slices_S4x6x2048_S4x1x2048_0_4_0)))) (broadcastInDim S4x4096x2048 ![0, 1, 2] bcast_S4x1x2048_S4x4096x2048_0_1_2 (extractStridedSlice S4x1x2048 ![0, 3, 0] (m ((c.tc : Thread nD τ).loc main_arg3)) slices_S4x6x2048_S4x1x2048_0_3_0))) shapeCasts_S4x4096x2048_S16384x2048

theorem res_eq : res_main_v44 m c = refTail m c (refRows m c) := by
  unfold res_main_v44
  rfl

theorem logits_eq : res_main_v46 m c
    = Host.dotGeneral (φ₁ := .f32) (φ₂ := .f32) dot_S16384x2048_S2048x256_S16384x256_1_0_0_1_n_n none (refTail m c (refRows m c)) (m ((c.tc : Thread nD τ).loc main_arg7) : FVec Ideal S2048x256 .f32) := by
  unfold res_main_v46
  rfl

theorem refNorm_apply (r : Fin 16384) (k : Fin 1024) : refNorm m c (ix2 r k)
    = normed (fun k => m ((c.tc : Thread nD τ).loc main_arg2) (ix2 r k)) (fun k => m ((c.tc : Thread nD τ).loc main_arg4) (ix1 k)) k := by
  pointwise [refNorm]
  rfl

theorem refCat_left (r : Fin 16384) (k : Fin 1024) : refCat m c (ix2 r ⟨k.val, by omega⟩) = m ((c.tc : Thread nD τ).loc main_arg1) (ix2 r k) := by
  pointwise [refCat]

theorem refCat_right (r : Fin 16384) (k : Fin 1024) : refCat m c (ix2 r ⟨1024 + k.val, by omega⟩)
    = normed (fun k => m ((c.tc : Thread nD τ).loc main_arg2) (ix2 r k)) (fun k => m ((c.tc : Thread nD τ).loc main_arg4) (ix1 k)) k := by
  rw [← refNorm_apply]
  pointwise [refCat]

/-- A sum over 2048 channels is the sum over the first half plus the sum over the second. -/
theorem sum_halves (h : Fin 2048 → EReal) :
    ∑ k, h k = ∑ k : Fin 1024, h ⟨k.val, by omega⟩ + ∑ k : Fin 1024, h ⟨1024 + k.val, by omega⟩ :=
  Fin.sum_univ_add (a := 1024) (b := 1024) h

/-- The reference's row `r` after the mixer, from the arguments. -/
def refRow (r : Fin 16384) (q : Fin 2048) : EReal :=
  residual (fun k => m ((c.tc : Thread nD τ).loc main_arg0) (ix2 r k)) (fun k => m ((c.tc : Thread nD τ).loc main_arg1) (ix2 r k)) (fun k => m ((c.tc : Thread nD τ).loc main_arg2) (ix2 r k))
    (fun k => m ((c.tc : Thread nD τ).loc main_arg4) (ix1 k)) (fun k q => m ((c.tc : Thread nD τ).loc main_arg6) (ix2 k q))
    (fun k => m ((c.tc : Thread nD τ).loc main_arg3) (ix3 ⟨r.val / 4096, by omega⟩ 2 k)) q

/-- A gated product over 2048 channels added to an entry. -/
def gated (x gate : EReal) (f w : Fin 2048 → EReal) : EReal := x + gate * ∑ k, f k * w k

/-- The rows as sequences, at an entry. -/
theorem rows_at (X : FVec Ideal S16384x2048 .f32) (b : Fin 4) (s : Fin 4096) (q : Fin 2048) :
    shapeCast S4x4096x2048 X shapeCasts_S16384x2048_S4x4096x2048 (ix3 b s q) = X (ix2 ⟨b.val * 4096 + s.val, by omega⟩ q) := by
  pointwise []

theorem gate_at (X : FVec Ideal S4x6x2048 .f32) (b : Fin 4) (s : Fin 4096) (q : Fin 2048) :
    broadcastInDim S4x4096x2048 ![0, 1, 2] bcast_S4x1x2048_S4x4096x2048_0_1_2 (extractStridedSlice S4x1x2048 ![0, 2, 0] X slices_S4x6x2048_S4x1x2048_0_2_0) (ix3 b s q)
      = X (ix3 b 2 q) := by
  pointwise []

theorem product_at (X : FVec Ideal S16384x2048 .f32) (W : FVec Ideal S2048x2048 .f32) (r : Fin 16384) (q : Fin 2048) :
    Host.dotGeneral (φ₁ := .f32) (φ₂ := .f32) dot_S16384x2048_S2048x2048_S16384x2048_1_0_0_1_n_n none X W (ix2 r q)
      = ∑ k : Fin 2048, X (ix2 r k) * W (ix2 k q) := by
  pointwise []

theorem refRows_at (b : Fin 4) (s : Fin 4096) (r : Fin 16384) (h : b.val * 4096 + s.val = r.val) (q : Fin 2048) :
    refRows m c (ix3 b s q) = gated (m ((c.tc : Thread nD τ).loc main_arg0) (ix2 r q)) (m ((c.tc : Thread nD τ).loc main_arg3) (ix3 b 2 q))
      (fun k => refCat m c (ix2 r k)) (fun k => m ((c.tc : Thread nD τ).loc main_arg6) (ix2 k q)) := by
  have e : (⟨b.val * 4096 + s.val, by omega⟩ : Fin 16384) = r := Fin.ext h
  rw [← e]
  exact congrArg₂ (· + ·) (rows_at _ b s q) (congrArg₂ (· * ·) (gate_at _ b s q) ((rows_at _ b s q).trans (product_at _ _ _ q)))

theorem refRows_apply (r : Fin 16384) (q : Fin 2048) :
    refRows m c (ix3 ⟨r.val / 4096, by omega⟩ ⟨r.val % 4096, by omega⟩ q) = refRow m c r q := by
  rw [refRows_at m c _ _ r (by show r.val / 4096 * 4096 + r.val % 4096 = r.val; omega), gated, sum_halves]
  simp only [refCat_left, refCat_right]
  rfl

theorem refTail_apply (X : FVec Ideal S4x4096x2048 .f32) (r : Fin 16384) (q : Fin 2048) : refTail m c X (ix2 r q)
    = hidden (fun k => X (ix3 ⟨r.val / 4096, by omega⟩ ⟨r.val % 4096, by omega⟩ k)) (fun k => m ((c.tc : Thread nD τ).loc main_arg5) (ix1 k))
        (fun k => m ((c.tc : Thread nD τ).loc main_arg3) (ix3 ⟨r.val / 4096, by omega⟩ 4 k))
        (fun k => m ((c.tc : Thread nD τ).loc main_arg3) (ix3 ⟨r.val / 4096, by omega⟩ 3 k)) q := by
  pointwise [refTail]
  rfl

/-- The reference's first result at row `r`, column `q`. -/
theorem first_apply (r : Fin 16384) (q : Fin 2048) :
    shapeCast S16384x2048 (refRows m c) shapeCasts_S4x4096x2048_S16384x2048 (ix2 r q) = refRow m c r q := by
  rw [← refRows_apply]
  pointwise []

/-- The reference's row `r` after the second norm, from the arguments. -/
def refNext (r : Fin 16384) (q : Fin 2048) : EReal :=
  hidden (refRow m c r) (fun k => m ((c.tc : Thread nD τ).loc main_arg5) (ix1 k))
    (fun k => m ((c.tc : Thread nD τ).loc main_arg3) (ix3 ⟨r.val / 4096, by omega⟩ 4 k))
    (fun k => m ((c.tc : Thread nD τ).loc main_arg3) (ix3 ⟨r.val / 4096, by omega⟩ 3 k)) q

/-- The reference's second result at row `r`, column `q`. -/
theorem second_apply (r : Fin 16384) (q : Fin 2048) : res_main_v44 m c (ix2 r q) = refNext m c r q := by
  rw [res_eq, refTail_apply]
  simp only [refRows_apply]
  rfl

theorem logits_at (X : FVec Ideal S16384x2048 .f32) (W : FVec Ideal S2048x256 .f32) (r : Fin 16384) (e : Fin 256) :
    Host.dotGeneral (φ₁ := .f32) (φ₂ := .f32) dot_S16384x2048_S2048x256_S16384x256_1_0_0_1_n_n none X W (ix2 r e)
      = ∑ k : Fin 2048, X (ix2 r k) * W (ix2 k e) := by
  pointwise []

/-- The plain product of two rows of 2048 numbers. -/
def product (h w : Fin 2048 → EReal) : EReal := ∑ k, h k * w k

/-- The reference's third result at row `r`, expert `e`. -/
theorem third_apply (r : Fin 16384) (e : Fin 256) : res_main_v46 m c (ix2 r e)
    = product (refNext m c r) (fun k => m ((c.tc : Thread nD τ).loc main_arg7) (ix2 k e)) := by
  rw [logits_eq, ← res_eq]
  refine (logits_at _ _ r e).trans ?_
  simp only [second_apply]
  rfl

end Cert.Outproj
-- ==== Proof.OutprojMask.lean ====
module

public import proofs.«01_k».proof.Proof.OutprojFinite
public import proofs.«01_k».proof.Proof.Ranges
public import proofs.«01_k».proof.On_finite_logits
public import proofs.«01_k».proof.Proof.Gen.On_finite_logits

@[expose] public section

set_option maxRecDepth 8192

/-!
# The mask of the logits, read

At a logit that `finite_logits` selects, the row's inputs, the modulation, the gains and the weights are real.
-/

noncomputable section

namespace Cert.Outproj

open Idealize.ShloMosaic
open Cert.Experts (and_one of_ofBool)

theorem inf_f32 : Ideal.ofBits .f32 0x7F800000#32 = ⊤ := by
  simp [Ideal.ofBits, Ideal.ieee]

theorem inf_bf16 : Ideal.ofBits .bf16 0x7F80#16 = ⊤ := by
  simp [Ideal.ofBits, Ideal.ieee]

/-- The comparison of a magnitude with the infinity, read, -/
theorem below_f32 {x : EReal} (h : BitVec.ofBool (decide (max x (-x) < Ideal.ofBits .f32 0x7F800000#32)) = 1#1) : IsReal x := by
  rw [inf_f32] at h
  exact isReal_of_lt (of_ofBool h)

/-- and for the half-width format. -/
theorem below_bf16 {x : EReal} (h : BitVec.ofBool (decide (max x (-x) < Ideal.ofBits .bf16 0x7F80#16)) = 1#1) : IsReal x := by
  rw [inf_bf16] at h
  exact isReal_of_lt (of_ofBool h)

/-- What the mask says of a selected logit. -/
theorem selected (x : FVec Ideal ⟨2, ![16384, 2048]⟩ .f32) (f : FVec Ideal ⟨2, ![16384, 1024]⟩ .bf16) (a : FVec Ideal ⟨2, ![16384, 1024]⟩ .f32)
    (md : FVec Ideal ⟨3, ![4, 6, 2048]⟩ .f32) (ga : FVec Ideal ⟨1, ![1024]⟩ .f32) (gf : FVec Ideal ⟨1, ![2048]⟩ .f32)
    (w : FVec Ideal ⟨2, ![2048, 2048]⟩ .f32) (wr : FVec Ideal ⟨2, ![2048, 256]⟩ .f32) (i : (⟨2, ![16384, 256]⟩ : Shape).Idx)
    (h : (Cert.On_finite_logits.fn x f a md ga gf w wr).2.2 i = 1#1) :
    (∀ k : Fin 2048, IsReal (x (ix2 (i 0) k))) ∧ (∀ k : Fin 1024, IsReal (f (ix2 (i 0) k))) ∧ (∀ k : Fin 1024, IsReal (a (ix2 (i 0) k)))
      ∧ (∀ j, IsReal (md j)) ∧ (∀ j, IsReal (ga j)) ∧ (∀ j, IsReal (gf j)) ∧ (∀ j, IsReal (w j)) ∧ (∀ j, IsReal (wr j)) := by
  obtain ⟨hr, hs⟩ := and_one h
  obtain ⟨hr, h2⟩ := and_one hr
  obtain ⟨h0, h1⟩ := and_one hr
  obtain ⟨hs, h7⟩ := and_one hs
  obtain ⟨hs, h6⟩ := and_one hs
  obtain ⟨hs, h5⟩ := and_one hs
  obtain ⟨h3, h4⟩ := and_one hs
  haveI : Subsingleton (Cert.On_finite_logits.S_).Idx := ⟨fun a b => funext fun i => i.elim0⟩
  refine ⟨fun k => ?_, fun k => ?_, fun k => ?_, fun j => ?_, fun j => ?_, fun j => ?_, fun j => ?_, fun j => ?_⟩
  · exact below_f32 (Host.reduce_andi_eq_one _ _ _ _ _ h0 (ix2 (i 0) k) (funext fun b => by fin_cases b; rfl))
  · exact below_bf16 (Host.reduce_andi_eq_one _ _ _ _ _ h1 (ix2 (i 0) k) (funext fun b => by fin_cases b; rfl))
  · exact below_f32 (Host.reduce_andi_eq_one _ _ _ _ _ h2 (ix2 (i 0) k) (funext fun b => by fin_cases b; rfl))
  · exact below_f32 (Host.reduce_andi_all _ _ _ _ _ h3 j)
  · exact below_f32 (Host.reduce_andi_all _ _ _ _ _ h4 j)
  · exact below_f32 (Host.reduce_andi_all _ _ _ _ _ h5 j)
  · exact below_f32 (Host.reduce_andi_all _ _ _ _ _ h6 j)
  · exact below_f32 (Host.reduce_andi_all _ _ _ _ _ h7 j)

end Cert.Outproj
-- ==== Proof.OutprojClaims.lean ====
module

public import proofs.«01_k».proof.Defs
public import proofs.«01_k».proof.Proof.Gen.Kernel3.Frame
public import proofs.«01_k».proof.Proof.OutprojValue
public import proofs.«01_k».proof.Proof.OutprojReference
public import proofs.«01_k».proof.Proof.OutprojMask

/-!
# The claims of the out-projection
-/

@[expose] public section

set_option maxRecDepth 16384

noncomputable section

namespace Cert.Outproj

open Idealize.ShloMosaic Idealize.SL.Sem

theorem kernel_quiescent : quiescent_Kernel3 := fun m g _ => Cert.Kernel3.Gen.frame m g

theorem ideal_quiescent : quiescent_Kernel3Ideal := fun m g _ => Cert.Kernel3Ideal.Gen.frame m g

theorem reference_quiescent : quiescent_Reference3Ideal := fun m g _ =>
  (θ_run _ _ _).mono (fun r h => ⟨fun c => (h c).2.2.2, sem_eq_zero_of_no_sems (by decide) r.2⟩) (Cert.Reference3Ideal.Value.run m g)

/-- At a selected logit the kernel's logit is the plain product of the hidden row with the router's weight. -/
theorem logits_plain (m : (ℓ : Loc Cert.Kernel3Ideal.nD Cert.Kernel3Ideal.τ Cert.Kernel3Ideal.sig) → Buf (Elt Ideal) ℓ) (c : Dev Cert.Kernel3Ideal.nD)
    (i : (⟨2, ![16384, 256]⟩ : Shape).Idx)
    (h : (Cert.On_finite_logits.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7))).2.2 i = 1#1) :
    logitsOf m c (i 0) (i 1) = product (nextOf m c (i 0)) (fun k => m ((c.tc : Thread Cert.Kernel3Ideal.nD Cert.Kernel3Ideal.τ).loc Cert.Kernel3Ideal.main_arg7) (ix2 k (i 1))) := by
  obtain ⟨hx, hf, ha, hm, hg, hg2, hw, hr⟩ := selected _ _ _ _ _ _ _ _ i h
  refine parts_eq _ _ (fun k => isReal_hidden _ _ _ _ (fun q => ?_) (fun k => hg2 _) (fun k => hm _) (fun k => hm _) k) fun k => hr _
  exact isReal_residual _ _ _ _ _ _ hx hf ha (fun k => hg _) (fun k q => hw _) (fun k => hm _) q

theorem outproj_algebraic : algebraic_Kernel3Ideal_Reference3Ideal_on_finite_logits := fun m g m' g' _ ha => by
  refine ⟨fun c => (Cert.Kernel3Ideal.Gen.dats m 0 c).arrAt 9 Cert.Kernel3Ideal.cfg0.N,
    fun c => (Cert.Kernel3Ideal.Gen.dats m 0 c).arrAt 10 Cert.Kernel3Ideal.cfg0.N,
    fun c => (Cert.Kernel3Ideal.Gen.dats m 0 c).arrAt 11 Cert.Kernel3Ideal.cfg0.N, ?_, ?_⟩
  · exact (θ_run _ _ _).mono (fun r h c => ⟨fun i _ => congrFun (h c).1 i, fun i _ => congrFun (h c).2.1 i,
      fun i _ => congrFun (h c).2.2.1 i, (h c).2.2.2⟩) (Cert.Kernel3Ideal.Value.run_blocks m g)
  · refine (θ_run _ _ _).mono (fun r h c => ⟨fun i _ => ?_, fun i _ => ?_, fun i hi => ?_, (h c).2.2.2⟩) (Cert.Reference3Ideal.Value.run m' g')
    all_goals
      have hc : c = 0 := Subsingleton.elim _ _
      subst hc
      obtain ⟨a0, a1, a2, a3, a4, a5, a6, a7⟩ := ha 0
      have hx : i = ix2 (i 0) (i 1) := funext fun a => by fin_cases a <;> rfl
    · refine (congrFun (h 0).1 i).trans (Eq.trans ?_ (congrFun (first_array m 0) i).symm)
      refine (congrArg _ hx).trans ((first_apply m' 0 (i 0) (i 1)).trans ?_)
      unfold refRow
      rw [a0, a1, a2, a3, a4, a6]
      rfl
    · refine (congrFun (h 0).2.1 i).trans (Eq.trans ?_ (congrFun (second_array m 0) i).symm)
      refine (congrArg _ hx).trans ((second_apply m' 0 (i 0) (i 1)).trans ?_)
      unfold refNext refRow
      rw [a0, a1, a2, a3, a4, a5, a6]
      rfl
    · refine (congrFun (h 0).2.2.1 i).trans (Eq.trans ?_ (congrFun (third_array m 0) i).symm)
      refine Eq.trans ?_ (logits_plain m 0 i hi).symm
      refine (congrArg _ hx).trans ((third_apply m' 0 (i 0) (i 1)).trans ?_)
      have e : refNext m' 0 (i 0) = nextOf m 0 (i 0) := by
        funext q
        unfold refNext refRow
        rw [a0, a1, a2, a3, a4, a5, a6]
        rfl
      rw [e, a7]

end Cert.Outproj

end
-- ==== Proof.AdalnValue.lean ====
module

public import proofs.«01_k».proof.Proof.Gen.Kernel4Ideal.Frame
public import Idealize.ShloMosaic.Lib.StableHlo.ReadAt
public import Idealize.ShloMosaic.Lib.Pipeline.ValueKit
public import Idealize.ShloMosaic.Lib.Pipeline.ReadBack

@[expose] public section

set_option maxRecDepth 8192

/-!
The modulation kernel's result at a sequence and a column: the payload at an index, the blocks every
grid point reads, the array of eight rows, and its first four rows.
-/

noncomputable section

namespace Cert.Adaln

open Idealize.ShloMosaic Idealize.ShloMosaic.TcCoe Idealize.SL.Sem Cert.Kernel4Ideal Cert.Kernel4Ideal.Gen
open Idealize.ShloMosaic.Pipeline (Dat)

/-- One entry of the modulation: the condition's silu times a column of the weights, plus the bias. -/
def modAt (x w : Fin 2048 → EReal) (b : EReal) : EReal := ∑ k, x k * Ideal.logistic (x k) * w k + b

theorem pay_apply (x : Vec Ideal S8x2048 .f32) (w : Vec Ideal S2048x1024 .f32) (b : Vec Ideal S1x1024 .f32) (r : Fin 8) (q : Fin 1024) :
    k0_pay1 x w b (ix2 r q) = modAt (fun k => x (ix2 r k)) (fun k => w (ix2 k q)) (b (ix2 0 q)) := by
  pointwise [k0_pay1]
  rfl

variable (m : (ℓ : Loc nD τ sig) → Buf (Elt Ideal) ℓ) (c : Dev nD)

/-- The first four of the eight padded rows are the condition's. -/
theorem host_c (b : Fin 4) (k : Fin 2048) :
    V m c main_v0 (ix2 ⟨b.val, by omega⟩ k) = m ((c : Thread nD τ).loc main_arg0) (ix2 b k) := by
  unfold V
  after_reads_at

theorem host_b (q : Fin 12288) : V m c main_v1 (ix2 0 q) = m ((c : Thread nD τ).loc main_arg2) (ix1 q) := by
  unfold V
  after_reads_at

theorem points : cfg0.N = 12 := rfl

theorem at0 : ∀ t : Fin cfg0.N, win0_0.index t = ![0, 0] := (by decide +kernel : ∀ t : Fin grid0.N, _)
theorem at1 : ∀ t : Fin cfg0.N, win0_1.index t = ![0, t.val] := (by decide +kernel : ∀ t : Fin grid0.N, _)
theorem at2 : ∀ t : Fin cfg0.N, win0_2.index t = ![0, t.val] := (by decide +kernel : ∀ t : Fin grid0.N, _)
theorem at3 : ∀ t : Fin cfg0.N, win0_3.index t = ![0, t.val] := (by decide +kernel : ∀ t : Fin grid0.N, _)

/-- The array column of column `q` of grid point `t`'s blocks. -/
def colAt (t : Fin cfg0.N) (q : Fin 1024) : Fin 12288 :=
  ⟨1024 * t.val + q.val, by have := t.isLt; have := points; omega⟩

theorem blk0 (t : Fin cfg0.N) (r : Fin 8) (k : Fin 2048) : iblk m c 0 t (ix2 r k) = V m c main_v0 (ix2 r k) := by
  blk_ext [iblk, at0]

theorem blk1 (t : Fin cfg0.N) (k : Fin 2048) (q : Fin 1024) :
    iblk m c 1 t (ix2 k q) = m ((c : Thread nD τ).loc main_arg1) (ix2 k (colAt t q)) := by
  rw [← V_main_arg1 m c]
  unfold colAt
  blk_ext [iblk, at1]

theorem blk2 (t : Fin cfg0.N) (q : Fin 1024) : iblk m c 2 t (ix2 0 q) = m ((c : Thread nD τ).loc main_arg2) (ix1 (colAt t q)) := by
  rw [← host_b m c]
  unfold colAt
  blk_ext [iblk, at2]

/-- The kernel's entry at padded row `r` and column `q`. -/
def entry (r : Fin 8) (q : Fin 12288) : EReal :=
  modAt (fun k => V m c main_v0 (ix2 r k)) (fun k => m ((c : Thread nD τ).loc main_arg1) (ix2 k q)) (m ((c : Thread nD τ).loc main_arg2) (ix1 q))

/-- What grid point `t` writes back, at an entry. -/
theorem block (t : Fin cfg0.N) (r : Fin 8) (q : Fin 1024) :
    out0_3 (iblk m c 0 t) (iblk m c 1 t) (iblk m c 2 t) (ix2 r q) = entry m c r (colAt t q) := by
  unfold out0_3
  frame_out
  refine (pay_apply (iblk m c 0 t) (iblk m c 1 t) (iblk m c 2 t) r q).trans ?_
  unfold entry
  simp only [blk0, blk1, blk2]

/-- The kernel's output array after the run. -/
theorem array : (dats m 0 c).arrAt 3 cfg0.N = fun i : S8x12288.Idx => entry m c (i 0) (i 1) := by
  refine (dats m 0 c).arrAt_eq_of_covers 3 _ (by decide +kernel) fun t hf y => ?_
  blk_simp
  rw [after0_3]
  idx_vars y
  rw [block]
  have e0 : (win0_3.blk t).view.emb (ix2 y0 y1) 0 = (y0 : Fin 8) := by
    refine Fin.ext ?_
    show _ = y0.val
    blk_simp [at3]
    try omega
  have e1 : (win0_3.blk t).view.emb (ix2 y0 y1) 1 = colAt t y1 := by
    refine Fin.ext ?_
    show _ = 1024 * t.val + y1.val
    blk_simp [at3]
    try omega
  rw [e0, e1]

/-- The slice after the call takes the first four rows of the array. -/
theorem tail_eq : Pipeline.afterTail₀ cfgs (dats m) 0 (V0 m) [hostOps1] c main_v3
    = extractStridedSlice S4x12288 ![0, 0] ((dats m 0 c).arrAt 3 cfg0.N) slices_S8x12288_S4x12288_0_0 := by
  unfold Pipeline.afterTail₀
  have e := Pipeline.withArrays_arr spec0 launch0.win.arr_inj c (V0 m c) (fun w => (dats m 0 c).arrAt w cfg0.N) 3
  rw [← e]
  simp only [hostOps1, List.flatten_cons, List.flatten_nil, List.append_nil]
  after_results

/-- The result at sequence `b` and column `q`. -/
theorem result_apply (b : Fin 4) (q : Fin 12288) :
    Pipeline.afterTail₀ cfgs (dats m) 0 (V0 m) [hostOps1] c main_v3 (ix2 b q)
      = modAt (fun k => m ((c : Thread nD τ).loc main_arg0) (ix2 b k)) (fun k => m ((c : Thread nD τ).loc main_arg1) (ix2 k q)) (m ((c : Thread nD τ).loc main_arg2) (ix1 q)) := by
  rw [tail_eq, array]
  refine (extractStridedSlice_apply ![0, 0] _ slices_S8x12288_S4x12288_0_0 (ix2 b q) (ix2 ⟨b.val, by omega⟩ q) fun a => ?_).trans ?_
  · fin_cases a
    · exact (Nat.zero_add _).symm
    · exact (Nat.zero_add _).symm
  · exact congrArg (fun f => modAt f _ _) (funext fun k => host_c m c b k)

end Cert.Adaln

end
-- ==== Proof.AdalnReference.lean ====
module

public import proofs.«01_k».proof.Proof.Gen.Reference4Ideal.Run
public import proofs.«01_k».proof.Proof.AdalnValue

@[expose] public section

set_option maxRecDepth 8192

/-!
The modulation's reference at a sequence and a column.
-/

noncomputable section

namespace Cert.Adaln

open Idealize.ShloMosaic Cert.Reference4Ideal Cert.Reference4Ideal.Gen

theorem reference_apply (x : FVec Ideal S4x2048 .f32) (w : FVec Ideal S2048x12288 .f32) (b : FVec Ideal S12288 .f32) (s : Fin 4) (q : Fin 12288) :
    addf (Host.dotGeneral (φ₁ := .f32) (φ₂ := .f32) dot_S4x2048_S2048x12288_S4x12288_1_0_0_1_n_n none (mulf x (Host.divf (broadcastInDim S4x2048 ![] bcast_S_S4x2048 (constant S_ .f32 0x3F800000#32)) (addf (broadcastInDim S4x2048 ![] bcast_S_S4x2048 (constant S_ .f32 0x3F800000#32)) (Host.exp (Host.negf x))))) w)
        (broadcastInDim S4x12288 ![0, 1] bcast_S1x12288_S4x12288_0_1 (broadcastInDim S1x12288 ![1] bcast_S12288_S1x12288_1 b)) (ix2 s q)
      = modAt (fun k => x (ix2 s k)) (fun k => w (ix2 k q)) (b (ix1 q)) := by
  pointwise []
  rfl

end Cert.Adaln

end
-- ==== Proof.AdalnClaims.lean ====
module

public import proofs.«01_k».proof.Defs
public import proofs.«01_k».proof.Proof.Gen.Kernel4.Frame
public import proofs.«01_k».proof.Proof.AdalnValue
public import proofs.«01_k».proof.Proof.AdalnReference

/-!
# The claims of the modulation
-/

@[expose] public section

set_option maxRecDepth 16384

noncomputable section

namespace Cert.Adaln

open Idealize.ShloMosaic Idealize.SL.Sem

theorem kernel_quiescent : quiescent_Kernel4 := fun m g _ => Cert.Kernel4.Gen.frame m g

theorem ideal_quiescent : quiescent_Kernel4Ideal := fun m g _ => Cert.Kernel4Ideal.Gen.frame m g

theorem reference_quiescent : quiescent_Reference4Ideal := fun m g _ =>
  (θ_run _ _ _).mono (fun r h => ⟨fun c => (h c).2, sem_eq_zero_of_no_sems (by decide) r.2⟩) (Cert.Reference4Ideal.Value.run m g)

open Cert.Kernel4Ideal Cert.Kernel4Ideal.Gen in
/-- The kernel's run, with its result named. -/
theorem kernel_run (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem ((c.tc : Thread nD τ).loc main_v3) = Pipeline.afterTail₀ cfgs (dats m) 0 (V0 m) [hostOps1] c main_v3
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run _ _ _).mono (fun _ h c => ⟨(h.1 c).2 main_v3 (Pipeline.mem_restRefs_of main_v3 (by decide) (by decide)), h.2 c⟩)
    (θ_run_and (run_main m g) (unchanged m g))

theorem adaln_algebraic : algebraic_Kernel4Ideal_Reference4Ideal := fun m g m' g' _ ha => by
  refine ⟨_, kernel_run m g, ?_⟩
  refine (θ_run _ _ _).mono (fun r h c => ⟨?_, (h c).2⟩) (Cert.Reference4Ideal.Value.run m' g')
  have hc : c = 0 := Subsingleton.elim _ _
  subst hc
  obtain ⟨a0, a1, a2⟩ := ha 0
  refine (h 0).1.trans ?_
  funext i
  have hi : i = ix2 (i 0) (i 1) := funext fun a => by fin_cases a <;> rfl
  refine (congrArg _ hi).trans ((reference_apply _ _ _ (i 0) (i 1)).trans ?_)
  rw [a0, a1, a2]
  exact ((congrArg _ hi).trans (result_apply m 0 (i 0) (i 1))).symm

end Cert.Adaln

end
-- ==== Proof.CombineSpec.lean ====
module

public import proofs.«01_k».proof.Proof.Spec
public import Idealize.ShloMosaic.Lib.Pointwise

@[expose] public section

/-!
The combine call's mathematics, one output entry at a time, over the extended reals: the shared
expert's row plus the weighted sum of the token's eight expert rows, the gated residual, and the
final norm.
-/

noncomputable section

namespace Cert.Combine

open Idealize.ShloMosaic
open Cert.Experts (expertRow)

/-- One entry of a row norm with its weight. -/
def normed (x g : Fin 2048 → EReal) (q : Fin 2048) : EReal :=
  x q * Ideal.rsqrt (Ideal.div (∑ j, x j * x j) (Ideal.ofBits .f32 0x45000000#32)
    + Ideal.ofBits .f32 0x358637BD#32) * g q

/-- One entry of the weighted sum of the token's expert rows and the shared expert's row. -/
def total (rows : Fin 8 → Fin 2048 → EReal) (w : Fin 8 → EReal) (h : Fin 2048 → EReal) (A U : Fin 2048 → Fin 512 → EReal)
    (D : Fin 512 → Fin 2048 → EReal) (q : Fin 2048) : EReal :=
  ∑ k, rows k q * w k + expertRow h A U D q

/-- The same sum in the kernel's order. -/
theorem total_eq (rows : Fin 8 → Fin 2048 → EReal) (w : Fin 8 → EReal) (h : Fin 2048 → EReal) (A U : Fin 2048 → Fin 512 → EReal)
    (D : Fin 512 → Fin 2048 → EReal) (q : Fin 2048) :
    expertRow h A U D q + rows 0 q * w 0 + rows 1 q * w 1 + rows 2 q * w 2 + rows 3 q * w 3 + rows 4 q * w 4 + rows 5 q * w 5
      + rows 6 q * w 6 + rows 7 q * w 7 = total rows w h A U D q := by
  unfold total
  rw [Fin.sum_univ_eight, add_comm _ (expertRow h A U D q)]
  simp only [add_assoc]

/-- A product of two numbers. -/
def times (a b : EReal) : EReal := a * b

/-- A gated number added to a number. -/
def gated (x gate v : EReal) : EReal := x + gate * v

end Cert.Combine

end
-- ==== Proof.CombineValue.lean ====
module

public import proofs.«01_k».proof.Proof.Gen.Kernel5Ideal.Value
public import proofs.«01_k».proof.Proof.CombineSpec
public import Idealize.ShloMosaic.Lib.StableHlo.ReadAt
public import Idealize.ShloMosaic.Lib.Pipeline.ValueKit
public import Idealize.ShloMosaic.Lib.Pipeline.ReadBack

@[expose] public section

set_option maxRecDepth 8192

/-!
The combine kernel's output array at a row and a column: the payloads at an index, the blocks every
grid point reads, and the array.
-/

noncomputable section

namespace Cert.Combine

open Idealize.ShloMosaic Idealize.ShloMosaic.TcCoe Cert.Kernel5Ideal Cert.Kernel5Ideal.Gen
open Idealize.ShloMosaic.Pipeline (Dat)
open Cert.Experts (expertRow)

theorem pay2_apply (h : Vec Ideal S128x2048 .f32) (A U : Vec Ideal S2048x512 .bf16) (D : Vec Ideal S512x2048 .bf16)
    (r0 r1 r2 : Vec Ideal S1x128x2048 .f32) (w0 w1 w2 : Vec Ideal S128x1 .f32) (r : Fin 128) (q : Fin 2048) :
    k0_pay2 h A U D r0 w0 r1 w1 r2 w2 (ix2 r q)
      = expertRow (fun k => h (ix2 r k)) (fun k f => A (ix2 k f)) (fun k f => U (ix2 k f)) (fun f q => D (ix2 f q)) q
        + r0 (ix3 0 r q) * w0 (ix2 r 0) + r1 (ix3 0 r q) * w1 (ix2 r 0) + r2 (ix3 0 r q) * w2 (ix2 r 0) := by
  pointwise [k0_pay2]
  rfl

theorem pay3_apply (X : FVec Ideal S128x2048 .f32)
    (r0 r1 r2 r3 r4 : Vec Ideal S1x128x2048 .f32) (w0 w1 w2 w3 w4 : Vec Ideal S128x1 .f32) (r : Fin 128) (q : Fin 2048) :
    k0_pay3 X r0 w0 r1 w1 r2 w2 r3 w3 r4 w4 (ix2 r q)
      = X (ix2 r q) + r0 (ix3 0 r q) * w0 (ix2 r 0) + r1 (ix3 0 r q) * w1 (ix2 r 0) + r2 (ix3 0 r q) * w2 (ix2 r 0)
        + r3 (ix3 0 r q) * w3 (ix2 r 0) + r4 (ix3 0 r q) * w4 (ix2 r 0) := by
  pointwise [k0_pay3]

theorem pay1_apply (T x : FVec Ideal S128x2048 .f32) (s : Vec Ideal S1x1x2048 .f32) (g : Vec Ideal S1x2048 .f32) (r : Fin 128) (q : Fin 2048) :
    k0_pay1 T x s g (ix2 r q) = normed (fun k => x (ix2 r k) + s (ix3 0 0 k) * T (ix2 r k)) (fun k => g (ix2 0 k)) q := by
  pointwise [k0_pay1]
  rfl

variable (m : (ℓ : Loc nD τ sig) → Buf (Elt Ideal) ℓ) (c : Dev nD)

theorem host_A (k : Fin 2048) (f : Fin 512) : V m c main_v0 (ix2 k f) = m ((c : Thread nD τ).loc main_arg7) (ix2 k f) := by
  unfold V
  after_reads_at

theorem host_U (k : Fin 2048) (f : Fin 512) : V m c main_v1 (ix2 k f) = m ((c : Thread nD τ).loc main_arg8) (ix2 k f) := by
  unfold V
  after_reads_at

theorem host_D (f : Fin 512) (q : Fin 2048) : V m c main_v2 (ix2 f q) = m ((c : Thread nD τ).loc main_arg9) (ix2 f q) := by
  unfold V
  after_reads_at

theorem host_g (k : Fin 2048) : V m c main_v10 (ix2 0 k) = m ((c : Thread nD τ).loc main_arg6) (ix1 k) := by
  unfold V
  after_reads_at

/-- The expert rows of every token, taken through the table. -/
def taken (dest : (⟨S8x16384, .i32⟩ : BufTy).Contents (Elt Ideal)) (ys : FVec Ideal S196608x2048 .f32) : FVec Ideal S8x16384x2048 .f32 :=
  Host.gather gather_S196608x2048_S8x16384x1_S8x16384x2048_2_0_n_n_0_2_12048 ys
    (broadcastInDim S8x16384x1 ![0, 1] bcast_S8x16384_S8x16384x1_0_1
      (select (cmpi .slt dest (broadcastInDim S8x16384 ![] bcast_S_S8x16384 (constantI S_ 32 0#32)))
        (addi dest (broadcastInDim S8x16384 ![] bcast_S_S8x16384 (constantI S_ 32 196608#32))) dest))

theorem host_rows : V m c main_v9 = taken (m ((c : Thread nD τ).loc main_arg0)) (m ((c : Thread nD τ).loc main_arg1)) := by
  unfold V
  simp only [hostOps0]
  after_results
  rfl

theorem points : cfg0.N = 128 := rfl

theorem at0 : ∀ t : Fin cfg0.N, win0_0.index t = ![0, t.val, 0] := (by decide +kernel : ∀ t : Fin grid0.N, _)
theorem at1 : ∀ t : Fin cfg0.N, win0_1.index t = ![t.val, 0] := (by decide +kernel : ∀ t : Fin grid0.N, _)
theorem at2 : ∀ t : Fin cfg0.N, win0_2.index t = ![t.val, 0] := (by decide +kernel : ∀ t : Fin grid0.N, _)
theorem at3 : ∀ t : Fin cfg0.N, win0_3.index t = ![t.val, 0] := (by decide +kernel : ∀ t : Fin grid0.N, _)
theorem at4 : ∀ t : Fin cfg0.N, win0_4.index t = ![t.val / 32, 0, 0] := (by decide +kernel : ∀ t : Fin grid0.N, _)
theorem at5 : ∀ t : Fin cfg0.N, win0_5.index t = ![0, 0] := (by decide +kernel : ∀ t : Fin grid0.N, _)
theorem at6 : ∀ t : Fin cfg0.N, win0_6.index t = ![0, 0] := (by decide +kernel : ∀ t : Fin grid0.N, _)
theorem at7 : ∀ t : Fin cfg0.N, win0_7.index t = ![0, 0] := (by decide +kernel : ∀ t : Fin grid0.N, _)
theorem at8 : ∀ t : Fin cfg0.N, win0_8.index t = ![0, 0] := (by decide +kernel : ∀ t : Fin grid0.N, _)
theorem at9 : ∀ t : Fin cfg0.N, win0_9.index t = ![t.val, 0] := (by decide +kernel : ∀ t : Fin grid0.N, _)

/-- The array row of row `r` of grid point `t`'s blocks. -/
def rowAt (t : Fin cfg0.N) (r : Fin 128) : Fin 16384 :=
  ⟨128 * t.val + r.val, by have := t.isLt; have := points; omega⟩

theorem blk0 (t : Fin cfg0.N) (k : Fin 8) (r : Fin 128) (q : Fin 2048) : iblk m c 0 t (ix3 k r q)
    = taken (m ((c : Thread nD τ).loc main_arg0)) (m ((c : Thread nD τ).loc main_arg1)) (ix3 k (rowAt t r) q) := by
  rw [← host_rows m c]
  unfold rowAt
  blk_ext [iblk, at0]

theorem blk1 (t : Fin cfg0.N) (r : Fin 128) (k : Fin 2048) : iblk m c 1 t (ix2 r k) = m ((c : Thread nD τ).loc main_arg2) (ix2 (rowAt t r) k) := by
  rw [← V_main_arg2 m c]
  unfold rowAt
  blk_ext [iblk, at1]

theorem blk2 (t : Fin cfg0.N) (r : Fin 128) (k : Fin 2048) : iblk m c 2 t (ix2 r k) = m ((c : Thread nD τ).loc main_arg3) (ix2 (rowAt t r) k) := by
  rw [← V_main_arg3 m c]
  unfold rowAt
  blk_ext [iblk, at2]

theorem blk3 (t : Fin cfg0.N) (r : Fin 128) (k : Fin 8) : iblk m c 3 t (ix2 r k) = m ((c : Thread nD τ).loc main_arg4) (ix2 (rowAt t r) k) := by
  rw [← V_main_arg4 m c]
  unfold rowAt
  blk_ext [iblk, at3]

theorem blk4 (t : Fin cfg0.N) (a : Fin 6) (k : Fin 2048) :
    iblk m c 4 t (ix3 0 a k) = m ((c : Thread nD τ).loc main_arg5) (ix3 ⟨t.val / 32, by have := t.isLt; have := points; omega⟩ a k) := by
  rw [← V_main_arg5 m c]
  blk_ext [iblk, at4]

theorem blk5 (t : Fin cfg0.N) (k : Fin 2048) : iblk m c 5 t (ix2 0 k) = m ((c : Thread nD τ).loc main_arg6) (ix1 k) := by
  rw [← host_g m c]
  blk_ext [iblk, at5]

theorem blk6 (t : Fin cfg0.N) (k : Fin 2048) (f : Fin 512) : iblk m c 6 t (ix2 k f) = m ((c : Thread nD τ).loc main_arg7) (ix2 k f) := by
  rw [← host_A m c]
  blk_ext [iblk, at6]

theorem blk7 (t : Fin cfg0.N) (k : Fin 2048) (f : Fin 512) : iblk m c 7 t (ix2 k f) = m ((c : Thread nD τ).loc main_arg8) (ix2 k f) := by
  rw [← host_U m c]
  blk_ext [iblk, at7]

theorem blk8 (t : Fin cfg0.N) (f : Fin 512) (q : Fin 2048) : iblk m c 8 t (ix2 f q) = m ((c : Thread nD τ).loc main_arg9) (ix2 f q) := by
  rw [← host_D m c]
  blk_ext [iblk, at8]

/-- One of a token's eight expert rows, as the body loads them, -/
theorem row_ld (x : Vec Ideal S8x128x2048 .f32) (a : Fin 8)
    (h : ∀ j, (![a.val, 0, 0] : Fin 3 → ℕ) j + (![1, 128, 2048] : Fin 3 → ℕ) j ≤ S8x128x2048.size j) (r : Fin 128) (q : Fin 2048) :
    View.ld x (Rect.unit ![a.val, 0, 0] ![1, 128, 2048] h) (ix3 0 r q) = x (ix3 a r q) := by
  refine congrArg x (funext fun j => ?_)
  fin_cases j
  · exact Fin.ext (by show a.val + 1 * 0 = a.val; omega)
  · exact Fin.ext (by show 0 + 1 * r.val = r.val; omega)
  · exact Fin.ext (by show 0 + 1 * q.val = q.val; omega)

/-- its weight, -/
theorem weight_ld (x : Vec Ideal S128x8 .f32) (a : Fin 8)
    (h : ∀ j, (![0, a.val] : Fin 2 → ℕ) j + (![128, 1] : Fin 2 → ℕ) j ≤ S128x8.size j) (r : Fin 128) :
    View.ld x (Rect.unit ![0, a.val] ![128, 1] h) (ix2 r 0) = x (ix2 r a) := by
  refine congrArg x (funext fun j => ?_)
  fin_cases j
  · exact Fin.ext (by show 0 + 1 * r.val = r.val; omega)
  · exact Fin.ext (by show a.val + 1 * 0 = a.val; omega)

/-- and the gate's row of the modulation's block. -/
theorem gate_ld (x : Vec Ideal S1x6x2048 .f32) (k : Fin 2048) : View.ld x r0_19 (ix3 0 0 k) = x (ix3 0 5 k) := by
  refine congrArg x (funext fun j => ?_)
  fin_cases j
  · rfl
  · rfl
  · exact Fin.ext (by show 0 + 1 * k.val = k.val; omega)

/-- The weighted sum and the shared expert's rows that grid point `t` computes. -/
def totalAt (t : Fin cfg0.N) : FVec Ideal S128x2048 .f32 :=
  k0_pay3 (k0_pay2 (iblk m c 2 t) (iblk m c 6 t) (iblk m c 7 t) (iblk m c 8 t)
      (View.ld (iblk m c 0 t) r0_3) (View.ld (iblk m c 3 t) r0_4) (View.ld (iblk m c 0 t) r0_5) (View.ld (iblk m c 3 t) r0_6)
      (View.ld (iblk m c 0 t) r0_7) (View.ld (iblk m c 3 t) r0_8))
    (View.ld (iblk m c 0 t) r0_9) (View.ld (iblk m c 3 t) r0_10) (View.ld (iblk m c 0 t) r0_11) (View.ld (iblk m c 3 t) r0_12)
    (View.ld (iblk m c 0 t) r0_13) (View.ld (iblk m c 3 t) r0_14) (View.ld (iblk m c 0 t) r0_15) (View.ld (iblk m c 3 t) r0_16)
    (View.ld (iblk m c 0 t) r0_17) (View.ld (iblk m c 3 t) r0_18)

/-- The kernel's weighted sum at row `R`, from the arguments. -/
def totalOf (R : Fin 16384) (q : Fin 2048) : EReal :=
  total (fun k q => taken (m ((c : Thread nD τ).loc main_arg0)) (m ((c : Thread nD τ).loc main_arg1)) (ix3 k R q))
    (fun k => m ((c : Thread nD τ).loc main_arg4) (ix2 R k)) (fun k => m ((c : Thread nD τ).loc main_arg3) (ix2 R k))
    (fun k f => m ((c : Thread nD τ).loc main_arg7) (ix2 k f)) (fun k f => m ((c : Thread nD τ).loc main_arg8) (ix2 k f))
    (fun f q => m ((c : Thread nD τ).loc main_arg9) (ix2 f q)) q

/-- One of the eight products, as the body forms it. -/
theorem product_ld (t : Fin cfg0.N) (a : Fin 8)
    (h : ∀ j, (![a.val, 0, 0] : Fin 3 → ℕ) j + (![1, 128, 2048] : Fin 3 → ℕ) j ≤ S8x128x2048.size j)
    (h' : ∀ j, (![0, a.val] : Fin 2 → ℕ) j + (![128, 1] : Fin 2 → ℕ) j ≤ S128x8.size j) (r : Fin 128) (q : Fin 2048) :
    times (View.ld (iblk m c 0 t) (Rect.unit ![a.val, 0, 0] ![1, 128, 2048] h) (ix3 0 r q))
        (View.ld (iblk m c 3 t) (Rect.unit ![0, a.val] ![128, 1] h') (ix2 r 0))
      = times (taken (m ((c : Thread nD τ).loc main_arg0)) (m ((c : Thread nD τ).loc main_arg1)) (ix3 a (rowAt t r) q))
        (m ((c : Thread nD τ).loc main_arg4) (ix2 (rowAt t r) a)) :=
  congrArg₂ times ((row_ld _ a h r q).trans (blk0 m c t a r q)) ((weight_ld _ a h' r).trans (blk3 m c t r a))

theorem totalAt_apply (t : Fin cfg0.N) (r : Fin 128) (q : Fin 2048) : totalAt m c t (ix2 r q) = totalOf m c (rowAt t r) q := by
  unfold totalAt
  rw [pay3_apply, pay2_apply]
  unfold totalOf
  rw [← total_eq]
  simp only [blk2, blk6, blk7, blk8]
  have s : ∀ a b d e : EReal, a = b → d = e → a + d = b + e := fun a b d e h h' => congrArg₂ (· + ·) h h'
  refine s _ _ _ _ (s _ _ _ _ (s _ _ _ _ (s _ _ _ _ (s _ _ _ _ (s _ _ _ _ (s _ _ _ _ (s _ _ _ _ rfl ?_) ?_) ?_) ?_) ?_) ?_) ?_) ?_
  · exact product_ld m c t 0 inb_S8x128x2048_S1x128x2048_0_0_0 inb_S128x8_S128x1_0_0 r q
  · exact product_ld m c t 1 inb_S8x128x2048_S1x128x2048_1_0_0 inb_S128x8_S128x1_0_1 r q
  · exact product_ld m c t 2 inb_S8x128x2048_S1x128x2048_2_0_0 inb_S128x8_S128x1_0_2 r q
  · exact product_ld m c t 3 inb_S8x128x2048_S1x128x2048_3_0_0 inb_S128x8_S128x1_0_3 r q
  · exact product_ld m c t 4 inb_S8x128x2048_S1x128x2048_4_0_0 inb_S128x8_S128x1_0_4 r q
  · exact product_ld m c t 5 inb_S8x128x2048_S1x128x2048_5_0_0 inb_S128x8_S128x1_0_5 r q
  · exact product_ld m c t 6 inb_S8x128x2048_S1x128x2048_6_0_0 inb_S128x8_S128x1_0_6 r q
  · exact product_ld m c t 7 inb_S8x128x2048_S1x128x2048_7_0_0 inb_S128x8_S128x1_0_7 r q

/-- The kernel's output at row `R`, from the arguments. -/
def outOf (R : Fin 16384) (q : Fin 2048) : EReal :=
  normed (fun k => gated (m ((c : Thread nD τ).loc main_arg2) (ix2 R k))
      (m ((c : Thread nD τ).loc main_arg5) (ix3 ⟨R.val / 4096, by omega⟩ 5 k)) (totalOf m c R k))
    (fun k => m ((c : Thread nD τ).loc main_arg6) (ix1 k)) q

theorem seq_eq (t : Fin cfg0.N) (r : Fin 128) : (⟨(rowAt t r).val / 4096, by omega⟩ : Fin 4)
    = ⟨t.val / 32, by have := t.isLt; have := points; omega⟩ :=
  Fin.ext (by show (128 * t.val + r.val) / 4096 = t.val / 32; omega)

/-- What grid point `t` writes back, at an entry. -/
theorem block (t : Fin cfg0.N) (r : Fin 128) (q : Fin 2048) :
    out0_9 (iblk m c 0 t) (iblk m c 1 t) (iblk m c 2 t) (iblk m c 3 t) (iblk m c 4 t) (iblk m c 5 t) (iblk m c 6 t) (iblk m c 7 t) (iblk m c 8 t) (ix2 r q)
      = outOf m c (rowAt t r) q := by
  unfold out0_9
  frame_out
  refine (pay1_apply (totalAt m c t) (iblk m c 1 t) (View.ld (iblk m c 4 t) r0_19) (iblk m c 5 t) r q).trans ?_
  unfold outOf
  simp only [totalAt_apply, blk1, blk5, seq_eq]
  exact congrArg (fun f => normed f _ q) (funext fun k => congrArg₂ (· + ·) rfl (congrArg₂ (· * ·) ((gate_ld _ k).trans (blk4 m c t 5 k)) rfl))

/-- The kernel's output array after the run. -/
theorem array : (dats m 0 c).arrAt 9 cfg0.N = fun i : S16384x2048.Idx => outOf m c (i 0) (i 1) := by
  refine (dats m 0 c).arrAt_eq_of_covers 9 _ (by decide +kernel) fun t hf y => ?_
  blk_simp
  rw [after0_9]
  idx_vars y
  rw [block]
  have e0 : (win0_9.blk t).view.emb (ix2 y0 y1) 0 = rowAt t y0 := by
    refine Fin.ext ?_
    show _ = 128 * t.val + y0.val
    blk_simp [at9]
    try omega
  have e1 : (win0_9.blk t).view.emb (ix2 y0 y1) 1 = (y1 : Fin 2048) := by
    refine Fin.ext ?_
    show _ = y1.val
    blk_simp [at9]
    try omega
  rw [e0, e1]

end Cert.Combine

end
-- ==== Proof.CombineReference.lean ====
module

public import proofs.«01_k».proof.Proof.Gen.Reference5Ideal.Run
public import proofs.«01_k».proof.Proof.CombineSpec

@[expose] public section

set_option maxRecDepth 8192

/-!
The combine call's reference at an entry.
-/

noncomputable section

namespace Cert.Combine.Ref

open Idealize.ShloMosaic Cert.Reference5Ideal Cert.Reference5Ideal.Gen Cert.Reference5Ideal.Value
open Cert.Experts (expertRow)
open Cert.Combine

variable (m : (ℓ : Loc nD τ sig) → Buf (Elt Ideal) ℓ) (c : Dev nD)

/-- The expert rows of every token, taken through the table. -/
def taken (dest : (⟨S8x16384, .i32⟩ : BufTy).Contents (Elt Ideal)) (ys : FVec Ideal S196608x2048 .f32) : FVec Ideal S8x16384x2048 .f32 :=
  Host.gather gather_S196608x2048_S8x16384x1_S8x16384x2048_2_0_n_n_0_2_12048 ys
    (broadcastInDim S8x16384x1 ![0, 1] bcast_S8x16384_S8x16384x1_0_1
      (select (cmpi .slt dest (broadcastInDim S8x16384 ![] bcast_S_S8x16384 (constantI S_ 32 0#32)))
        (addi dest (broadcastInDim S8x16384 ![] bcast_S_S8x16384 (constantI S_ 32 196608#32))) dest))

/-- The weighted sum of the rows `X`. -/
def routed (X : FVec Ideal S8x16384x2048 .f32) (w : FVec Ideal S16384x8 .f32) : FVec Ideal S16384x2048 .f32 :=
  Host.reduceAdd (mulf X (broadcastInDim S8x16384x2048 ![0, 1, 2] bcast_S8x16384x1_S8x16384x2048_0_1_2 (broadcastInDim S8x16384x1 ![0, 1] bcast_S8x16384_S8x16384x1_0_1 (transpose S8x16384 [1, 0] w transposes_S16384x8_S8x16384_1_0)))) (constant S_ .f32 0x00000000#32) reducesTo_S8x16384x2048_S16384x2048_d0 h_S_

/-- A projection of the rows to the shared expert's channels. -/
def proj (X : FVec Ideal S16384x2048 .f32) (W : FVec Ideal S2048x512 .f32) : FVec Ideal S16384x512 .f32 :=
  Host.dotGeneral dot_S16384x2048_S2048x512_S16384x512_1_0_0_1_n_n none X W

/-- The shared expert's channels. -/
def channels (A U : FVec Ideal S16384x512 .f32) : FVec Ideal S16384x512 .f32 :=
  mulf (mulf A (Host.divf (broadcastInDim S16384x512 ![] bcast_S_S16384x512 (constant S_ .f32 0x3F800000#32)) (addf (broadcastInDim S16384x512 ![] bcast_S_S16384x512 (constant S_ .f32 0x3F800000#32)) (Host.exp (Host.negf A))))) U

/-- The shared expert's rows. -/
def shared (H : FVec Ideal S16384x512 .f32) (D : FVec Ideal S512x2048 .f32) : FVec Ideal S16384x2048 .f32 :=
  Host.dotGeneral dot_S16384x512_S512x2048_S16384x2048_1_0_0_1_n_n none H D

/-- The reference's sum of routed and shared rows. -/
def sums : FVec Ideal S16384x2048 .f32 :=
  addf (routed (taken (m ((c.tc : Thread nD τ).loc main_arg0)) (m ((c.tc : Thread nD τ).loc main_arg1))) (m ((c.tc : Thread nD τ).loc main_arg4)))
    (shared (channels (proj (m ((c.tc : Thread nD τ).loc main_arg3)) (m ((c.tc : Thread nD τ).loc main_arg7))) (proj (m ((c.tc : Thread nD τ).loc main_arg3)) (m ((c.tc : Thread nD τ).loc main_arg8)))) (m ((c.tc : Thread nD τ).loc main_arg9)))

/-- The rows with the gated sum added, sequence by sequence. -/
def rows (T : FVec Ideal S16384x2048 .f32) : FVec Ideal S4x4096x2048 .f32 :=
  addf (shapeCast S4x4096x2048 (m ((c.tc : Thread nD τ).loc main_arg2)) shapeCasts_S16384x2048_S4x4096x2048) (mulf (broadcastInDim S4x4096x2048 ![0, 1, 2] bcast_S4x1x2048_S4x4096x2048_0_1_2 (extractStridedSlice S4x1x2048 ![0, 5, 0] (m ((c.tc : Thread nD τ).loc main_arg5)) slices_S4x6x2048_S4x1x2048_0_5_0)) (shapeCast S4x4096x2048 T shapeCasts_S16384x2048_S4x4096x2048))

/-- The final norm of the rows `X`. -/
def final (X : FVec Ideal S4x4096x2048 .f32) : FVec Ideal S16384x2048 .f32 :=
  shapeCast S16384x2048 (mulf (mulf X (broadcastInDim S4x4096x2048 ![0, 1, 2] bcast_S4x4096x1_S4x4096x2048_0_1_2 (Host.rsqrt (addf (Host.divf (broadcastInDim S4x4096x1 ![0, 1] bcast_S4x4096_S4x4096x1_0_1 (Host.reduceAdd (mulf X X) (constant S_ .f32 0x00000000#32) reducesTo_S4x4096x2048_S4x4096_d2 h_S_)) (broadcastInDim S4x4096x1 ![] bcast_S_S4x4096x1 (constant S_ .f32 0x45000000#32))) (broadcastInDim S4x4096x1 ![] bcast_S_S4x4096x1 (constant S_ .f32 0x358637BD#32)))))) (broadcastInDim S4x4096x2048 ![0, 1, 2] bcast_S1x1x2048_S4x4096x2048_0_1_2 (broadcastInDim S1x1x2048 ![2] bcast_S2048_S1x1x2048_2 (m ((c.tc : Thread nD τ).loc main_arg6))))) shapeCasts_S4x4096x2048_S16384x2048

theorem res_eq : res_main_v37 m c = final m c (rows m c (sums m c)) := by
  unfold res_main_v37
  rfl

theorem routed_apply (X : FVec Ideal S8x16384x2048 .f32) (w : FVec Ideal S16384x8 .f32) (r : Fin 16384) (q : Fin 2048) :
    routed X w (ix2 r q) = ∑ k : Fin 8, X (ix3 k r q) * w (ix2 r k) := by
  pointwise [routed]

theorem proj_apply (X : FVec Ideal S16384x2048 .f32) (W : FVec Ideal S2048x512 .f32) (r : Fin 16384) (f : Fin 512) :
    proj X W (ix2 r f) = ∑ k : Fin 2048, X (ix2 r k) * W (ix2 k f) := by
  pointwise [proj]

theorem channels_apply (A U : FVec Ideal S16384x512 .f32) (r : Fin 16384) (f : Fin 512) :
    channels A U (ix2 r f) = A (ix2 r f) * Ideal.logistic (A (ix2 r f)) * U (ix2 r f) := by
  pointwise [channels]
  rfl

theorem shared_apply (H : FVec Ideal S16384x512 .f32) (D : FVec Ideal S512x2048 .f32) (r : Fin 16384) (q : Fin 2048) :
    shared H D (ix2 r q) = ∑ f : Fin 512, H (ix2 r f) * D (ix2 f q) := by
  pointwise [shared]

/-- The shared expert's row, from its input and its weights. -/
theorem expert_apply (X : FVec Ideal S16384x2048 .f32) (A U : FVec Ideal S2048x512 .f32) (D : FVec Ideal S512x2048 .f32) (r : Fin 16384) (q : Fin 2048) :
    shared (channels (proj X A) (proj X U)) D (ix2 r q)
      = expertRow (fun k => X (ix2 r k)) (fun k f => A (ix2 k f)) (fun k f => U (ix2 k f)) (fun f q => D (ix2 f q)) q := by
  rw [shared_apply]
  simp only [channels_apply, proj_apply]
  rfl

/-- The reference's sum at row `r`, from the arguments. -/
def refTotal (r : Fin 16384) (q : Fin 2048) : EReal :=
  total (fun k q => taken (m ((c.tc : Thread nD τ).loc main_arg0)) (m ((c.tc : Thread nD τ).loc main_arg1)) (ix3 k r q))
    (fun k => m ((c.tc : Thread nD τ).loc main_arg4) (ix2 r k)) (fun k => m ((c.tc : Thread nD τ).loc main_arg3) (ix2 r k))
    (fun k f => m ((c.tc : Thread nD τ).loc main_arg7) (ix2 k f)) (fun k f => m ((c.tc : Thread nD τ).loc main_arg8) (ix2 k f))
    (fun f q => m ((c.tc : Thread nD τ).loc main_arg9) (ix2 f q)) q

theorem sums_apply (r : Fin 16384) (q : Fin 2048) : sums m c (ix2 r q) = refTotal m c r q :=
  congrArg₂ (fun a b : EReal => a + b) (routed_apply _ _ r q) (expert_apply _ _ _ _ r q)

/-- The rows as sequences, at an entry. -/
theorem rows_at (X : FVec Ideal S16384x2048 .f32) (b : Fin 4) (s : Fin 4096) (q : Fin 2048) :
    shapeCast S4x4096x2048 X shapeCasts_S16384x2048_S4x4096x2048 (ix3 b s q) = X (ix2 ⟨b.val * 4096 + s.val, by omega⟩ q) := by
  pointwise []

theorem gate_at (X : FVec Ideal S4x6x2048 .f32) (b : Fin 4) (s : Fin 4096) (q : Fin 2048) :
    broadcastInDim S4x4096x2048 ![0, 1, 2] bcast_S4x1x2048_S4x4096x2048_0_1_2 (extractStridedSlice S4x1x2048 ![0, 5, 0] X slices_S4x6x2048_S4x1x2048_0_5_0) (ix3 b s q)
      = X (ix3 b 5 q) := by
  pointwise []

theorem rows_apply (T : FVec Ideal S16384x2048 .f32) (b : Fin 4) (s : Fin 4096) (r : Fin 16384) (h : b.val * 4096 + s.val = r.val) (q : Fin 2048) :
    rows m c T (ix3 b s q) = gated (m ((c.tc : Thread nD τ).loc main_arg2) (ix2 r q)) (m ((c.tc : Thread nD τ).loc main_arg5) (ix3 b 5 q)) (T (ix2 r q)) := by
  have e : (⟨b.val * 4096 + s.val, by omega⟩ : Fin 16384) = r := Fin.ext h
  rw [← e]
  exact congrArg₂ (· + ·) (rows_at _ b s q) (congrArg₂ (· * ·) (gate_at _ b s q) (rows_at _ b s q))

theorem final_apply (X : FVec Ideal S4x4096x2048 .f32) (r : Fin 16384) (q : Fin 2048) : final m c X (ix2 r q)
    = normed (fun k => X (ix3 ⟨r.val / 4096, by omega⟩ ⟨r.val % 4096, by omega⟩ k)) (fun k => m ((c.tc : Thread nD τ).loc main_arg6) (ix1 k)) q := by
  pointwise [final]
  rfl

/-- The reference's result at row `r`, from the arguments. -/
def refOut (r : Fin 16384) (q : Fin 2048) : EReal :=
  normed (fun k => gated (m ((c.tc : Thread nD τ).loc main_arg2) (ix2 r k))
      (m ((c.tc : Thread nD τ).loc main_arg5) (ix3 ⟨r.val / 4096, by omega⟩ 5 k)) (refTotal m c r k))
    (fun k => m ((c.tc : Thread nD τ).loc main_arg6) (ix1 k)) q

theorem reference_apply (r : Fin 16384) (q : Fin 2048) : res_main_v37 m c (ix2 r q) = refOut m c r q := by
  rw [res_eq, final_apply]
  refine congrArg (fun f => normed f _ q) (funext fun k => ?_)
  rw [rows_apply m c _ _ _ r (by show r.val / 4096 * 4096 + r.val % 4096 = r.val; omega), sums_apply]

end Cert.Combine.Ref

end
-- ==== Proof.CombineClaims.lean ====
module

public import proofs.«01_k».proof.Defs
public import proofs.«01_k».proof.Proof.Gen.Kernel5.Frame
public import proofs.«01_k».proof.Proof.CombineValue
public import proofs.«01_k».proof.Proof.CombineReference

/-!
# The claims of the combine call
-/

@[expose] public section

set_option maxRecDepth 16384

noncomputable section

namespace Cert.Combine

open Idealize.ShloMosaic Idealize.SL.Sem

theorem kernel_quiescent : quiescent_Kernel5 := fun m g _ => Cert.Kernel5.Gen.frame m g

theorem ideal_quiescent : quiescent_Kernel5Ideal := fun m g _ => Cert.Kernel5Ideal.Gen.frame m g

theorem reference_quiescent : quiescent_Reference5Ideal := fun m g _ =>
  (θ_run _ _ _).mono (fun r h => ⟨fun c => (h c).2, sem_eq_zero_of_no_sems (by decide) r.2⟩) (Cert.Reference5Ideal.Value.run m g)

theorem combine_algebraic : algebraic_Kernel5Ideal_Reference5Ideal := fun m g m' g' _ ha => by
  refine ⟨fun c => (Cert.Kernel5Ideal.Gen.dats m 0 c).arrAt 9 Cert.Kernel5Ideal.cfg0.N, ?_, ?_⟩
  · exact Cert.Kernel5Ideal.Value.run_blocks m g
  · refine (θ_run _ _ _).mono (fun r h c => ⟨?_, (h c).2⟩) (Cert.Reference5Ideal.Value.run m' g')
    have hc : c = 0 := Subsingleton.elim _ _
    subst hc
    obtain ⟨a0, a1, a2, a3, a4, a5, a6, a7, a8, a9⟩ := ha 0
    refine (h 0).1.trans (Eq.trans ?_ (array m 0).symm)
    funext i
    have hi : i = ix2 (i 0) (i 1) := funext fun a => by fin_cases a <;> rfl
    refine (congrArg _ hi).trans ((Ref.reference_apply m' 0 (i 0) (i 1)).trans ?_)
    unfold Ref.refOut Ref.refTotal
    rw [a0, a1, a2, a3, a4, a5, a6, a7, a8, a9]
    rfl

end Cert.Combine

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_in_range
public import proofs.«01_k».proof.Proof.Gen.On_rows_used
public import proofs.«01_k».proof.Proof.Gen.On_finite_logits
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Reference4Ideal
public import proofs.«01_k».proof.Proof.Gen.Reference4Ideal.Run
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Value
public import proofs.«01_k».proof.Proof.Gen.Reference5Ideal
public import proofs.«01_k».proof.Proof.Gen.Reference5Ideal.Run
public import proofs.«01_k».proof.Proof.Claims
public import proofs.«01_k».proof.Proof.InprojClaims
public import proofs.«01_k».proof.Proof.OutprojClaims
public import proofs.«01_k».proof.Proof.AdalnClaims
public import proofs.«01_k».proof.Proof.CombineClaims
public import Idealize.ShloMosaic.Adequacy
public import Idealize.ShloMosaic.Init

/-!
# The certificate
-/

@[expose] public section

noncomputable section

theorem Cert.Proof.claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Pre_in_range.Gen.facts, Cert.On_rows_used.Gen.facts, Cert.On_finite_logits.Gen.facts,
    Cert.Experts.kernel_quiescent, Cert.Experts.ideal_quiescent, Cert.Experts.reference_quiescent,
    Cert.Inproj.kernel_quiescent, Cert.Inproj.ideal_quiescent, Cert.Inproj.reference_quiescent,
    Cert.Outproj.kernel_quiescent, Cert.Outproj.ideal_quiescent, Cert.Outproj.reference_quiescent,
    Cert.Adaln.kernel_quiescent, Cert.Adaln.ideal_quiescent, Cert.Adaln.reference_quiescent,
    Cert.Combine.kernel_quiescent, Cert.Combine.ideal_quiescent, Cert.Combine.reference_quiescent,
    trivial, Cert.Experts.experts_algebraic, Cert.Inproj.kernel_preserved, Cert.Inproj.inproj_algebraic,
    trivial, Cert.Outproj.outproj_algebraic, trivial, Cert.Adaln.adaln_algebraic, trivial, Cert.Combine.combine_algebraic⟩

end
